-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Half (m : (ℓ : Loc Cert.Half.nD Cert.Half.τ Cert.Half.sig) → Buf (Elt Bits) ℓ) : Prop :=
  True

def Pre_HalfIdeal (m : (ℓ : Loc Cert.HalfIdeal.nD Cert.HalfIdeal.τ Cert.HalfIdeal.sig) → Buf (Elt Ideal) ℓ) : Prop :=
  True

def Pre_HalfRefIdeal (m : (ℓ : Loc Cert.HalfRefIdeal.nD Cert.HalfRefIdeal.τ Cert.HalfRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite_rows [hPre_finite_rows : Cert.Pre_finite_rows.Facts] (m : (ℓ : Loc Cert.ProjIdeal.nD Cert.ProjIdeal.τ Cert.ProjIdeal.sig) → Buf (Elt Ideal) ℓ) : Prop :=
  ∀ c : Dev Cert.ProjIdeal.nD,
    (Cert.Pre_finite_rows.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))) = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_finite_rows [hPre_finite_rows : Cert.Pre_finite_rows.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_finite_rows.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4))) = (fun _ => 1#1)

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeIdeal_finite_inputs [hPre_finite_inputs : Cert.Pre_finite_inputs.Facts] (m : (ℓ : Loc Cert.RopeIdeal.nD Cert.RopeIdeal.τ Cert.RopeIdeal.sig) → Buf (Elt Ideal) ℓ) : Prop :=
  ∀ c : Dev Cert.RopeIdeal.nD,
    (Cert.Pre_finite_inputs.fn (F := Ideal) (m ((c.tc : Thread Cert.RopeIdeal.nD Cert.RopeIdeal.τ).loc Cert.RopeIdeal.main_arg0)) (m ((c.tc : Thread Cert.RopeIdeal.nD Cert.RopeIdeal.τ).loc Cert.RopeIdeal.main_arg1)) (m ((c.tc : Thread Cert.RopeIdeal.nD Cert.RopeIdeal.τ).loc Cert.RopeIdeal.main_arg2)) (m ((c.tc : Thread Cert.RopeIdeal.nD Cert.RopeIdeal.τ).loc Cert.RopeIdeal.main_arg3)) (m ((c.tc : Thread Cert.RopeIdeal.nD Cert.RopeIdeal.τ).loc Cert.RopeIdeal.main_arg4)) (m ((c.tc : Thread Cert.RopeIdeal.nD Cert.RopeIdeal.τ).loc Cert.RopeIdeal.main_arg5)) (m ((c.tc : Thread Cert.RopeIdeal.nD Cert.RopeIdeal.τ).loc Cert.RopeIdeal.main_arg6))) = (fun _ => 1#1)

def Pre_RopeRefIdeal (m : (ℓ : Loc Cert.RopeRefIdeal.nD Cert.RopeRefIdeal.τ Cert.RopeRefIdeal.sig) → Buf (Elt Ideal) ℓ) : Prop :=
  True

def Pre_RopeRefIdeal_finite_inputs [hPre_finite_inputs : Cert.Pre_finite_inputs.Facts] (m : (ℓ : Loc Cert.RopeRefIdeal.nD Cert.RopeRefIdeal.τ Cert.RopeRefIdeal.sig) → Buf (Elt Ideal) ℓ) : Prop :=
  ∀ c : Dev Cert.RopeRefIdeal.nD,
    (Cert.Pre_finite_inputs.fn (F := Ideal) (m ((c.tc : Thread Cert.RopeRefIdeal.nD Cert.RopeRefIdeal.τ).loc Cert.RopeRefIdeal.main_arg0)) (m ((c.tc : Thread Cert.RopeRefIdeal.nD Cert.RopeRefIdeal.τ).loc Cert.RopeRefIdeal.main_arg1)) (m ((c.tc : Thread Cert.RopeRefIdeal.nD Cert.RopeRefIdeal.τ).loc Cert.RopeRefIdeal.main_arg2)) (m ((c.tc : Thread Cert.RopeRefIdeal.nD Cert.RopeRefIdeal.τ).loc Cert.RopeRefIdeal.main_arg3)) (m ((c.tc : Thread Cert.RopeRefIdeal.nD Cert.RopeRefIdeal.τ).loc Cert.RopeRefIdeal.main_arg4)) (m ((c.tc : Thread Cert.RopeRefIdeal.nD Cert.RopeRefIdeal.τ).loc Cert.RopeRefIdeal.main_arg5)) (m ((c.tc : Thread Cert.RopeRefIdeal.nD Cert.RopeRefIdeal.τ).loc Cert.RopeRefIdeal.main_arg6))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_Half [hHalf : Cert.Half.Facts] : Prop :=
  ∀ (m : (ℓ : Loc Cert.Half.nD Cert.Half.τ Cert.Half.sig) → Buf (Elt Bits) ℓ) (g : Dev Cert.Half.nD → PrngReg), Pre_Half m →
    θ_run (Cert.Half.defs (F := Bits)) (onTc (τ := Cert.Half.τ) (Cert.Half.main (F := Bits))) ⟨m, fun _ => 0, g⟩ (fun r => (∀ c : Dev Cert.Half.nD,
      r.2.mem ((c.tc : Thread Cert.Half.nD Cert.Half.τ).loc Cert.Half.main_arg0) = m ((c.tc : Thread Cert.Half.nD Cert.Half.τ).loc Cert.Half.main_arg0)
      ∧ r.2.mem ((c.tc : Thread Cert.Half.nD Cert.Half.τ).loc Cert.Half.main_arg1) = m ((c.tc : Thread Cert.Half.nD Cert.Half.τ).loc Cert.Half.main_arg1)
      ∧ r.2.mem ((c.tc : Thread Cert.Half.nD Cert.Half.τ).loc Cert.Half.main_arg2) = m ((c.tc : Thread Cert.Half.nD Cert.Half.τ).loc Cert.Half.main_arg2)
      ∧ r.2.mem ((c.tc : Thread Cert.Half.nD Cert.Half.τ).loc Cert.Half.main_arg3) = m ((c.tc : Thread Cert.Half.nD Cert.Half.τ).loc Cert.Half.main_arg3)
      ∧ r.2.mem ((c.tc : Thread Cert.Half.nD Cert.Half.τ).loc Cert.Half.main_arg4) = m ((c.tc : Thread Cert.Half.nD Cert.Half.τ).loc Cert.Half.main_arg4)
      ∧ r.2.mem ((c.tc : Thread Cert.Half.nD Cert.Half.τ).loc Cert.Half.main_arg5) = m ((c.tc : Thread Cert.Half.nD Cert.Half.τ).loc Cert.Half.main_arg5))
      ∧ r.2.sem = fun _ => 0)

def quiescent_HalfIdeal [hHalfIdeal : Cert.HalfIdeal.Facts] : Prop :=
  ∀ (m : (ℓ : Loc Cert.HalfIdeal.nD Cert.HalfIdeal.τ Cert.HalfIdeal.sig) → Buf (Elt Ideal) ℓ) (g : Dev Cert.HalfIdeal.nD → PrngReg), Pre_HalfIdeal m →
    θ_run (Cert.HalfIdeal.defs (F := Ideal)) (onTc (τ := Cert.HalfIdeal.τ) (Cert.HalfIdeal.main (F := Ideal))) ⟨m, fun _ => 0, g⟩ (fun r => (∀ c : Dev Cert.HalfIdeal.nD,
      r.2.mem ((c.tc : Thread Cert.HalfIdeal.nD Cert.HalfIdeal.τ).loc Cert.HalfIdeal.main_arg0) = m ((c.tc : Thread Cert.HalfIdeal.nD Cert.HalfIdeal.τ).loc Cert.HalfIdeal.main_arg0)
      ∧ r.2.mem ((c.tc : Thread Cert.HalfIdeal.nD Cert.HalfIdeal.τ).loc Cert.HalfIdeal.main_arg1) = m ((c.tc : Thread Cert.HalfIdeal.nD Cert.HalfIdeal.τ).loc Cert.HalfIdeal.main_arg1)
      ∧ r.2.mem ((c.tc : Thread Cert.HalfIdeal.nD Cert.HalfIdeal.τ).loc Cert.HalfIdeal.main_arg2) = m ((c.tc : Thread Cert.HalfIdeal.nD Cert.HalfIdeal.τ).loc Cert.HalfIdeal.main_arg2)
      ∧ r.2.mem ((c.tc : Thread Cert.HalfIdeal.nD Cert.HalfIdeal.τ).loc Cert.HalfIdeal.main_arg3) = m ((c.tc : Thread Cert.HalfIdeal.nD Cert.HalfIdeal.τ).loc Cert.HalfIdeal.main_arg3)
      ∧ r.2.mem ((c.tc : Thread Cert.HalfIdeal.nD Cert.HalfIdeal.τ).loc Cert.HalfIdeal.main_arg4) = m ((c.tc : Thread Cert.HalfIdeal.nD Cert.HalfIdeal.τ).loc Cert.HalfIdeal.main_arg4)
      ∧ r.2.mem ((c.tc : Thread Cert.HalfIdeal.nD Cert.HalfIdeal.τ).loc Cert.HalfIdeal.main_arg5) = m ((c.tc : Thread Cert.HalfIdeal.nD Cert.HalfIdeal.τ).loc Cert.HalfIdeal.main_arg5))
      ∧ r.2.sem = fun _ => 0)

def quiescent_HalfRefIdeal [hHalfRefIdeal : Cert.HalfRefIdeal.Facts] : Prop :=
  ∀ (m : (ℓ : Loc Cert.HalfRefIdeal.nD Cert.HalfRefIdeal.τ Cert.HalfRefIdeal.sig) → Buf (Elt Ideal) ℓ) (g : Dev Cert.HalfRefIdeal.nD → PrngReg), Pre_HalfRefIdeal m →
    θ_run (Cert.HalfRefIdeal.defs (F := Ideal)) (onTc (τ := Cert.HalfRefIdeal.τ) (Cert.HalfRefIdeal.main (F := Ideal))) ⟨m, fun _ => 0, g⟩ (fun r => (∀ c : Dev Cert.HalfRefIdeal.nD,
      r.2.mem ((c.tc : Thread Cert.HalfRefIdeal.nD Cert.HalfRefIdeal.τ).loc Cert.HalfRefIdeal.main_arg0) = m ((c.tc : Thread Cert.HalfRefIdeal.nD Cert.HalfRefIdeal.τ).loc Cert.HalfRefIdeal.main_arg0)
      ∧ r.2.mem ((c.tc : Thread Cert.HalfRefIdeal.nD Cert.HalfRefIdeal.τ).loc Cert.HalfRefIdeal.main_arg1) = m ((c.tc : Thread Cert.HalfRefIdeal.nD Cert.HalfRefIdeal.τ).loc Cert.HalfRefIdeal.main_arg1)
      ∧ r.2.mem ((c.tc : Thread Cert.HalfRefIdeal.nD Cert.HalfRefIdeal.τ).loc Cert.HalfRefIdeal.main_arg2) = m ((c.tc : Thread Cert.HalfRefIdeal.nD Cert.HalfRefIdeal.τ).loc Cert.HalfRefIdeal.main_arg2)
      ∧ r.2.mem ((c.tc : Thread Cert.HalfRefIdeal.nD Cert.HalfRefIdeal.τ).loc Cert.HalfRefIdeal.main_arg3) = m ((c.tc : Thread Cert.HalfRefIdeal.nD Cert.HalfRefIdeal.τ).loc Cert.HalfRefIdeal.main_arg3)
      ∧ r.2.mem ((c.tc : Thread Cert.HalfRefIdeal.nD Cert.HalfRefIdeal.τ).loc Cert.HalfRefIdeal.main_arg4) = m ((c.tc : Thread Cert.HalfRefIdeal.nD Cert.HalfRefIdeal.τ).loc Cert.HalfRefIdeal.main_arg4)
      ∧ r.2.mem ((c.tc : Thread Cert.HalfRefIdeal.nD Cert.HalfRefIdeal.τ).loc Cert.HalfRefIdeal.main_arg5) = m ((c.tc : Thread Cert.HalfRefIdeal.nD Cert.HalfRefIdeal.τ).loc Cert.HalfRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjIdeal_pre_finite_rows [hProjIdeal : Cert.ProjIdeal.Facts] [hPre_finite_rows : Cert.Pre_finite_rows.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite_rows m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_ProjRefIdeal_pre_finite_rows [hProjRefIdeal : Cert.ProjRefIdeal.Facts] [hPre_finite_rows : Cert.Pre_finite_rows.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_finite_rows m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2)
      ∧ r.2.mem ((c.tc : Thread Cert.Rope.nD Cert.Rope.τ).loc Cert.Rope.main_arg3) = m ((c.tc : Thread Cert.Rope.nD Cert.Rope.τ).loc Cert.Rope.main_arg3)
      ∧ r.2.mem ((c.tc : Thread Cert.Rope.nD Cert.Rope.τ).loc Cert.Rope.main_arg4) = m ((c.tc : Thread Cert.Rope.nD Cert.Rope.τ).loc Cert.Rope.main_arg4)
      ∧ r.2.mem ((c.tc : Thread Cert.Rope.nD Cert.Rope.τ).loc Cert.Rope.main_arg5) = m ((c.tc : Thread Cert.Rope.nD Cert.Rope.τ).loc Cert.Rope.main_arg5)
      ∧ r.2.mem ((c.tc : Thread Cert.Rope.nD Cert.Rope.τ).loc Cert.Rope.main_arg6) = m ((c.tc : Thread Cert.Rope.nD Cert.Rope.τ).loc Cert.Rope.main_arg6))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
      ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3)
      ∧ r.2.mem ((c.tc : Thread Cert.RopeIdeal.nD Cert.RopeIdeal.τ).loc Cert.RopeIdeal.main_arg4) = m ((c.tc : Thread Cert.RopeIdeal.nD Cert.RopeIdeal.τ).loc Cert.RopeIdeal.main_arg4)
      ∧ r.2.mem ((c.tc : Thread Cert.RopeIdeal.nD Cert.RopeIdeal.τ).loc Cert.RopeIdeal.main_arg5) = m ((c.tc : Thread Cert.RopeIdeal.nD Cert.RopeIdeal.τ).loc Cert.RopeIdeal.main_arg5)
      ∧ r.2.mem ((c.tc : Thread Cert.RopeIdeal.nD Cert.RopeIdeal.τ).loc Cert.RopeIdeal.main_arg6) = m ((c.tc : Thread Cert.RopeIdeal.nD Cert.RopeIdeal.τ).loc Cert.RopeIdeal.main_arg6))
      ∧ r.2.sem = fun _ => 0)

def quiescent_RopeIdeal_pre_finite_inputs [hRopeIdeal : Cert.RopeIdeal.Facts] [hPre_finite_inputs : Cert.Pre_finite_inputs.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal_finite_inputs m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
      ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3)
      ∧ r.2.mem ((c.tc : Thread Cert.RopeIdeal.nD Cert.RopeIdeal.τ).loc Cert.RopeIdeal.main_arg4) = m ((c.tc : Thread Cert.RopeIdeal.nD Cert.RopeIdeal.τ).loc Cert.RopeIdeal.main_arg4)
      ∧ r.2.mem ((c.tc : Thread Cert.RopeIdeal.nD Cert.RopeIdeal.τ).loc Cert.RopeIdeal.main_arg5) = m ((c.tc : Thread Cert.RopeIdeal.nD Cert.RopeIdeal.τ).loc Cert.RopeIdeal.main_arg5)
      ∧ r.2.mem ((c.tc : Thread Cert.RopeIdeal.nD Cert.RopeIdeal.τ).loc Cert.RopeIdeal.main_arg6) = m ((c.tc : Thread Cert.RopeIdeal.nD Cert.RopeIdeal.τ).loc Cert.RopeIdeal.main_arg6))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1)
      ∧ r.2.mem ((c.tc : Thread Cert.RopeRefIdeal.nD Cert.RopeRefIdeal.τ).loc Cert.RopeRefIdeal.main_arg2) = m ((c.tc : Thread Cert.RopeRefIdeal.nD Cert.RopeRefIdeal.τ).loc Cert.RopeRefIdeal.main_arg2)
      ∧ r.2.mem ((c.tc : Thread Cert.RopeRefIdeal.nD Cert.RopeRefIdeal.τ).loc Cert.RopeRefIdeal.main_arg3) = m ((c.tc : Thread Cert.RopeRefIdeal.nD Cert.RopeRefIdeal.τ).loc Cert.RopeRefIdeal.main_arg3)
      ∧ r.2.mem ((c.tc : Thread Cert.RopeRefIdeal.nD Cert.RopeRefIdeal.τ).loc Cert.RopeRefIdeal.main_arg4) = m ((c.tc : Thread Cert.RopeRefIdeal.nD Cert.RopeRefIdeal.τ).loc Cert.RopeRefIdeal.main_arg4)
      ∧ r.2.mem ((c.tc : Thread Cert.RopeRefIdeal.nD Cert.RopeRefIdeal.τ).loc Cert.RopeRefIdeal.main_arg5) = m ((c.tc : Thread Cert.RopeRefIdeal.nD Cert.RopeRefIdeal.τ).loc Cert.RopeRefIdeal.main_arg5)
      ∧ r.2.mem ((c.tc : Thread Cert.RopeRefIdeal.nD Cert.RopeRefIdeal.τ).loc Cert.RopeRefIdeal.main_arg6) = m ((c.tc : Thread Cert.RopeRefIdeal.nD Cert.RopeRefIdeal.τ).loc Cert.RopeRefIdeal.main_arg6))
      ∧ r.2.sem = fun _ => 0)

def quiescent_RopeRefIdeal_pre_finite_inputs [hRopeRefIdeal : Cert.RopeRefIdeal.Facts] [hPre_finite_inputs : Cert.Pre_finite_inputs.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal_finite_inputs m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1)
      ∧ r.2.mem ((c.tc : Thread Cert.RopeRefIdeal.nD Cert.RopeRefIdeal.τ).loc Cert.RopeRefIdeal.main_arg2) = m ((c.tc : Thread Cert.RopeRefIdeal.nD Cert.RopeRefIdeal.τ).loc Cert.RopeRefIdeal.main_arg2)
      ∧ r.2.mem ((c.tc : Thread Cert.RopeRefIdeal.nD Cert.RopeRefIdeal.τ).loc Cert.RopeRefIdeal.main_arg3) = m ((c.tc : Thread Cert.RopeRefIdeal.nD Cert.RopeRefIdeal.τ).loc Cert.RopeRefIdeal.main_arg3)
      ∧ r.2.mem ((c.tc : Thread Cert.RopeRefIdeal.nD Cert.RopeRefIdeal.τ).loc Cert.RopeRefIdeal.main_arg4) = m ((c.tc : Thread Cert.RopeRefIdeal.nD Cert.RopeRefIdeal.τ).loc Cert.RopeRefIdeal.main_arg4)
      ∧ r.2.mem ((c.tc : Thread Cert.RopeRefIdeal.nD Cert.RopeRefIdeal.τ).loc Cert.RopeRefIdeal.main_arg5) = m ((c.tc : Thread Cert.RopeRefIdeal.nD Cert.RopeRefIdeal.τ).loc Cert.RopeRefIdeal.main_arg5)
      ∧ r.2.mem ((c.tc : Thread Cert.RopeRefIdeal.nD Cert.RopeRefIdeal.τ).loc Cert.RopeRefIdeal.main_arg6) = m ((c.tc : Thread Cert.RopeRefIdeal.nD Cert.RopeRefIdeal.τ).loc Cert.RopeRefIdeal.main_arg6))
      ∧ r.2.sem = fun _ => 0)

def preserves_Attn_AttnIdeal : Prop :=
  True

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v14)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v14) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v19) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v13)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v13) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v65) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def preserves_Half_HalfIdeal : Prop :=
  True

def algebraic_HalfIdeal_HalfRefIdeal [hHalfIdeal : Cert.HalfIdeal.Facts] [hHalfRefIdeal : Cert.HalfRefIdeal.Facts] : Prop :=
  ∀ (m : (ℓ : Loc Cert.HalfIdeal.nD Cert.HalfIdeal.τ Cert.HalfIdeal.sig) → Buf (Elt Ideal) ℓ) (g : Dev Cert.HalfIdeal.nD → PrngReg)
    (m' : (ℓ : Loc Cert.HalfRefIdeal.nD Cert.HalfRefIdeal.τ Cert.HalfRefIdeal.sig) → Buf (Elt Ideal) ℓ) (g' : Dev Cert.HalfRefIdeal.nD → PrngReg), Pre_HalfIdeal m →
    (∀ c : Dev Cert.HalfIdeal.nD,
      m' ((c.tc : Thread Cert.HalfRefIdeal.nD Cert.HalfRefIdeal.τ).loc Cert.HalfRefIdeal.main_arg0) = m ((c.tc : Thread Cert.HalfIdeal.nD Cert.HalfIdeal.τ).loc Cert.HalfIdeal.main_arg0)
      ∧ m' ((c.tc : Thread Cert.HalfRefIdeal.nD Cert.HalfRefIdeal.τ).loc Cert.HalfRefIdeal.main_arg1) = m ((c.tc : Thread Cert.HalfIdeal.nD Cert.HalfIdeal.τ).loc Cert.HalfIdeal.main_arg1)
      ∧ m' ((c.tc : Thread Cert.HalfRefIdeal.nD Cert.HalfRefIdeal.τ).loc Cert.HalfRefIdeal.main_arg2) = m ((c.tc : Thread Cert.HalfIdeal.nD Cert.HalfIdeal.τ).loc Cert.HalfIdeal.main_arg2)
      ∧ m' ((c.tc : Thread Cert.HalfRefIdeal.nD Cert.HalfRefIdeal.τ).loc Cert.HalfRefIdeal.main_arg3) = m ((c.tc : Thread Cert.HalfIdeal.nD Cert.HalfIdeal.τ).loc Cert.HalfIdeal.main_arg3)
      ∧ m' ((c.tc : Thread Cert.HalfRefIdeal.nD Cert.HalfRefIdeal.τ).loc Cert.HalfRefIdeal.main_arg4) = m ((c.tc : Thread Cert.HalfIdeal.nD Cert.HalfIdeal.τ).loc Cert.HalfIdeal.main_arg4)
      ∧ m' ((c.tc : Thread Cert.HalfRefIdeal.nD Cert.HalfRefIdeal.τ).loc Cert.HalfRefIdeal.main_arg5) = m ((c.tc : Thread Cert.HalfIdeal.nD Cert.HalfIdeal.τ).loc Cert.HalfIdeal.main_arg5)) →
    ∃ (v0 : (c : Dev Cert.HalfIdeal.nD) → Buf (Elt Ideal) ((c.tc : Thread Cert.HalfIdeal.nD Cert.HalfIdeal.τ).loc Cert.HalfIdeal.main_v10)),
      θ_run (Cert.HalfIdeal.defs (F := Ideal)) (onTc (τ := Cert.HalfIdeal.τ) (Cert.HalfIdeal.main (F := Ideal))) ⟨m, fun _ => 0, g⟩ (fun r => ∀ c : Dev Cert.HalfIdeal.nD,
          r.2.mem ((c.tc : Thread Cert.HalfIdeal.nD Cert.HalfIdeal.τ).loc Cert.HalfIdeal.main_v10) = v0 c
          ∧ r.2.mem ((c.tc : Thread Cert.HalfIdeal.nD Cert.HalfIdeal.τ).loc Cert.HalfIdeal.main_arg0) = m ((c.tc : Thread Cert.HalfIdeal.nD Cert.HalfIdeal.τ).loc Cert.HalfIdeal.main_arg0)
          ∧ r.2.mem ((c.tc : Thread Cert.HalfIdeal.nD Cert.HalfIdeal.τ).loc Cert.HalfIdeal.main_arg1) = m ((c.tc : Thread Cert.HalfIdeal.nD Cert.HalfIdeal.τ).loc Cert.HalfIdeal.main_arg1)
          ∧ r.2.mem ((c.tc : Thread Cert.HalfIdeal.nD Cert.HalfIdeal.τ).loc Cert.HalfIdeal.main_arg2) = m ((c.tc : Thread Cert.HalfIdeal.nD Cert.HalfIdeal.τ).loc Cert.HalfIdeal.main_arg2)
          ∧ r.2.mem ((c.tc : Thread Cert.HalfIdeal.nD Cert.HalfIdeal.τ).loc Cert.HalfIdeal.main_arg3) = m ((c.tc : Thread Cert.HalfIdeal.nD Cert.HalfIdeal.τ).loc Cert.HalfIdeal.main_arg3)
          ∧ r.2.mem ((c.tc : Thread Cert.HalfIdeal.nD Cert.HalfIdeal.τ).loc Cert.HalfIdeal.main_arg4) = m ((c.tc : Thread Cert.HalfIdeal.nD Cert.HalfIdeal.τ).loc Cert.HalfIdeal.main_arg4)
          ∧ r.2.mem ((c.tc : Thread Cert.HalfIdeal.nD Cert.HalfIdeal.τ).loc Cert.HalfIdeal.main_arg5) = m ((c.tc : Thread Cert.HalfIdeal.nD Cert.HalfIdeal.τ).loc Cert.HalfIdeal.main_arg5))
      ∧ θ_run (Cert.HalfRefIdeal.defs (F := Ideal)) (onTc (τ := Cert.HalfRefIdeal.τ) (Cert.HalfRefIdeal.main (F := Ideal))) ⟨m', fun _ => 0, g'⟩ (fun r => ∀ c : Dev Cert.HalfRefIdeal.nD,
          r.2.mem ((c.tc : Thread Cert.HalfRefIdeal.nD Cert.HalfRefIdeal.τ).loc Cert.HalfRefIdeal.main_v52) = v0 c
          ∧ r.2.mem ((c.tc : Thread Cert.HalfRefIdeal.nD Cert.HalfRefIdeal.τ).loc Cert.HalfRefIdeal.main_arg0) = m' ((c.tc : Thread Cert.HalfRefIdeal.nD Cert.HalfRefIdeal.τ).loc Cert.HalfRefIdeal.main_arg0)
          ∧ r.2.mem ((c.tc : Thread Cert.HalfRefIdeal.nD Cert.HalfRefIdeal.τ).loc Cert.HalfRefIdeal.main_arg1) = m' ((c.tc : Thread Cert.HalfRefIdeal.nD Cert.HalfRefIdeal.τ).loc Cert.HalfRefIdeal.main_arg1)
          ∧ r.2.mem ((c.tc : Thread Cert.HalfRefIdeal.nD Cert.HalfRefIdeal.τ).loc Cert.HalfRefIdeal.main_arg2) = m' ((c.tc : Thread Cert.HalfRefIdeal.nD Cert.HalfRefIdeal.τ).loc Cert.HalfRefIdeal.main_arg2)
          ∧ r.2.mem ((c.tc : Thread Cert.HalfRefIdeal.nD Cert.HalfRefIdeal.τ).loc Cert.HalfRefIdeal.main_arg3) = m' ((c.tc : Thread Cert.HalfRefIdeal.nD Cert.HalfRefIdeal.τ).loc Cert.HalfRefIdeal.main_arg3)
          ∧ r.2.mem ((c.tc : Thread Cert.HalfRefIdeal.nD Cert.HalfRefIdeal.τ).loc Cert.HalfRefIdeal.main_arg4) = m' ((c.tc : Thread Cert.HalfRefIdeal.nD Cert.HalfRefIdeal.τ).loc Cert.HalfRefIdeal.main_arg4)
          ∧ r.2.mem ((c.tc : Thread Cert.HalfRefIdeal.nD Cert.HalfRefIdeal.τ).loc Cert.HalfRefIdeal.main_arg5) = m' ((c.tc : Thread Cert.HalfRefIdeal.nD Cert.HalfRefIdeal.τ).loc Cert.HalfRefIdeal.main_arg5))

def preserves_Proj_ProjIdeal : Prop :=
  True

def algebraic_ProjIdeal_ProjRefIdeal_pre_finite_rows [hProjIdeal : Cert.ProjIdeal.Facts] [hProjRefIdeal : Cert.ProjRefIdeal.Facts] [hPre_finite_rows : Cert.Pre_finite_rows.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_finite_rows m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v29_0)) (v1 : (c : Dev Cert.ProjIdeal.nD) → Buf (Elt Ideal) ((c.tc : Thread Cert.ProjIdeal.nD Cert.ProjIdeal.τ).loc Cert.ProjIdeal.main_v29_1)) (v2 : (c : Dev Cert.ProjIdeal.nD) → Buf (Elt Ideal) ((c.tc : Thread Cert.ProjIdeal.nD Cert.ProjIdeal.τ).loc Cert.ProjIdeal.main_v29_2)) (v3 : (c : Dev Cert.ProjIdeal.nD) → Buf (Elt Ideal) ((c.tc : Thread Cert.ProjIdeal.nD Cert.ProjIdeal.τ).loc Cert.ProjIdeal.main_v29_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v29_0) = v0 c
          ∧ r.2.mem ((c.tc : Thread Cert.ProjIdeal.nD Cert.ProjIdeal.τ).loc Cert.ProjIdeal.main_v29_1) = v1 c
          ∧ r.2.mem ((c.tc : Thread Cert.ProjIdeal.nD Cert.ProjIdeal.τ).loc Cert.ProjIdeal.main_v29_2) = v2 c
          ∧ r.2.mem ((c.tc : Thread Cert.ProjIdeal.nD Cert.ProjIdeal.τ).loc Cert.ProjIdeal.main_v29_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v74) = v0 c
          ∧ r.2.mem ((c.tc : Thread Cert.ProjRefIdeal.nD Cert.ProjRefIdeal.τ).loc Cert.ProjRefIdeal.main_v77) = v1 c
          ∧ r.2.mem ((c.tc : Thread Cert.ProjRefIdeal.nD Cert.ProjRefIdeal.τ).loc Cert.ProjRefIdeal.main_v81) = v2 c
          ∧ r.2.mem ((c.tc : Thread Cert.ProjRefIdeal.nD Cert.ProjRefIdeal.τ).loc Cert.ProjRefIdeal.main_v82) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Rope_RopeIdeal : Prop :=
  IdealRules.named_const.Statement Cert.RopeIdeal.κ "score_scale" .f32 0x3E38AA3B#32 (((1 / 8) * (Real.log 2)⁻¹ : ℝ) : EReal)

def algebraic_RopeIdeal_RopeRefIdeal_pre_finite_inputs [hRopeIdeal : Cert.RopeIdeal.Facts] [hRopeRefIdeal : Cert.RopeRefIdeal.Facts] [hPre_finite_inputs : Cert.Pre_finite_inputs.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal_finite_inputs m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)
      ∧ m' ((c.tc : Thread Cert.RopeRefIdeal.nD Cert.RopeRefIdeal.τ).loc Cert.RopeRefIdeal.main_arg2) = m ((c.tc : Thread Cert.RopeIdeal.nD Cert.RopeIdeal.τ).loc Cert.RopeIdeal.main_arg2)
      ∧ m' ((c.tc : Thread Cert.RopeRefIdeal.nD Cert.RopeRefIdeal.τ).loc Cert.RopeRefIdeal.main_arg3) = m ((c.tc : Thread Cert.RopeIdeal.nD Cert.RopeIdeal.τ).loc Cert.RopeIdeal.main_arg3)
      ∧ m' ((c.tc : Thread Cert.RopeRefIdeal.nD Cert.RopeRefIdeal.τ).loc Cert.RopeRefIdeal.main_arg4) = m ((c.tc : Thread Cert.RopeIdeal.nD Cert.RopeIdeal.τ).loc Cert.RopeIdeal.main_arg4)
      ∧ m' ((c.tc : Thread Cert.RopeRefIdeal.nD Cert.RopeRefIdeal.τ).loc Cert.RopeRefIdeal.main_arg5) = m ((c.tc : Thread Cert.RopeIdeal.nD Cert.RopeIdeal.τ).loc Cert.RopeIdeal.main_arg5)
      ∧ m' ((c.tc : Thread Cert.RopeRefIdeal.nD Cert.RopeRefIdeal.τ).loc Cert.RopeRefIdeal.main_arg6) = m ((c.tc : Thread Cert.RopeIdeal.nD Cert.RopeIdeal.τ).loc Cert.RopeIdeal.main_arg6)) →
    ∃ (v0 : (c : Dev Cert.RopeIdeal.nD) → Buf (Elt Ideal) ((c.tc : Thread Cert.RopeIdeal.nD Cert.RopeIdeal.τ).loc Cert.RopeIdeal.main_v77_0)) (v1 : (c : Dev Cert.RopeIdeal.nD) → Buf (Elt Ideal) ((c.tc : Thread Cert.RopeIdeal.nD Cert.RopeIdeal.τ).loc Cert.RopeIdeal.main_v77_1)) (v2 : (c : Dev Cert.RopeIdeal.nD) → Buf (Elt Ideal) ((c.tc : Thread Cert.RopeIdeal.nD Cert.RopeIdeal.τ).loc Cert.RopeIdeal.main_v77_2)) (v3 : (c : Dev Cert.RopeIdeal.nD) → Buf (Elt Ideal) ((c.tc : Thread Cert.RopeIdeal.nD Cert.RopeIdeal.τ).loc Cert.RopeIdeal.main_v77_3)) (v4 : (c : Dev Cert.RopeIdeal.nD) → Buf (Elt Ideal) ((c.tc : Thread Cert.RopeIdeal.nD Cert.RopeIdeal.τ).loc Cert.RopeIdeal.main_v77_4)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v77_0) = v0 c
          ∧ r.2.mem ((c.tc : Thread Cert.RopeIdeal.nD Cert.RopeIdeal.τ).loc Cert.RopeIdeal.main_v77_1) = v1 c
          ∧ r.2.mem ((c.tc : Thread Cert.RopeIdeal.nD Cert.RopeIdeal.τ).loc Cert.RopeIdeal.main_v77_2) = v2 c
          ∧ r.2.mem ((c.tc : Thread Cert.RopeIdeal.nD Cert.RopeIdeal.τ).loc Cert.RopeIdeal.main_v77_3) = v3 c
          ∧ r.2.mem ((c.tc : Thread Cert.RopeIdeal.nD Cert.RopeIdeal.τ).loc Cert.RopeIdeal.main_v77_4) = v4 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
          ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3)
          ∧ r.2.mem ((c.tc : Thread Cert.RopeIdeal.nD Cert.RopeIdeal.τ).loc Cert.RopeIdeal.main_arg4) = m ((c.tc : Thread Cert.RopeIdeal.nD Cert.RopeIdeal.τ).loc Cert.RopeIdeal.main_arg4)
          ∧ r.2.mem ((c.tc : Thread Cert.RopeIdeal.nD Cert.RopeIdeal.τ).loc Cert.RopeIdeal.main_arg5) = m ((c.tc : Thread Cert.RopeIdeal.nD Cert.RopeIdeal.τ).loc Cert.RopeIdeal.main_arg5)
          ∧ r.2.mem ((c.tc : Thread Cert.RopeIdeal.nD Cert.RopeIdeal.τ).loc Cert.RopeIdeal.main_arg6) = m ((c.tc : Thread Cert.RopeIdeal.nD Cert.RopeIdeal.τ).loc Cert.RopeIdeal.main_arg6))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v203) = v0 c
          ∧ r.2.mem ((c.tc : Thread Cert.RopeRefIdeal.nD Cert.RopeRefIdeal.τ).loc Cert.RopeRefIdeal.main_v206) = v1 c
          ∧ r.2.mem ((c.tc : Thread Cert.RopeRefIdeal.nD Cert.RopeRefIdeal.τ).loc Cert.RopeRefIdeal.main_v210) = v2 c
          ∧ r.2.mem ((c.tc : Thread Cert.RopeRefIdeal.nD Cert.RopeRefIdeal.τ).loc Cert.RopeRefIdeal.main_v211) = v3 c
          ∧ r.2.mem ((c.tc : Thread Cert.RopeRefIdeal.nD Cert.RopeRefIdeal.τ).loc Cert.RopeRefIdeal.main_v213) = v4 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1)
          ∧ r.2.mem ((c.tc : Thread Cert.RopeRefIdeal.nD Cert.RopeRefIdeal.τ).loc Cert.RopeRefIdeal.main_arg2) = m' ((c.tc : Thread Cert.RopeRefIdeal.nD Cert.RopeRefIdeal.τ).loc Cert.RopeRefIdeal.main_arg2)
          ∧ r.2.mem ((c.tc : Thread Cert.RopeRefIdeal.nD Cert.RopeRefIdeal.τ).loc Cert.RopeRefIdeal.main_arg3) = m' ((c.tc : Thread Cert.RopeRefIdeal.nD Cert.RopeRefIdeal.τ).loc Cert.RopeRefIdeal.main_arg3)
          ∧ r.2.mem ((c.tc : Thread Cert.RopeRefIdeal.nD Cert.RopeRefIdeal.τ).loc Cert.RopeRefIdeal.main_arg4) = m' ((c.tc : Thread Cert.RopeRefIdeal.nD Cert.RopeRefIdeal.τ).loc Cert.RopeRefIdeal.main_arg4)
          ∧ r.2.mem ((c.tc : Thread Cert.RopeRefIdeal.nD Cert.RopeRefIdeal.τ).loc Cert.RopeRefIdeal.main_arg5) = m' ((c.tc : Thread Cert.RopeRefIdeal.nD Cert.RopeRefIdeal.τ).loc Cert.RopeRefIdeal.main_arg5)
          ∧ r.2.mem ((c.tc : Thread Cert.RopeRefIdeal.nD Cert.RopeRefIdeal.τ).loc Cert.RopeRefIdeal.main_arg6) = m' ((c.tc : Thread Cert.RopeRefIdeal.nD Cert.RopeRefIdeal.τ).loc Cert.RopeRefIdeal.main_arg6))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hHalf : Cert.Half.Facts) (hHalfIdeal : Cert.HalfIdeal.Facts) (hHalfRefIdeal : Cert.HalfRefIdeal.Facts) (hProj : Cert.Proj.Facts) (hProjIdeal : Cert.ProjIdeal.Facts) (hProjRefIdeal : Cert.ProjRefIdeal.Facts) (hRope : Cert.Rope.Facts) (hRopeIdeal : Cert.RopeIdeal.Facts) (hRopeRefIdeal : Cert.RopeRefIdeal.Facts) (hPre_finite_scores : Cert.Pre_finite_scores.Facts) (hPre_finite_rows : Cert.Pre_finite_rows.Facts) (hPre_finite_inputs : Cert.Pre_finite_inputs.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_Half (hHalf := hHalf)
    ∧ quiescent_HalfIdeal (hHalfIdeal := hHalfIdeal)
    ∧ quiescent_HalfRefIdeal (hHalfRefIdeal := hHalfRefIdeal)
    ∧ quiescent_Proj (hProj := hProj)
    ∧ quiescent_ProjIdeal (hProjIdeal := hProjIdeal)
    ∧ quiescent_ProjIdeal_pre_finite_rows (hProjIdeal := hProjIdeal) (hPre_finite_rows := hPre_finite_rows)
    ∧ quiescent_ProjRefIdeal (hProjRefIdeal := hProjRefIdeal)
    ∧ quiescent_ProjRefIdeal_pre_finite_rows (hProjRefIdeal := hProjRefIdeal) (hPre_finite_rows := hPre_finite_rows)
    ∧ quiescent_Rope (hRope := hRope)
    ∧ quiescent_RopeIdeal (hRopeIdeal := hRopeIdeal)
    ∧ quiescent_RopeIdeal_pre_finite_inputs (hRopeIdeal := hRopeIdeal) (hPre_finite_inputs := hPre_finite_inputs)
    ∧ quiescent_RopeRefIdeal (hRopeRefIdeal := hRopeRefIdeal)
    ∧ quiescent_RopeRefIdeal_pre_finite_inputs (hRopeRefIdeal := hRopeRefIdeal) (hPre_finite_inputs := hPre_finite_inputs)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_Half_HalfIdeal
    ∧ algebraic_HalfIdeal_HalfRefIdeal (hHalfIdeal := hHalfIdeal) (hHalfRefIdeal := hHalfRefIdeal)
    ∧ preserves_Proj_ProjIdeal
    ∧ algebraic_ProjIdeal_ProjRefIdeal_pre_finite_rows (hProjIdeal := hProjIdeal) (hProjRefIdeal := hProjRefIdeal) (hPre_finite_rows := hPre_finite_rows)
    ∧ preserves_Rope_RopeIdeal
    ∧ algebraic_RopeIdeal_RopeRefIdeal_pre_finite_inputs (hRopeIdeal := hRopeIdeal) (hRopeRefIdeal := hRopeRefIdeal) (hPre_finite_inputs := hPre_finite_inputs)
-- ==== Pre_finite_inputs.lean ====
abbrev S16384x1024 : Shape := ⟨2, ![16384, 1024]⟩
abbrev S2x3x1024 : Shape := ⟨3, ![2, 3, 1024]⟩
abbrev S2x2x3x3x1x1024 : Shape := ⟨6, ![2, 2, 3, 3, 1, 1024]⟩
abbrev S2x1024x2304 : Shape := ⟨3, ![2, 1024, 2304]⟩
abbrev S1x2x64 : Shape := ⟨3, ![1, 2, 64]⟩
abbrev S1x3x1536 : Shape := ⟨3, ![1, 3, 1536]⟩
abbrev S1x1536 : Shape := ⟨2, ![1, 1536]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2x3x1024 : S_.BroadcastsInDim S2x3x1024 (![] : Fin 0 → Fin S2x3x1024.rank)
  reducesTo_S2x3x1024_S_d0_1_2 : S2x3x1024.ReducesTo [0, 1, 2] S_
  bcast_S_S2x2x3x3x1x1024 : S_.BroadcastsInDim S2x2x3x3x1x1024 (![] : Fin 0 → Fin S2x2x3x3x1x1024.rank)
  reducesTo_S2x2x3x3x1x1024_S_d0_1_2_3_4_5 : S2x2x3x3x1x1024.ReducesTo [0, 1, 2, 3, 4, 5] S_
  bcast_S_S2x1024x2304 : S_.BroadcastsInDim S2x1024x2304 (![] : Fin 0 → Fin S2x1024x2304.rank)
  reducesTo_S2x1024x2304_S_d0_1_2 : S2x1024x2304.ReducesTo [0, 1, 2] S_

variable [Facts]

def fn_part1 {F : FTy → Type} [FloatOps F] (main_v13 : IVec S_ 1) (main_v16 : IVec S2x1024x2304 1) : IVec S_ 1 :=
  let main_c_5 : IVec S_ 1 := constantI S_ 1 1#1
  let main_v17 : IVec S_ 1 := (fun x v => Host.reduce IntOp.andi x v reducesTo_S2x1024x2304_S_d0_1_2 h_S_) main_v16 main_c_5
  let main_v18 : IVec S_ 1 := andi main_v13 main_v17
  main_v18

def fn {F : FTy → Type} [FloatOps F] (main_arg0 : FVec F S16384x1024 .f32) (main_arg1 : FVec F S2x3x1024 .f32) (main_arg2 : FVec F S2x2x3x3x1x1024 .f32) (main_arg3 : FVec F S2x1024x2304 .f32) (main_arg4 : FVec F S1x2x64 .f32) (main_arg5 : FVec F S1x3x1536 .f32) (main_arg6 : FVec F S1x1536 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S2x3x1024 .f32 := Host.absf main_arg1
  let main_cst_0 : FVec F S_ .f32 := constant S_ .f32 0x7F800000#32
  let main_v5 : FVec F S2x3x1024 .f32 := broadcastInDim S2x3x1024 ![] bcast_S_S2x3x1024 main_cst_0
  let main_v6 : IVec S2x3x1024 1 := cmpf .olt main_v4 main_v5
  let main_c_1 : IVec S_ 1 := constantI S_ 1 1#1
  let main_v7 : IVec S_ 1 := (fun x v => Host.reduce IntOp.andi x v reducesTo_S2x3x1024_S_d0_1_2 h_S_) main_v6 main_c_1
  let main_v8 : IVec S_ 1 := andi main_v3 main_v7
  let main_v9 : FVec F S2x2x3x3x1x1024 .f32 := Host.absf main_arg2
  let main_cst_2 : FVec F S_ .f32 := constant S_ .f32 0x7F800000#32
  let main_v10 : FVec F S2x2x3x3x1x1024 .f32 := broadcastInDim S2x2x3x3x1x1024 ![] bcast_S_S2x2x3x3x1x1024 main_cst_2
  let main_v11 : IVec S2x2x3x3x1x1024 1 := cmpf .olt main_v9 main_v10
  let main_c_3 : IVec S_ 1 := constantI S_ 1 1#1
  let main_v12 : IVec S_ 1 := (fun x v => Host.reduce IntOp.andi x v reducesTo_S2x2x3x3x1x1024_S_d0_1_2_3_4_5 h_S_) main_v11 main_c_3
  let main_v13 : IVec S_ 1 := andi main_v8 main_v12
  let main_v14 : FVec F S2x1024x2304 .f32 := Host.absf main_arg3
  let main_cst_4 : FVec F S_ .f32 := constant S_ .f32 0x7F800000#32
  let main_v15 : FVec F S2x1024x2304 .f32 := broadcastInDim S2x1024x2304 ![] bcast_S_S2x1024x2304 main_cst_4
  let main_v16 : IVec S2x1024x2304 1 := cmpf .olt main_v14 main_v15
  fn_part1 (F := F) main_v13 main_v16
-- ==== Pre_finite_rows.lean ====
abbrev S16384x1024 : Shape := ⟨2, ![16384, 1024]⟩
abbrev S2x3x1024 : Shape := ⟨3, ![2, 3, 1024]⟩
abbrev S2x2x3x3x1x1024 : Shape := ⟨6, ![2, 2, 3, 3, 1, 1024]⟩
abbrev S2x1024x2304 : Shape := ⟨3, ![2, 1024, 2304]⟩
abbrev S1x2x64 : Shape := ⟨3, ![1, 2, 64]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2x3x1024 : S_.BroadcastsInDim S2x3x1024 (![] : Fin 0 → Fin S2x3x1024.rank)
  reducesTo_S2x3x1024_S_d0_1_2 : S2x3x1024.ReducesTo [0, 1, 2] S_
  bcast_S_S2x2x3x3x1x1024 : S_.BroadcastsInDim S2x2x3x3x1x1024 (![] : Fin 0 → Fin S2x2x3x3x1x1024.rank)
  reducesTo_S2x2x3x3x1x1024_S_d0_1_2_3_4_5 : S2x2x3x3x1x1024.ReducesTo [0, 1, 2, 3, 4, 5] S_
  bcast_S_S2x1024x2304 : S_.BroadcastsInDim S2x1024x2304 (![] : Fin 0 → Fin S2x1024x2304.rank)
  reducesTo_S2x1024x2304_S_d0_1_2 : S2x1024x2304.ReducesTo [0, 1, 2] S_

variable [Facts]

def fn_part1 {F : FTy → Type} [FloatOps F] (main_v13 : IVec S_ 1) (main_v16 : IVec S2x1024x2304 1) : IVec S_ 1 :=
  let main_c_5 : IVec S_ 1 := constantI S_ 1 1#1
  let main_v17 : IVec S_ 1 := (fun x v => Host.reduce IntOp.andi x v reducesTo_S2x1024x2304_S_d0_1_2 h_S_) main_v16 main_c_5
  let main_v18 : IVec S_ 1 := andi main_v13 main_v17
  main_v18

def fn {F : FTy → Type} [FloatOps F] (main_arg0 : FVec F S16384x1024 .f32) (main_arg1 : FVec F S2x3x1024 .f32) (main_arg2 : FVec F S2x2x3x3x1x1024 .f32) (main_arg3 : FVec F S2x1024x2304 .f32) (main_arg4 : FVec F S1x2x64 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S2x3x1024 .f32 := Host.absf main_arg1
  let main_cst_0 : FVec F S_ .f32 := constant S_ .f32 0x7F800000#32
  let main_v5 : FVec F S2x3x1024 .f32 := broadcastInDim S2x3x1024 ![] bcast_S_S2x3x1024 main_cst_0
  let main_v6 : IVec S2x3x1024 1 := cmpf .olt main_v4 main_v5
  let main_c_1 : IVec S_ 1 := constantI S_ 1 1#1
  let main_v7 : IVec S_ 1 := (fun x v => Host.reduce IntOp.andi x v reducesTo_S2x3x1024_S_d0_1_2 h_S_) main_v6 main_c_1
  let main_v8 : IVec S_ 1 := andi main_v3 main_v7
  let main_v9 : FVec F S2x2x3x3x1x1024 .f32 := Host.absf main_arg2
  let main_cst_2 : FVec F S_ .f32 := constant S_ .f32 0x7F800000#32
  let main_v10 : FVec F S2x2x3x3x1x1024 .f32 := broadcastInDim S2x2x3x3x1x1024 ![] bcast_S_S2x2x3x3x1x1024 main_cst_2
  let main_v11 : IVec S2x2x3x3x1x1024 1 := cmpf .olt main_v9 main_v10
  let main_c_3 : IVec S_ 1 := constantI S_ 1 1#1
  let main_v12 : IVec S_ 1 := (fun x v => Host.reduce IntOp.andi x v reducesTo_S2x2x3x3x1x1024_S_d0_1_2_3_4_5 h_S_) main_v11 main_c_3
  let main_v13 : IVec S_ 1 := andi main_v8 main_v12
  let main_v14 : FVec F S2x1024x2304 .f32 := Host.absf main_arg3
  let main_cst_4 : FVec F S_ .f32 := constant S_ .f32 0x7F800000#32
  let main_v15 : FVec F S2x1024x2304 .f32 := broadcastInDim S2x1024x2304 ![] bcast_S_S2x1024x2304 main_cst_4
  let main_v16 : IVec S2x1024x2304 1 := cmpf .olt main_v14 main_v15
  fn_part1 (F := F) main_v13 main_v16
-- ==== Pre_finite_scores.lean ====
abbrev S2x8192x8x64 : Shape := ⟨4, ![2, 8192, 8, 64]⟩
abbrev S2x8192x2x64 : Shape := ⟨4, ![2, 8192, 2, 64]⟩
abbrev S1 : Shape := ⟨1, ![1]⟩
abbrev S_ : Shape := ⟨0, ![]⟩

class Facts : Prop where
  bcast_S_S2x8192x8x64 : S_.BroadcastsInDim S2x8192x8x64 (![] : Fin 0 → Fin S2x8192x8x64.rank)
  reducesTo_S2x8192x8x64_S_d0_1_2_3 : S2x8192x8x64.ReducesTo [0, 1, 2, 3] S_
  h_S_ : 0 < S_.numel
  bcast_S_S2x8192x2x64 : S_.BroadcastsInDim S2x8192x2x64 (![] : Fin 0 → Fin S2x8192x2x64.rank)
  reducesTo_S2x8192x2x64_S_d0_1_2_3 : S2x8192x2x64.ReducesTo [0, 1, 2, 3] S_
  bcast_S_S1 : S_.BroadcastsInDim S1 (![] : Fin 0 → Fin S1.rank)
  reducesTo_S1_S_d0 : S1.ReducesTo [0] S_

variable [Facts]

def fn {F : FTy → Type} [FloatOps F] (main_arg0 : FVec F S2x8192x8x64 .f32) (main_arg1 : FVec F S2x8192x2x64 .f32) (main_arg2 : FVec F S2x8192x2x64 .f32) (main_arg3 : FVec F S1 .f32) : IVec S_ 1 :=
  let main_v0 : FVec F S2x8192x8x64 .f32 := Host.absf main_arg0
  let main_cst : FVec F S_ .f32 := constant S_ .f32 0x7F800000#32
  let main_v1 : FVec F S2x8192x8x64 .f32 := broadcastInDim S2x8192x8x64 ![] bcast_S_S2x8192x8x64 main_cst
  let main_v2 : IVec S2x8192x8x64 1 := cmpf .olt main_v0 main_v1
  let main_c : IVec S_ 1 := constantI S_ 1 1#1
  let main_v3 : IVec S_ 1 := (fun x v => Host.reduce IntOp.andi x v reducesTo_S2x8192x8x64_S_d0_1_2_3 h_S_) main_v2 main_c
  let main_v4 : FVec F S2x8192x2x64 .f32 := Host.absf main_arg1
  let main_cst_0 : FVec F S_ .f32 := constant S_ .f32 0x7F800000#32
  let main_v5 : FVec F S2x8192x2x64 .f32 := broadcastInDim S2x8192x2x64 ![] bcast_S_S2x8192x2x64 main_cst_0
  let main_v6 : IVec S2x8192x2x64 1 := cmpf .olt main_v4 main_v5
  let main_c_1 : IVec S_ 1 := constantI S_ 1 1#1
  let main_v7 : IVec S_ 1 := (fun x v => Host.reduce IntOp.andi x v reducesTo_S2x8192x2x64_S_d0_1_2_3 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Attn.lean ====
abbrev S2x8192x8x64 : Shape := ⟨4, ![2, 8192, 8, 64]⟩
abbrev S2x8192x2x64 : Shape := ⟨4, ![2, 8192, 2, 64]⟩
abbrev S1 : Shape := ⟨1, ![1]⟩
abbrev S16384x512 : Shape := ⟨2, ![16384, 512]⟩
abbrev S_ : Shape := ⟨0, ![]⟩
abbrev S16x1024x128 : Shape := ⟨3, ![16, 1024, 128]⟩
abbrev S16x128x1024 : Shape := ⟨3, ![16, 128, 1024]⟩
abbrev S16384x2x64 : Shape := ⟨3, ![16384, 2, 64]⟩
abbrev S16384x2x128 : Shape := ⟨3, ![16384, 2, 128]⟩
abbrev S16384x256 : Shape := ⟨2, ![16384, 256]⟩
abbrev S1024x256 : Shape := ⟨2, ![1024, 256]⟩
abbrev S8x64x1024 : Shape := ⟨3, ![8, 64, 1024]⟩
abbrev S8192x128 : Shape := ⟨2, ![8192, 128]⟩
abbrev S4096x64 : Shape := ⟨2, ![4096, 64]⟩
abbrev S4096x1024 : Shape := ⟨2, ![4096, 1024]⟩
abbrev S4096x128 : Shape := ⟨2, ![4096, 128]⟩
abbrev S1024x64 : Shape := ⟨2, ![1024, 64]⟩
abbrev S1x64x1024 : Shape := ⟨3, ![1, 64, 1024]⟩
abbrev S64x1024 : Shape := ⟨2, ![64, 1024]⟩
abbrev S1024x128 : Shape := ⟨2, ![1024, 128]⟩

abbrev nBuf : Space → Nat
  | .hbm => 22
  | .vmem => 9
  | .smem => 1
  | _ => 0

abbrev bufTy : (tb : Table) → Fin (tcTables nBuf tb) → BufTy
  | .hbm, ⟨0, _⟩ => ⟨S2x8192x8x64, .f32⟩
  | .hbm, ⟨1, _⟩ => ⟨S2x8192x2x64, .f32⟩
  | .hbm, ⟨2, _⟩ => ⟨S2x8192x2x64, .f32⟩
  | .hbm, ⟨3, _⟩ => ⟨S1, .f32⟩
  | .hbm, ⟨4, _⟩ => ⟨S16384x512, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16384x512, .f32⟩
  | .hbm, ⟨10, _⟩ => ⟨S16384x512, .f32⟩
  | .hbm, ⟨11, _⟩ => ⟨S16384x512, .bf16⟩
  | .hbm, ⟨12, _⟩ => ⟨S16x1024x128, .f32⟩
  | .hbm, ⟨13, _⟩ => ⟨S16x128x1024, .f32⟩
  | .hbm, ⟨14, _⟩ => ⟨S16x128x1024, .bf16⟩
  | .hbm, ⟨15, _⟩ => ⟨S16384x2x64, .f32⟩
  | .hbm, ⟨16, _⟩ => ⟨S_, .f32⟩
  | .hbm, ⟨17, _⟩ => ⟨S16384x2x64, .f32⟩
  | .hbm, ⟨18, _⟩ => ⟨S16384x2x128, .f32⟩
  | .hbm, ⟨19, _⟩ => ⟨S16384x256, .f32⟩
  | .hbm, ⟨20, _⟩ => ⟨S16384x256, .bf16⟩
  | .hbm, ⟨21, _⟩ => ⟨S16384x512, .bf16⟩
  | .local _ .vmem, ⟨0, _⟩ => ⟨S1024x256, .bf16⟩
  | .local _ .vmem, ⟨1, _⟩ => ⟨S1024x256, .bf16⟩
  | .local _ .vmem, ⟨2, _⟩ => ⟨S8x64x1024, .bf16⟩
  | .local _ .vmem, ⟨3, _⟩ => ⟨S8192x128, .bf16⟩
  | .local _ .vmem, ⟨4, _⟩ => ⟨S1024x256, .bf16⟩
  | .local _ .vmem, ⟨5, _⟩ => ⟨S1024x256, .bf16⟩
  | .local _ .vmem, ⟨6, _⟩ => ⟨S4096x64, .bf16⟩
  | .local _ .vmem, ⟨7, _⟩ => ⟨S4096x1024, .bf16⟩
  | .local _ .vmem, ⟨8, _⟩ => ⟨S4096x128, .f32⟩
  | .local _ .smem, ⟨0, _⟩ => ⟨S1, .f32⟩
  | _, _ => ⟨S2x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨3, ![2, 2, 8], ![false, false, false]⟩

@[reducible] def k0_t1_loop : Scf.Loop 32 :=
  let c1_i32 : BitVec 32 := 1#32
  let c6_i32 : BitVec 32 := 6#32
  let v50 : BitVec 32 := Scalar.addi c1_i32 c6_i32
  let c1_i32_31 : BitVec 32 := 1#32
  ⟨c1_i32, v50, c1_i32_31⟩
def k0_mult1 (k0_t1 : Fin k0_t1_loop.trips) : BitVec 32 :=
  let c1_i32 : BitVec 32 := 1#32
  let c1_i32_31 : BitVec 32 := 1#32
  let arg11 : BitVec 32 := Scf.iv c1_i32 c1_i32_31 k0_t1
  let c1024_i32 : BitVec 32 := 1024#32
  let v76 : BitVec 32 := Scalar.muli arg11 c1024_i32
  v76
def k0_off1 (k0_t1 : Fin k0_t1_loop.trips) : Fin 2 → Nat :=
  let c1_i32 : BitVec 32 := 1#32
  let c1_i32_31 : BitVec 32 := 1#32
  let arg11 : BitVec 32 := Scf.iv c1_i32 c1_i32_31 k0_t1
  let c1024_i32 : BitVec 32 := 1024#32
  let v76 : BitVec 32 := Scalar.muli arg11 c1024_i32
  let v77 : BitVec 32 := v76
  let v79 : Index := Scalar.indexCast v77
  let c0_55 : Index := 0#32
  ![v79.toNat, 0]
def k0_off2 (k0_t1 : Fin k0_t1_loop.trips) : Fin 3 → Nat :=
  let c1_i32 : BitVec 32 := 1#32
  let c1_i32_31 : BitVec 32 := 1#32
  let arg11 : BitVec 32 := Scf.iv c1_i32 c1_i32_31 k0_t1
  let c1_i32_59 : BitVec 32 := 1#32
  let v87 : BitVec 32 := Scalar.addi arg11 c1_i32_59
  let v89 : Index := Scalar.indexCast v87
  let c0_62 : Index := 0#32
  let c0_63 : Index := 0#32
  ![v89.toNat, 0, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S8x64x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S8192x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AttnRefIdeal.lean ====
abbrev S2x8192x8x64 : Shape := ⟨4, ![2, 8192, 8, 64]⟩
abbrev S2x8192x2x64 : Shape := ⟨4, ![2, 8192, 2, 64]⟩
abbrev S1 : Shape := ⟨1, ![1]⟩
abbrev S2x8192x2x4x64 : Shape := ⟨5, ![2, 8192, 2, 4, 64]⟩
abbrev S2x2x8192x8192x4 : Shape := ⟨5, ![2, 2, 8192, 8192, 4]⟩
abbrev S2x2x4x8192x8192 : Shape := ⟨5, ![2, 2, 4, 8192, 8192]⟩
abbrev S_ : Shape := ⟨0, ![]⟩
abbrev S2x2x4x8192 : Shape := ⟨4, ![2, 2, 4, 8192]⟩
abbrev S2x2x4x8192x1 : Shape := ⟨5, ![2, 2, 4, 8192, 1]⟩
abbrev S2x2x64x4x8192 : Shape := ⟨5, ![2, 2, 64, 4, 8192]⟩
abbrev S16384x512 : Shape := ⟨2, ![16384, 512]⟩

abbrev nBuf : Space → Nat
  | .hbm => 28
  | .vmem => 0
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x2x64, .f32⟩
  | .hbm, ⟨2, _⟩ => ⟨S2x8192x2x64, .f32⟩
  | .hbm, ⟨3, _⟩ => ⟨S1, .f32⟩
  | .hbm, ⟨4, _⟩ => ⟨S2x8192x2x4x64, .f32⟩
  | .hbm, ⟨5, _⟩ => ⟨S2x2x8192x8192x4, .f32⟩
  | .hbm, ⟨6, _⟩ => ⟨S2x2x4x8192x8192, .f32⟩
  | .hbm, ⟨7, _⟩ => ⟨S_, .f32⟩
  | .hbm, ⟨8, _⟩ => ⟨S2x2x4x8192x8192, .f32⟩
  | .hbm, ⟨9, _⟩ => ⟨S2x2x4x8192x8192, .f32⟩
  | .hbm, ⟨10, _⟩ => ⟨S_, .f32⟩
  | .hbm, ⟨11, _⟩ => ⟨S2x2x4x8192, .f32⟩
  | .hbm, ⟨12, _⟩ => ⟨S_, .f32⟩
  | .hbm, ⟨13, _⟩ => ⟨S2x2x4x8192, .f32⟩
  | .hbm, ⟨14, _⟩ => ⟨S2x2x4x8192, .f32⟩
  | .hbm, ⟨15, _⟩ => ⟨S2x2x4x8192x1, .f32⟩
  | .hbm, ⟨16, _⟩ => ⟨S2x2x4x8192x8192, .f32⟩
  | .hbm, ⟨17, _⟩ => ⟨S2x2x4x8192x8192, .f32⟩
  | .hbm, ⟨18, _⟩ => ⟨S2x2x4x8192x8192, .f32⟩
  | .hbm, ⟨19, _⟩ => ⟨S_, .f32⟩
  | .hbm, ⟨20, _⟩ => ⟨S2x2x4x8192, .f32⟩
  | .hbm, ⟨21, _⟩ => ⟨S2x2x4x8192x1, .f32⟩
  | .hbm, ⟨22, _⟩ => ⟨S2x2x4x8192x8192, .f32⟩
  | .hbm, ⟨23, _⟩ => ⟨S2x2x4x8192x8192, .f32⟩
  | .hbm, ⟨24, _⟩ => ⟨S2x2x64x4x8192, .f32⟩
  | .hbm, ⟨25, _⟩ => ⟨S2x8192x2x4x64, .f32⟩
  | .hbm, ⟨26, _⟩ => ⟨S16384x512, .f32⟩
  | .hbm, ⟨27, _⟩ => ⟨S16384x512, .bf16⟩
  | _, _ => ⟨S2x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Ffn.lean ====
abbrev S16384x1024 : Shape := ⟨2, ![16384, 1024]⟩
abbrev S2x3x1024 : Shape := ⟨3, ![2, 3, 1024]⟩
abbrev S2x2x3x3x1x1024 : Shape := ⟨6, ![2, 2, 3, 3, 1, 1024]⟩
abbrev S2x2x1024x2752 : Shape := ⟨4, ![2, 2, 1024, 2752]⟩
abbrev S2x2x2752x1024 : Shape := ⟨4, ![2, 2, 2752, 1024]⟩
abbrev S16384x512 : Shape := ⟨2, ![16384, 512]⟩
abbrev S2x1024x1024 : Shape := ⟨3, ![2, 1024, 1024]⟩
abbrev S1x2x1x1x1x1024 : Shape := ⟨6, ![1, 2, 1, 1, 1, 1024]⟩
abbrev S2x1x1024 : Shape := ⟨3, ![2, 1, 1024]⟩
abbrev S1x1x1024 : Shape := ⟨3, ![1, 1, 1024]⟩
abbrev S1024 : Shape := ⟨1, ![1024]⟩
abbrev S1x1024 : Shape := ⟨2, ![1, 1024]⟩
abbrev S1024x1024 : Shape := ⟨2, ![1024, 1024]⟩
abbrev S1x1x1024x2752 : Shape := ⟨4, ![1, 1, 1024, 2752]⟩
abbrev S1x1x2752x1024 : Shape := ⟨4, ![1, 1, 2752, 1024]⟩
abbrev S1024x512 : Shape := ⟨2, ![1024, 512]⟩
abbrev S1x1024x1024 : Shape := ⟨3, ![1, 1024, 1024]⟩
abbrev S1x512x1024 : Shape := ⟨3, ![1, 512, 1024]⟩
abbrev S512x1024 : Shape := ⟨2, ![512, 1024]⟩
abbrev S1024x1 : Shape := ⟨2, ![1024, 1]⟩
abbrev S1x1x1024x256 : Shape := ⟨4, ![1, 1, 1024, 256]⟩
abbrev S1024x256 : Shape := ⟨2, ![1024, 256]⟩
abbrev S1x1x256x1024 : Shape := ⟨4, ![1, 1, 256, 1024]⟩
abbrev S256x1024 : Shape := ⟨2, ![256, 1024]⟩
abbrev S1x1x1024x192 : Shape := ⟨4, ![1, 1, 1024, 192]⟩
abbrev S1024x192 : Shape := ⟨2, ![1024, 192]⟩
abbrev S1x1x192x1024 : Shape := ⟨4, ![1, 1, 192, 1024]⟩
abbrev S192x1024 : Shape := ⟨2, ![192, 1024]⟩

abbrev nBuf : Space → Nat
  | .hbm => 23
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S2x3x1024, .f32⟩
  | .hbm, ⟨2, _⟩ => ⟨S2x2x3x3x1x1024, .f32⟩
  | .hbm, ⟨3, _⟩ => ⟨S2x2x1024x2752, .bf16⟩
  | .hbm, ⟨4, _⟩ => ⟨S2x2x1024x2752, .bf16⟩
  | .hbm, ⟨5, _⟩ => ⟨S2x2x2752x1024, .f32⟩
  | .hbm, ⟨6, _⟩ => ⟨S16384x512, .bf16⟩
  | .hbm, ⟨7, _⟩ => ⟨S16384x512, .f32⟩
  | .hbm, ⟨8, _⟩ => ⟨S2x1024x1024, .f32⟩
  | .hbm, ⟨9, _⟩ => ⟨S2x2x2752x1024, .bf16⟩
  | .hbm, ⟨10, _⟩ => ⟨S2x1024x1024, .bf16⟩
  | .hbm, ⟨11, _⟩ => ⟨S1x2x1x1x1x1024, .f32⟩
  | .hbm, ⟨12, _⟩ => ⟨S2x1x1024, .f32⟩
  | .hbm, ⟨13, _⟩ => ⟨S1x1x1024, .f32⟩
  | .hbm, ⟨14, _⟩ => ⟨S1024, .f32⟩
  | .hbm, ⟨15, _⟩ => ⟨S1x1024, .f32⟩
  | .hbm, ⟨16, _⟩ => ⟨S1x2x1x1x1x1024, .f32⟩
  | .hbm, ⟨17, _⟩ => ⟨S2x1x1024, .f32⟩
  | .hbm, ⟨18, _⟩ => ⟨S1x2x1x1x1x1024, .f32⟩
  | .hbm, ⟨19, _⟩ => ⟨S2x1x1024, .f32⟩
  | .hbm, ⟨20, _⟩ => ⟨S1x2x1x1x1x1024, .f32⟩
  | .hbm, ⟨21, _⟩ => ⟨S2x1x1024, .f32⟩
  | .hbm, ⟨22, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024x2752, .bf16⟩
  | .local _ .vmem, ⟨10, _⟩ => ⟨S1x1x1024x2752, .bf16⟩
  | .local _ .vmem, ⟨11, _⟩ => ⟨S1x1x2752x1024, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .f32⟩
  | .local _ .vmem, ⟨15, _⟩ => ⟨S1024x512, .f32⟩
  | .local _ .vmem, ⟨16, _⟩ => ⟨S1x1024x1024, .bf16⟩
  | .local _ .vmem, ⟨17, _⟩ => ⟨S1x1x1024, .f32⟩
  | .local _ .vmem, ⟨18, _⟩ => ⟨S1x1x1024, .f32⟩
  | .local _ .vmem, ⟨19, _⟩ => ⟨S1024x1024, .f32⟩
  | .local _ .vmem, ⟨20, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_6 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_7 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1024x2752 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024x2752 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x2752x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FfnRefIdeal.lean ====
abbrev S16384x1024 : Shape := ⟨2, ![16384, 1024]⟩
abbrev S2x3x1024 : Shape := ⟨3, ![2, 3, 1024]⟩
abbrev S2x2x3x3x1x1024 : Shape := ⟨6, ![2, 2, 3, 3, 1, 1024]⟩
abbrev S2x2x1024x2752 : Shape := ⟨4, ![2, 2, 1024, 2752]⟩
abbrev S2x2x2752x1024 : Shape := ⟨4, ![2, 2, 2752, 1024]⟩
abbrev S16384x512 : Shape := ⟨2, ![16384, 512]⟩
abbrev S2x1024x1024 : Shape := ⟨3, ![2, 1024, 1024]⟩
abbrev S2x8192x1024 : Shape := ⟨3, ![2, 8192, 1024]⟩
abbrev S1x2x3x3x1x1024 : Shape := ⟨6, ![1, 2, 3, 3, 1, 1024]⟩
abbrev S2x3x3x1x1024 : Shape := ⟨5, ![2, 3, 3, 1, 1024]⟩
abbrev S2x3x3x1024 : Shape := ⟨4, ![2, 3, 3, 1024]⟩
abbrev S2x8192x512 : Shape := ⟨3, ![2, 8192, 512]⟩
abbrev S2x1x1x1024 : Shape := ⟨4, ![2, 1, 1, 1024]⟩
abbrev S2x1024 : Shape := ⟨2, ![2, 1024]⟩
abbrev S2x1x1024 : Shape := ⟨3, ![2, 1, 1024]⟩
abbrev S1x1024x1024 : Shape := ⟨3, ![1, 1024, 1024]⟩
abbrev S1024x1024 : Shape := ⟨2, ![1024, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024 : Shape := ⟨1, ![1024]⟩
abbrev S1x1x1024x2752 : Shape := ⟨4, ![1, 1, 1024, 2752]⟩
abbrev S1024x2752 : Shape := ⟨2, ![1024, 2752]⟩
abbrev S1x1x2752x1024 : Shape := ⟨4, ![1, 1, 2752, 1024]⟩
abbrev S2752x1024 : Shape := ⟨2, ![2752, 1024]⟩
abbrev S2x8192x2752 : Shape := ⟨3, ![2, 8192, 2752]⟩

abbrev nBuf : Space → Nat
  | .hbm => 88
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x3x1024, .f32⟩
  | .hbm, ⟨2, _⟩ => ⟨S2x2x3x3x1x1024, .f32⟩
  | .hbm, ⟨3, _⟩ => ⟨S2x2x1024x2752, .bf16⟩
  | .hbm, ⟨4, _⟩ => ⟨S2x2x1024x2752, .bf16⟩
  | .hbm, ⟨5, _⟩ => ⟨S2x2x2752x1024, .f32⟩
  | .hbm, ⟨6, _⟩ => ⟨S16384x512, .bf16⟩
  | .hbm, ⟨7, _⟩ => ⟨S16384x512, .f32⟩
  | .hbm, ⟨8, _⟩ => ⟨S2x1024x1024, .f32⟩
  | .hbm, ⟨9, _⟩ => ⟨S2x8192x1024, .f32⟩
  | .hbm, ⟨10, _⟩ => ⟨S1x2x3x3x1x1024, .f32⟩
  | .hbm, ⟨11, _⟩ => ⟨S2x3x3x1x1024, .f32⟩
  | .hbm, ⟨12, _⟩ => ⟨S2x3x3x1024, .f32⟩
  | .hbm, ⟨13, _⟩ => ⟨S16384x512, .f32⟩
  | .hbm, ⟨14, _⟩ => ⟨S2x8192x512, .f32⟩
  | .hbm, ⟨15, _⟩ => ⟨S2x8192x512, .f32⟩
  | .hbm, ⟨16, _⟩ => ⟨S2x8192x1024, .f32⟩
  | .hbm, ⟨17, _⟩ => ⟨S2x1x1x1024, .f32⟩
  | .hbm, ⟨18, _⟩ => ⟨S2x1024, .f32⟩
  | .hbm, ⟨19, _⟩ => ⟨S2x1x1024, .f32⟩
  | .hbm, ⟨20, _⟩ => ⟨S1x1024x1024, .f32⟩
  | .hbm, ⟨21, _⟩ => ⟨S1024x1024, .f32⟩
  | .hbm, ⟨22, _⟩ => ⟨S2x8192x1024, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S_, .f32⟩
  | .hbm, ⟨28, _⟩ => ⟨S2x8192, .f32⟩
  | .hbm, ⟨29, _⟩ => ⟨S2x8192x1, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S_, .f32⟩
  | .hbm, ⟨34, _⟩ => ⟨S2x8192x1, .f32⟩
  | .hbm, ⟨35, _⟩ => ⟨S2x8192x1, .f32⟩
  | .hbm, ⟨36, _⟩ => ⟨S2x8192x1, .f32⟩
  | .hbm, ⟨37, _⟩ => ⟨S2x8192x1024, .f32⟩
  | .hbm, ⟨38, _⟩ => ⟨S2x8192x1024, .f32⟩
  | .hbm, ⟨39, _⟩ => ⟨S1x1x1024, .f32⟩
  | .hbm, ⟨40, _⟩ => ⟨S1024, .f32⟩
  | .hbm, ⟨41, _⟩ => ⟨S1x1x1024, .f32⟩
  | .hbm, ⟨42, _⟩ => ⟨S2x8192x1024, .f32⟩
  | .hbm, ⟨43, _⟩ => ⟨S2x8192x1024, .f32⟩
  | .hbm, ⟨44, _⟩ => ⟨S2x1x1x1024, .f32⟩
  | .hbm, ⟨45, _⟩ => ⟨S2x1024, .f32⟩
  | .hbm, ⟨46, _⟩ => ⟨S2x1x1024, .f32⟩
  | .hbm, ⟨47, _⟩ => ⟨S_, .f32⟩
  | .hbm, ⟨48, _⟩ => ⟨S2x1x1024, .f32⟩
  | .hbm, ⟨49, _⟩ => ⟨S2x1x1024, .f32⟩
  | .hbm, ⟨50, _⟩ => ⟨S2x8192x1024, .f32⟩
  | .hbm, ⟨51, _⟩ => ⟨S2x8192x1024, .f32⟩
  | .hbm, ⟨52, _⟩ => ⟨S2x1x1x1024, .f32⟩
  | .hbm, ⟨53, _⟩ => ⟨S2x1024, .f32⟩
  | .hbm, ⟨54, _⟩ => ⟨S2x1x1024, .f32⟩
  | .hbm, ⟨55, _⟩ => ⟨S2x8192x1024, .f32⟩
  | .hbm, ⟨56, _⟩ => ⟨S2x8192x1024, .f32⟩
  | .hbm, ⟨57, _⟩ => ⟨S1x1x1024x2752, .bf16⟩
  | .hbm, ⟨58, _⟩ => ⟨S1024x2752, .bf16⟩
  | .hbm, ⟨59, _⟩ => ⟨S1024x2752, .f32⟩
  | .hbm, ⟨60, _⟩ => ⟨S1x1x1024x2752, .bf16⟩
  | .hbm, ⟨61, _⟩ => ⟨S1024x2752, .bf16⟩
  | .hbm, ⟨62, _⟩ => ⟨S1024x2752, .f32⟩
  | .hbm, ⟨63, _⟩ => ⟨S1x1x2752x1024, .f32⟩
  | .hbm, ⟨64, _⟩ => ⟨S2752x1024, .f32⟩
  | .hbm, ⟨65, _⟩ => ⟨S2x1x1x1024, .f32⟩
  | .hbm, ⟨66, _⟩ => ⟨S2x1024, .f32⟩
  | .hbm, ⟨67, _⟩ => ⟨S2x1x1024, .f32⟩
  | .hbm, ⟨68, _⟩ => ⟨S_, .f32⟩
  | .hbm, ⟨69, _⟩ => ⟨S2x1x1024, .f32⟩
  | .hbm, ⟨70, _⟩ => ⟨S2x1x1024, .f32⟩
  | .hbm, ⟨71, _⟩ => ⟨S2x8192x2752, .f32⟩
  | .hbm, ⟨72, _⟩ => ⟨S2x8192x2752, .f32⟩
  | .hbm, ⟨73, _⟩ => ⟨S2x8192x2752, .f32⟩
  | .hbm, ⟨74, _⟩ => ⟨S_, .f32⟩
  | .hbm, ⟨75, _⟩ => ⟨S2x8192x2752, .f32⟩
  | .hbm, ⟨76, _⟩ => ⟨S2x8192x2752, .f32⟩
  | .hbm, ⟨77, _⟩ => ⟨S_, .f32⟩
  | .hbm, ⟨78, _⟩ => ⟨S2x8192x2752, .f32⟩
  | .hbm, ⟨79, _⟩ => ⟨S2x8192x2752, .f32⟩
  | .hbm, ⟨80, _⟩ => ⟨S2x8192x2752, .f32⟩
  | .hbm, ⟨81, _⟩ => ⟨S2x8192x2752, .f32⟩
  | .hbm, ⟨82, _⟩ => ⟨S2x8192x2752, .f32⟩
  | .hbm, ⟨83, _⟩ => ⟨S2x8192x1024, .f32⟩
  | .hbm, ⟨84, _⟩ => ⟨S2x8192x1024, .f32⟩
  | .hbm, ⟨85, _⟩ => ⟨S2x8192x1024, .f32⟩
  | .hbm, ⟨86, _⟩ => ⟨S2x8192x1024, .f32⟩
  | .hbm, ⟨87, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_3 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_call0_v0 : Ref sig .tc := ⟨.hbm, 72, rfl⟩
abbrev main_call0_v1 : Ref sig .tc := ⟨.hbm, 73, rfl⟩
abbrev main_call0_cst : Ref sig .tc := ⟨.hbm, 74, rfl⟩
abbrev main_call0_v2 : Ref sig .tc := ⟨.hbm, 75, rfl⟩
abbrev main_call0_v3 : Ref sig .tc := ⟨.hbm, 76, rfl⟩
abbrev main_call0_cst_0 : Ref sig .tc := ⟨.hbm, 77, rfl⟩
abbrev main_call0_v4 : Ref sig .tc := ⟨.hbm, 78, rfl⟩
abbrev main_call0_v5 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== Half.lean ====
abbrev S16384x1024 : Shape := ⟨2, ![16384, 1024]⟩
abbrev S2x3x1024 : Shape := ⟨3, ![2, 3, 1024]⟩
abbrev S2x2x3x3x1x1024 : Shape := ⟨6, ![2, 2, 3, 3, 1, 1024]⟩
abbrev S2x2x1024x2752 : Shape := ⟨4, ![2, 2, 1024, 2752]⟩
abbrev S2x2x2752x1024 : Shape := ⟨4, ![2, 2, 2752, 1024]⟩
abbrev S1x1x1024 : Shape := ⟨3, ![1, 1, 1024]⟩
abbrev S1024 : Shape := ⟨1, ![1024]⟩
abbrev S1x1024 : Shape := ⟨2, ![1, 1024]⟩
abbrev S1x2x1x1x1x1024 : Shape := ⟨6, ![1, 2, 1, 1, 1, 1024]⟩
abbrev S2x1x1024 : Shape := ⟨3, ![2, 1, 1024]⟩
abbrev S1024x1024 : Shape := ⟨2, ![1024, 1024]⟩
abbrev S1x1x1024x2752 : Shape := ⟨4, ![1, 1, 1024, 2752]⟩
abbrev S1x1x2752x1024 : Shape := ⟨4, ![1, 1, 2752, 1024]⟩
abbrev S1024x1 : Shape := ⟨2, ![1024, 1]⟩
abbrev S1x1x1024x256 : Shape := ⟨4, ![1, 1, 1024, 256]⟩
abbrev S1024x256 : Shape := ⟨2, ![1024, 256]⟩
abbrev S1x1x256x1024 : Shape := ⟨4, ![1, 1, 256, 1024]⟩
abbrev S256x1024 : Shape := ⟨2, ![256, 1024]⟩
abbrev S1x1x1024x192 : Shape := ⟨4, ![1, 1, 1024, 192]⟩
abbrev S1024x192 : Shape := ⟨2, ![1024, 192]⟩
abbrev S1x1x192x1024 : Shape := ⟨4, ![1, 1, 192, 1024]⟩
abbrev S192x1024 : Shape := ⟨2, ![192, 1024]⟩

abbrev nBuf : Space → Nat
  | .hbm => 17
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S2x3x1024, .f32⟩
  | .hbm, ⟨2, _⟩ => ⟨S2x2x3x3x1x1024, .f32⟩
  | .hbm, ⟨3, _⟩ => ⟨S2x2x1024x2752, .bf16⟩
  | .hbm, ⟨4, _⟩ => ⟨S2x2x1024x2752, .bf16⟩
  | .hbm, ⟨5, _⟩ => ⟨S2x2x2752x1024, .f32⟩
  | .hbm, ⟨6, _⟩ => ⟨S2x2x2752x1024, .bf16⟩
  | .hbm, ⟨7, _⟩ => ⟨S1x1x1024, .f32⟩
  | .hbm, ⟨8, _⟩ => ⟨S1024, .f32⟩
  | .hbm, ⟨9, _⟩ => ⟨S1x1024, .f32⟩
  | .hbm, ⟨10, _⟩ => ⟨S1x2x1x1x1x1024, .f32⟩
  | .hbm, ⟨11, _⟩ => ⟨S2x1x1024, .f32⟩
  | .hbm, ⟨12, _⟩ => ⟨S1x2x1x1x1x1024, .f32⟩
  | .hbm, ⟨13, _⟩ => ⟨S2x1x1024, .f32⟩
  | .hbm, ⟨14, _⟩ => ⟨S1x2x1x1x1x1024, .f32⟩
  | .hbm, ⟨15, _⟩ => ⟨S2x1x1024, .f32⟩
  | .hbm, ⟨16, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024x2752, .bf16⟩
  | .local _ .vmem, ⟨10, _⟩ => ⟨S1x1x1024x2752, .bf16⟩
  | .local _ .vmem, ⟨11, _⟩ => ⟨S1x1x2752x1024, .bf16⟩
  | .local _ .vmem, ⟨12, _⟩ => ⟨S1024x1024, .f32⟩
  | .local _ .vmem, ⟨13, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1024x2752 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024x2752 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x2752x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== HalfRefIdeal.lean ====
abbrev S16384x1024 : Shape := ⟨2, ![16384, 1024]⟩
abbrev S2x3x1024 : Shape := ⟨3, ![2, 3, 1024]⟩
abbrev S2x2x3x3x1x1024 : Shape := ⟨6, ![2, 2, 3, 3, 1, 1024]⟩
abbrev S2x2x1024x2752 : Shape := ⟨4, ![2, 2, 1024, 2752]⟩
abbrev S2x2x2752x1024 : Shape := ⟨4, ![2, 2, 2752, 1024]⟩
abbrev S2x8192x1024 : Shape := ⟨3, ![2, 8192, 1024]⟩
abbrev S1x2x3x3x1x1024 : Shape := ⟨6, ![1, 2, 3, 3, 1, 1024]⟩
abbrev S2x3x3x1x1024 : Shape := ⟨5, ![2, 3, 3, 1, 1024]⟩
abbrev S2x3x3x1024 : Shape := ⟨4, ![2, 3, 3, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024 : Shape := ⟨1, ![1024]⟩
abbrev S2x1x1x1024 : Shape := ⟨4, ![2, 1, 1, 1024]⟩
abbrev S2x1024 : Shape := ⟨2, ![2, 1024]⟩
abbrev S2x1x1024 : Shape := ⟨3, ![2, 1, 1024]⟩
abbrev S1x1x1024x2752 : Shape := ⟨4, ![1, 1, 1024, 2752]⟩
abbrev S1024x2752 : Shape := ⟨2, ![1024, 2752]⟩
abbrev S1x1x2752x1024 : Shape := ⟨4, ![1, 1, 2752, 1024]⟩
abbrev S2752x1024 : Shape := ⟨2, ![2752, 1024]⟩
abbrev S2x8192x2752 : Shape := ⟨3, ![2, 8192, 2752]⟩

abbrev nBuf : Space → Nat
  | .hbm => 72
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x3x1024, .f32⟩
  | .hbm, ⟨2, _⟩ => ⟨S2x2x3x3x1x1024, .f32⟩
  | .hbm, ⟨3, _⟩ => ⟨S2x2x1024x2752, .bf16⟩
  | .hbm, ⟨4, _⟩ => ⟨S2x2x1024x2752, .bf16⟩
  | .hbm, ⟨5, _⟩ => ⟨S2x2x2752x1024, .f32⟩
  | .hbm, ⟨6, _⟩ => ⟨S2x8192x1024, .f32⟩
  | .hbm, ⟨7, _⟩ => ⟨S1x2x3x3x1x1024, .f32⟩
  | .hbm, ⟨8, _⟩ => ⟨S2x3x3x1x1024, .f32⟩
  | .hbm, ⟨9, _⟩ => ⟨S2x3x3x1024, .f32⟩
  | .hbm, ⟨10, _⟩ => ⟨S2x8192x1024, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x1024, .f32⟩
  | .hbm, ⟨22, _⟩ => ⟨S2x8192x1024, .f32⟩
  | .hbm, ⟨23, _⟩ => ⟨S1x1x1024, .f32⟩
  | .hbm, ⟨24, _⟩ => ⟨S1024, .f32⟩
  | .hbm, ⟨25, _⟩ => ⟨S1x1x1024, .f32⟩
  | .hbm, ⟨26, _⟩ => ⟨S2x8192x1024, .f32⟩
  | .hbm, ⟨27, _⟩ => ⟨S2x8192x1024, .f32⟩
  | .hbm, ⟨28, _⟩ => ⟨S2x1x1x1024, .f32⟩
  | .hbm, ⟨29, _⟩ => ⟨S2x1024, .f32⟩
  | .hbm, ⟨30, _⟩ => ⟨S2x1x1024, .f32⟩
  | .hbm, ⟨31, _⟩ => ⟨S_, .f32⟩
  | .hbm, ⟨32, _⟩ => ⟨S2x1x1024, .f32⟩
  | .hbm, ⟨33, _⟩ => ⟨S2x1x1024, .f32⟩
  | .hbm, ⟨34, _⟩ => ⟨S2x8192x1024, .f32⟩
  | .hbm, ⟨35, _⟩ => ⟨S2x8192x1024, .f32⟩
  | .hbm, ⟨36, _⟩ => ⟨S2x1x1x1024, .f32⟩
  | .hbm, ⟨37, _⟩ => ⟨S2x1024, .f32⟩
  | .hbm, ⟨38, _⟩ => ⟨S2x1x1024, .f32⟩
  | .hbm, ⟨39, _⟩ => ⟨S2x8192x1024, .f32⟩
  | .hbm, ⟨40, _⟩ => ⟨S2x8192x1024, .f32⟩
  | .hbm, ⟨41, _⟩ => ⟨S1x1x1024x2752, .bf16⟩
  | .hbm, ⟨42, _⟩ => ⟨S1024x2752, .bf16⟩
  | .hbm, ⟨43, _⟩ => ⟨S1024x2752, .f32⟩
  | .hbm, ⟨44, _⟩ => ⟨S1x1x1024x2752, .bf16⟩
  | .hbm, ⟨45, _⟩ => ⟨S1024x2752, .bf16⟩
  | .hbm, ⟨46, _⟩ => ⟨S1024x2752, .f32⟩
  | .hbm, ⟨47, _⟩ => ⟨S1x1x2752x1024, .f32⟩
  | .hbm, ⟨48, _⟩ => ⟨S2752x1024, .f32⟩
  | .hbm, ⟨49, _⟩ => ⟨S2x1x1x1024, .f32⟩
  | .hbm, ⟨50, _⟩ => ⟨S2x1024, .f32⟩
  | .hbm, ⟨51, _⟩ => ⟨S2x1x1024, .f32⟩
  | .hbm, ⟨52, _⟩ => ⟨S_, .f32⟩
  | .hbm, ⟨53, _⟩ => ⟨S2x1x1024, .f32⟩
  | .hbm, ⟨54, _⟩ => ⟨S2x1x1024, .f32⟩
  | .hbm, ⟨55, _⟩ => ⟨S2x8192x2752, .f32⟩
  | .hbm, ⟨56, _⟩ => ⟨S2x8192x2752, .f32⟩
  | .hbm, ⟨57, _⟩ => ⟨S2x8192x2752, .f32⟩
  | .hbm, ⟨58, _⟩ => ⟨S_, .f32⟩
  | .hbm, ⟨59, _⟩ => ⟨S2x8192x2752, .f32⟩
  | .hbm, ⟨60, _⟩ => ⟨S2x8192x2752, .f32⟩
  | .hbm, ⟨61, _⟩ => ⟨S_, .f32⟩
  | .hbm, ⟨62, _⟩ => ⟨S2x8192x2752, .f32⟩
  | .hbm, ⟨63, _⟩ => ⟨S2x8192x2752, .f32⟩
  | .hbm, ⟨64, _⟩ => ⟨S2x8192x2752, .f32⟩
  | .hbm, ⟨65, _⟩ => ⟨S2x8192x2752, .f32⟩
  | .hbm, ⟨66, _⟩ => ⟨S2x8192x2752, .f32⟩
  | .hbm, ⟨67, _⟩ => ⟨S2x8192x1024, .f32⟩
  | .hbm, ⟨68, _⟩ => ⟨S2x8192x1024, .f32⟩
  | .hbm, ⟨69, _⟩ => ⟨S2x8192x1024, .f32⟩
  | .hbm, ⟨70, _⟩ => ⟨S2x8192x1024, .f32⟩
  | .hbm, ⟨71, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_3 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== Proj.lean ====
abbrev S16384x1024 : Shape := ⟨2, ![16384, 1024]⟩
abbrev S2x3x1024 : Shape := ⟨3, ![2, 3, 1024]⟩
abbrev S2x2x3x3x1x1024 : Shape := ⟨6, ![2, 2, 3, 3, 1, 1024]⟩
abbrev S2x1024x2304 : Shape := ⟨3, ![2, 1024, 2304]⟩
abbrev S1x2x64 : Shape := ⟨3, ![1, 2, 64]⟩
abbrev S4x4 : Shape := ⟨2, ![4, 4]⟩
abbrev S_ : Shape := ⟨0, ![]⟩
abbrev S64x64 : Shape := ⟨2, ![64, 64]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S1x1x1024 : Shape := ⟨3, ![1, 1, 1024]⟩
abbrev S1024 : Shape := ⟨1, ![1024]⟩
abbrev S1x1024 : Shape := ⟨2, ![1, 1024]⟩
abbrev S1x2x1x1x1x1024 : Shape := ⟨6, ![1, 2, 1, 1, 1, 1024]⟩
abbrev S2x1x1024 : Shape := ⟨3, ![2, 1, 1024]⟩
abbrev S1x1x64 : Shape := ⟨3, ![1, 1, 64]⟩
abbrev S64 : Shape := ⟨1, ![64]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S16384x512 : Shape := ⟨2, ![16384, 512]⟩
abbrev S16x128x1024 : Shape := ⟨3, ![16, 128, 1024]⟩
abbrev S16384x256 : Shape := ⟨2, ![16384, 256]⟩
abbrev S16384x1536 : Shape := ⟨2, ![16384, 1536]⟩
abbrev S1024x1024 : Shape := ⟨2, ![1024, 1024]⟩
abbrev S1x1024x2304 : Shape := ⟨3, ![1, 1024, 2304]⟩
abbrev S1024x512 : Shape := ⟨2, ![1024, 512]⟩
abbrev S1x128x1024 : Shape := ⟨3, ![1, 128, 1024]⟩
abbrev S1024x256 : Shape := ⟨2, ![1024, 256]⟩
abbrev S1024x1536 : Shape := ⟨2, ![1024, 1536]⟩
abbrev S1024x1 : Shape := ⟨2, ![1024, 1]⟩
abbrev S1x1024x512 : Shape := ⟨3, ![1, 1024, 512]⟩
abbrev S1x1024x128 : Shape := ⟨3, ![1, 1024, 128]⟩
abbrev S1024x128 : Shape := ⟨2, ![1024, 128]⟩
abbrev S128x128 : Shape := ⟨2, ![128, 128]⟩
abbrev S128x1024 : Shape := ⟨2, ![128, 1024]⟩
abbrev S1x1024x1536 : Shape := ⟨3, ![1, 1024, 1536]⟩

abbrev nBuf : Space → Nat
  | .hbm => 45
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S2x3x1024, .f32⟩
  | .hbm, ⟨2, _⟩ => ⟨S2x2x3x3x1x1024, .f32⟩
  | .hbm, ⟨3, _⟩ => ⟨S2x1024x2304, .f32⟩
  | .hbm, ⟨4, _⟩ => ⟨S1x2x64, .f32⟩
  | .hbm, ⟨5, _⟩ => ⟨S2x1024x2304, .bf16⟩
  | .hbm, ⟨6, _⟩ => ⟨S4x4, .i32⟩
  | .hbm, ⟨7, _⟩ => ⟨S4x4, .i32⟩
  | .hbm, ⟨8, _⟩ => ⟨S_, .i32⟩
  | .hbm, ⟨9, _⟩ => ⟨S4x4, .i32⟩
  | .hbm, ⟨10, _⟩ => ⟨S4x4, .i32⟩
  | .hbm, ⟨11, _⟩ => ⟨S4x4, .i1⟩
  | .hbm, ⟨12, _⟩ => ⟨S4x4, .f32⟩
  | .hbm, ⟨13, _⟩ => ⟨S_, .f32⟩
  | .hbm, ⟨14, _⟩ => ⟨S64x64, .f32⟩
  | .hbm, ⟨15, _⟩ => ⟨S4x1x4x1, .f32⟩
  | .hbm, ⟨16, _⟩ => ⟨S1x64x1x64, .f32⟩
  | .hbm, ⟨17, _⟩ => ⟨S4x64x4x64, .f32⟩
  | .hbm, ⟨18, _⟩ => ⟨S4x64x4x64, .f32⟩
  | .hbm, ⟨19, _⟩ => ⟨S4x64x4x64, .f32⟩
  | .hbm, ⟨20, _⟩ => ⟨S256x256, .f32⟩
  | .hbm, ⟨21, _⟩ => ⟨S256x256, .bf16⟩
  | .hbm, ⟨22, _⟩ => ⟨S1x1x1024, .f32⟩
  | .hbm, ⟨23, _⟩ => ⟨S1024, .f32⟩
  | .hbm, ⟨24, _⟩ => ⟨S1x1024, .f32⟩
  | .hbm, ⟨25, _⟩ => ⟨S1x2x1x1x1x1024, .f32⟩
  | .hbm, ⟨26, _⟩ => ⟨S2x1x1024, .f32⟩
  | .hbm, ⟨27, _⟩ => ⟨S1x2x1x1x1x1024, .f32⟩
  | .hbm, ⟨28, _⟩ => ⟨S2x1x1024, .f32⟩
  | .hbm, ⟨29, _⟩ => ⟨S1x1x64, .f32⟩
  | .hbm, ⟨30, _⟩ => ⟨S64, .f32⟩
  | .hbm, ⟨31, _⟩ => ⟨S1x64, .f32⟩
  | .hbm, ⟨32, _⟩ => ⟨S8x64, .f32⟩
  | .hbm, ⟨33, _⟩ => ⟨S512, .f32⟩
  | .hbm, ⟨34, _⟩ => ⟨S1x512, .f32⟩
  | .hbm, ⟨35, _⟩ => ⟨S1x1x64, .f32⟩
  | .hbm, ⟨36, _⟩ => ⟨S64, .f32⟩
  | .hbm, ⟨37, _⟩ => ⟨S1x64, .f32⟩
  | .hbm, ⟨38, _⟩ => ⟨S2x64, .f32⟩
  | .hbm, ⟨39, _⟩ => ⟨S128, .f32⟩
  | .hbm, ⟨40, _⟩ => ⟨S1x128, .f32⟩
  | .hbm, ⟨41, _⟩ => ⟨S16384x512, .bf16⟩
  | .hbm, ⟨42, _⟩ => ⟨S16x128x1024, .bf16⟩
  | .hbm, ⟨43, _⟩ => ⟨S16384x256, .bf16⟩
  | .hbm, ⟨44, _⟩ => ⟨S16384x1536, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024x2304, .bf16⟩
  | .local _ .vmem, ⟨8, _⟩ => ⟨S1x512, .f32⟩
  | .local _ .vmem, ⟨9, _⟩ => ⟨S1x128, .f32⟩
  | .local _ .vmem, ⟨10, _⟩ => ⟨S256x256, .bf16⟩
  | .local _ .vmem, ⟨11, _⟩ => ⟨S1024x512, .bf16⟩
  | .local _ .vmem, ⟨12, _⟩ => ⟨S1024x512, .bf16⟩
  | .local _ .vmem, ⟨13, _⟩ => ⟨S1x128x1024, .bf16⟩
  | .local _ .vmem, ⟨14, _⟩ => ⟨S1x128x1024, .bf16⟩
  | .local _ .vmem, ⟨15, _⟩ => ⟨S1024x256, .bf16⟩
  | .local _ .vmem, ⟨16, _⟩ => ⟨S1024x256, .bf16⟩
  | .local _ .vmem, ⟨17, _⟩ => ⟨S1024x1536, .f32⟩
  | .local _ .vmem, ⟨18, _⟩ => ⟨S1024x1536, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29_0 : Ref sig .tc := ⟨.hbm, 41, rfl⟩
abbrev main_v29_1 : Ref sig .tc := ⟨.hbm, 42, rfl⟩
abbrev main_v29_2 : Ref sig .tc := ⟨.hbm, 43, rfl⟩
abbrev main_v29_3 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjRefIdeal.lean ====
abbrev S16384x1024 : Shape := ⟨2, ![16384, 1024]⟩
abbrev S2x3x1024 : Shape := ⟨3, ![2, 3, 1024]⟩
abbrev S2x2x3x3x1x1024 : Shape := ⟨6, ![2, 2, 3, 3, 1, 1024]⟩
abbrev S2x1024x2304 : Shape := ⟨3, ![2, 1024, 2304]⟩
abbrev S1x2x64 : Shape := ⟨3, ![1, 2, 64]⟩
abbrev S2x8192x1024 : Shape := ⟨3, ![2, 8192, 1024]⟩
abbrev S1x2x3x3x1x1024 : Shape := ⟨6, ![1, 2, 3, 3, 1, 1024]⟩
abbrev S2x3x3x1x1024 : Shape := ⟨5, ![2, 3, 3, 1, 1024]⟩
abbrev S2x3x3x1024 : Shape := ⟨4, ![2, 3, 3, 1024]⟩
abbrev S1x1x1024 : Shape := ⟨3, ![1, 1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S2x1x1x1024 : Shape := ⟨4, ![2, 1, 1, 1024]⟩
abbrev S2x1024 : Shape := ⟨2, ![2, 1024]⟩
abbrev S2x1x1024 : Shape := ⟨3, ![2, 1, 1024]⟩
abbrev S1x1024x2304 : Shape := ⟨3, ![1, 1024, 2304]⟩
abbrev S1024x2304 : Shape := ⟨2, ![1024, 2304]⟩
abbrev S2x8192x2304 : Shape := ⟨3, ![2, 8192, 2304]⟩
abbrev S2x8192x512 : Shape := ⟨3, ![2, 8192, 512]⟩
abbrev S2x8192x8x64 : Shape := ⟨4, ![2, 8192, 8, 64]⟩
abbrev S1x1x64 : Shape := ⟨3, ![1, 1, 64]⟩
abbrev S64 : Shape := ⟨1, ![64]⟩
abbrev S2x8192x8 : Shape := ⟨3, ![2, 8192, 8]⟩
abbrev S2x8192x8x1 : Shape := ⟨4, ![2, 8192, 8, 1]⟩
abbrev S1x1x1x64 : Shape := ⟨4, ![1, 1, 1, 64]⟩
abbrev S2x8192x128 : Shape := ⟨3, ![2, 8192, 128]⟩
abbrev S2x8192x2x64 : Shape := ⟨4, ![2, 8192, 2, 64]⟩
abbrev S2x8192x2 : Shape := ⟨3, ![2, 8192, 2]⟩
abbrev S2x8192x2x1 : Shape := ⟨4, ![2, 8192, 2, 1]⟩
abbrev S2x8192x1536 : Shape := ⟨3, ![2, 8192, 1536]⟩
abbrev S16384x512 : Shape := ⟨2, ![16384, 512]⟩
abbrev S16x1024x128 : Shape := ⟨3, ![16, 1024, 128]⟩
abbrev S16x128x1024 : Shape := ⟨3, ![16, 128, 1024]⟩
abbrev S2x8192x2x128 : Shape := ⟨4, ![2, 8192, 2, 128]⟩
abbrev S16384x256 : Shape := ⟨2, ![16384, 256]⟩
abbrev S16384x1536 : Shape := ⟨2, ![16384, 1536]⟩

abbrev nBuf : Space → Nat
  | .hbm => 100
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x3x1024, .f32⟩
  | .hbm, ⟨2, _⟩ => ⟨S2x2x3x3x1x1024, .f32⟩
  | .hbm, ⟨3, _⟩ => ⟨S2x1024x2304, .f32⟩
  | .hbm, ⟨4, _⟩ => ⟨S1x2x64, .f32⟩
  | .hbm, ⟨5, _⟩ => ⟨S2x8192x1024, .f32⟩
  | .hbm, ⟨6, _⟩ => ⟨S1x2x3x3x1x1024, .f32⟩
  | .hbm, ⟨7, _⟩ => ⟨S2x3x3x1x1024, .f32⟩
  | .hbm, ⟨8, _⟩ => ⟨S2x3x3x1024, .f32⟩
  | .hbm, ⟨9, _⟩ => ⟨S1x1x1024, .f32⟩
  | .hbm, ⟨10, _⟩ => ⟨S1024, .f32⟩
  | .hbm, ⟨11, _⟩ => ⟨S2x8192x1024, .f32⟩
  | .hbm, ⟨12, _⟩ => ⟨S_, .f32⟩
  | .hbm, ⟨13, _⟩ => ⟨S2x8192, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S2x8192x1, .f32⟩
  | .hbm, ⟨22, _⟩ => ⟨S2x8192x1024, .f32⟩
  | .hbm, ⟨23, _⟩ => ⟨S2x8192x1024, .f32⟩
  | .hbm, ⟨24, _⟩ => ⟨S1x1x1024, .f32⟩
  | .hbm, ⟨25, _⟩ => ⟨S2x8192x1024, .f32⟩
  | .hbm, ⟨26, _⟩ => ⟨S2x8192x1024, .f32⟩
  | .hbm, ⟨27, _⟩ => ⟨S2x1x1x1024, .f32⟩
  | .hbm, ⟨28, _⟩ => ⟨S2x1024, .f32⟩
  | .hbm, ⟨29, _⟩ => ⟨S2x1x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x8192x1024, .f32⟩
  | .hbm, ⟨34, _⟩ => ⟨S2x8192x1024, .f32⟩
  | .hbm, ⟨35, _⟩ => ⟨S2x1x1x1024, .f32⟩
  | .hbm, ⟨36, _⟩ => ⟨S2x1024, .f32⟩
  | .hbm, ⟨37, _⟩ => ⟨S2x1x1024, .f32⟩
  | .hbm, ⟨38, _⟩ => ⟨S2x8192x1024, .f32⟩
  | .hbm, ⟨39, _⟩ => ⟨S2x8192x1024, .f32⟩
  | .hbm, ⟨40, _⟩ => ⟨S1x1024x2304, .f32⟩
  | .hbm, ⟨41, _⟩ => ⟨S1024x2304, .f32⟩
  | .hbm, ⟨42, _⟩ => ⟨S2x8192x2304, .f32⟩
  | .hbm, ⟨43, _⟩ => ⟨S2x8192x512, .f32⟩
  | .hbm, ⟨44, _⟩ => ⟨S2x8192x8x64, .f32⟩
  | .hbm, ⟨45, _⟩ => ⟨S1x1x64, .f32⟩
  | .hbm, ⟨46, _⟩ => ⟨S64, .f32⟩
  | .hbm, ⟨47, _⟩ => ⟨S2x8192x8x64, .f32⟩
  | .hbm, ⟨48, _⟩ => ⟨S_, .f32⟩
  | .hbm, ⟨49, _⟩ => ⟨S2x8192x8, .f32⟩
  | .hbm, ⟨50, _⟩ => ⟨S2x8192x8x1, .f32⟩
  | .hbm, ⟨51, _⟩ => ⟨S_, .f32⟩
  | .hbm, ⟨52, _⟩ => ⟨S2x8192x8x1, .f32⟩
  | .hbm, ⟨53, _⟩ => ⟨S2x8192x8x1, .f32⟩
  | .hbm, ⟨54, _⟩ => ⟨S_, .f32⟩
  | .hbm, ⟨55, _⟩ => ⟨S2x8192x8x1, .f32⟩
  | .hbm, ⟨56, _⟩ => ⟨S2x8192x8x1, .f32⟩
  | .hbm, ⟨57, _⟩ => ⟨S2x8192x8x1, .f32⟩
  | .hbm, ⟨58, _⟩ => ⟨S2x8192x8x64, .f32⟩
  | .hbm, ⟨59, _⟩ => ⟨S2x8192x8x64, .f32⟩
  | .hbm, ⟨60, _⟩ => ⟨S1x1x1x64, .f32⟩
  | .hbm, ⟨61, _⟩ => ⟨S2x8192x8x64, .f32⟩
  | .hbm, ⟨62, _⟩ => ⟨S2x8192x8x64, .f32⟩
  | .hbm, ⟨63, _⟩ => ⟨S_, .f32⟩
  | .hbm, ⟨64, _⟩ => ⟨S2x8192x8x64, .f32⟩
  | .hbm, ⟨65, _⟩ => ⟨S2x8192x8x64, .f32⟩
  | .hbm, ⟨66, _⟩ => ⟨S2x8192x128, .f32⟩
  | .hbm, ⟨67, _⟩ => ⟨S2x8192x2x64, .f32⟩
  | .hbm, ⟨68, _⟩ => ⟨S1x1x64, .f32⟩
  | .hbm, ⟨69, _⟩ => ⟨S64, .f32⟩
  | .hbm, ⟨70, _⟩ => ⟨S2x8192x2x64, .f32⟩
  | .hbm, ⟨71, _⟩ => ⟨S_, .f32⟩
  | .hbm, ⟨72, _⟩ => ⟨S2x8192x2, .f32⟩
  | .hbm, ⟨73, _⟩ => ⟨S2x8192x2x1, .f32⟩
  | .hbm, ⟨74, _⟩ => ⟨S_, .f32⟩
  | .hbm, ⟨75, _⟩ => ⟨S2x8192x2x1, .f32⟩
  | .hbm, ⟨76, _⟩ => ⟨S2x8192x2x1, .f32⟩
  | .hbm, ⟨77, _⟩ => ⟨S_, .f32⟩
  | .hbm, ⟨78, _⟩ => ⟨S2x8192x2x1, .f32⟩
  | .hbm, ⟨79, _⟩ => ⟨S2x8192x2x1, .f32⟩
  | .hbm, ⟨80, _⟩ => ⟨S2x8192x2x1, .f32⟩
  | .hbm, ⟨81, _⟩ => ⟨S2x8192x2x64, .f32⟩
  | .hbm, ⟨82, _⟩ => ⟨S2x8192x2x64, .f32⟩
  | .hbm, ⟨83, _⟩ => ⟨S1x1x1x64, .f32⟩
  | .hbm, ⟨84, _⟩ => ⟨S2x8192x2x64, .f32⟩
  | .hbm, ⟨85, _⟩ => ⟨S2x8192x2x64, .f32⟩
  | .hbm, ⟨86, _⟩ => ⟨S2x8192x128, .f32⟩
  | .hbm, ⟨87, _⟩ => ⟨S2x8192x2x64, .f32⟩
  | .hbm, ⟨88, _⟩ => ⟨S2x8192x1536, .f32⟩
  | .hbm, ⟨89, _⟩ => ⟨S16384x512, .f32⟩
  | .hbm, ⟨90, _⟩ => ⟨S16384x512, .bf16⟩
  | .hbm, ⟨91, _⟩ => ⟨S16x1024x128, .f32⟩
  | .hbm, ⟨92, _⟩ => ⟨S16x128x1024, .f32⟩
  | .hbm, ⟨93, _⟩ => ⟨S16x128x1024, .bf16⟩
  | .hbm, ⟨94, _⟩ => ⟨S_, .f32⟩
  | .hbm, ⟨95, _⟩ => ⟨S2x8192x2x64, .f32⟩
  | .hbm, ⟨96, _⟩ => ⟨S2x8192x2x128, .f32⟩
  | .hbm, ⟨97, _⟩ => ⟨S16384x256, .f32⟩
  | .hbm, ⟨98, _⟩ => ⟨S16384x256, .bf16⟩
  | .hbm, ⟨99, _⟩ => ⟨S16384x1536, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_7 : Ref sig .tc := ⟨.hbm, 71, rfl⟩
abbrev main_v58 : Ref sig .tc := ⟨.hbm, 72, rfl⟩
abbrev main_v59 : Ref sig .tc := ⟨.hbm, 73, rfl⟩
abbrev main_cst_8 : Ref sig .tc := ⟨.hbm, 74, rfl⟩
abbrev main_v60 : Ref sig .tc := ⟨.hbm, 75, rfl⟩
abbrev main_v61 : Ref sig .tc := ⟨.hbm, 76, rfl⟩
abbrev main_cst_9 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_10 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩

abbrev nD : Nat := 1
abbrev τ : Topo := Topo.v7x

variable {F : FTy → Type} [FloatOps F]
-- ==== Rope.lean ====
abbrev S16384x1024 : Shape := ⟨2, ![16384, 1024]⟩
abbrev S2x3x1024 : Shape := ⟨3, ![2, 3, 1024]⟩
abbrev S2x2x3x3x1x1024 : Shape := ⟨6, ![2, 2, 3, 3, 1, 1024]⟩
abbrev S2x1024x2304 : Shape := ⟨3, ![2, 1024, 2304]⟩
abbrev S1x2x64 : Shape := ⟨3, ![1, 2, 64]⟩
abbrev S1x3x1536 : Shape := ⟨3, ![1, 3, 1536]⟩
abbrev S1x1536 : Shape := ⟨2, ![1, 1536]⟩
abbrev S4x4 : Shape := ⟨2, ![4, 4]⟩
abbrev S_ : Shape := ⟨0, ![]⟩
abbrev S64x64 : Shape := ⟨2, ![64, 64]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8192x32x2 : Shape := ⟨3, ![8192, 32, 2]⟩
abbrev S8192x64 : Shape := ⟨2, ![8192, 64]⟩
abbrev S64 : Shape := ⟨1, ![64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x64 : Shape := ⟨2, ![1, 64]⟩
abbrev S3x1536 : Shape := ⟨2, ![3, 1536]⟩
abbrev S1536 : Shape := ⟨1, ![1536]⟩
abbrev S1x1x1024 : Shape := ⟨3, ![1, 1, 1024]⟩
abbrev S1024 : Shape := ⟨1, ![1024]⟩
abbrev S1x1024 : Shape := ⟨2, ![1, 1024]⟩
abbrev S1x2x1x1x1x1024 : Shape := ⟨6, ![1, 2, 1, 1, 1, 1024]⟩
abbrev S2x1x1024 : Shape := ⟨3, ![2, 1, 1024]⟩
abbrev S1x1x64 : Shape := ⟨3, ![1, 1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S16384x512 : Shape := ⟨2, ![16384, 512]⟩
abbrev S16x128x1024 : Shape := ⟨3, ![16, 128, 1024]⟩
abbrev S16384x256 : Shape := ⟨2, ![16384, 256]⟩
abbrev S1024x1024 : Shape := ⟨2, ![1024, 1024]⟩
abbrev S1x1024x2304 : Shape := ⟨3, ![1, 1024, 2304]⟩
abbrev S1024x128 : Shape := ⟨2, ![1024, 128]⟩
abbrev S16x1024 : Shape := ⟨2, ![16, 1024]⟩
abbrev S1024x512 : Shape := ⟨2, ![1024, 512]⟩
abbrev S1x128x1024 : Shape := ⟨3, ![1, 128, 1024]⟩
abbrev S1024x256 : Shape := ⟨2, ![1024, 256]⟩
abbrev S1024x1 : Shape := ⟨2, ![1024, 1]⟩
abbrev S1x1024x512 : Shape := ⟨3, ![1, 1024, 512]⟩
abbrev S1x1024x128 : Shape := ⟨3, ![1, 1024, 128]⟩
abbrev S128x128 : Shape := ⟨2, ![128, 128]⟩
abbrev S128x1024 : Shape := ⟨2, ![128, 1024]⟩
abbrev S16x1 : Shape := ⟨2, ![16, 1]⟩
abbrev S1056x1024 : Shape := ⟨2, ![1056, 1024]⟩
abbrev S1x1024x1536 : Shape := ⟨3, ![1, 1024, 1536]⟩
abbrev S1024x1536 : Shape := ⟨2, ![1024, 1536]⟩
abbrev S1056x1536 : Shape := ⟨2, ![1056, 1536]⟩

abbrev nBuf : Space → Nat
  | .hbm => 164
  | .vmem => 31
  | .smem => 0
  | _ => 0

abbrev hbmTy0_0 (i : Nat) : BufTy := match i % 128 with
  | 0 => ⟨S16384x1024, .f32⟩
  | 1 => ⟨S2x3x1024, .f32⟩
  | 2 => ⟨S2x2x3x3x1x1024, .f32⟩
  | 3 => ⟨S2x1024x2304, .f32⟩
  | 4 => ⟨S1x2x64, .f32⟩
  | 5 => ⟨S1x3x1536, .f32⟩
  | 6 => ⟨S1x1536, .f32⟩
  | 7 => ⟨S2x1024x2304, .bf16⟩
  | 8 => ⟨S4x4, .i32⟩
  | 9 => ⟨S4x4, .i32⟩
  | 10 => ⟨S_, .i32⟩
  | 11 => ⟨S4x4, .i32⟩
  | 12 => ⟨S4x4, .i32⟩
  | 13 => ⟨S4x4, .i1⟩
  | 14 => ⟨S4x4, .f32⟩
  | 15 => ⟨S_, .f32⟩
  | 16 => ⟨S64x64, .f32⟩
  | 17 => ⟨S4x1x4x1, .f32⟩
  | 18 => ⟨S1x64x1x64, .f32⟩
  | 19 => ⟨S4x64x4x64, .f32⟩
  | 20 => ⟨S4x64x4x64, .f32⟩
  | 21 => ⟨S4x64x4x64, .f32⟩
  | 22 => ⟨S256x256, .f32⟩
  | 23 => ⟨S256x256, .bf16⟩
  | 24 => ⟨S8192, .i32⟩
  | 25 => ⟨S_, .i32⟩
  | 26 => ⟨S_, .i32⟩
  | 27 => ⟨S8192, .i32⟩
  | 28 => ⟨S8192, .i32⟩
  | 29 => ⟨S8192, .i32⟩
  | 30 => ⟨S_, .i32⟩
  | 31 => ⟨S8192, .i32⟩
  | 32 => ⟨S8192, .i1⟩
  | 33 => ⟨S8192, .i32⟩
  | 34 => ⟨S8192, .i32⟩
  | 35 => ⟨S_, .i32⟩
  | 36 => ⟨S8192, .i32⟩
  | 37 => ⟨S8192, .i1⟩
  | 38 => ⟨S8192, .i1⟩
  | 39 => ⟨S_, .i32⟩
  | 40 => ⟨S8192, .i32⟩
  | 41 => ⟨S8192, .i32⟩
  | 42 => ⟨S8192, .i32⟩
  | 43 => ⟨S8192, .f32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S8192, .i32⟩
  | 51 => ⟨S8192, .i32⟩
  | 52 => ⟨S_, .i32⟩
  | 53 => ⟨S8192, .i32⟩
  | 54 => ⟨S8192, .i1⟩
  | 55 => ⟨S_, .i32⟩
  | 56 => ⟨S8192, .i32⟩
  | 57 => ⟨S8192, .i1⟩
  | 58 => ⟨S_, .i32⟩
  | 59 => ⟨S_, .i1⟩
  | 60 => ⟨S8192, .i1⟩
  | 61 => ⟨S8192, .i1⟩
  | 62 => ⟨S8192, .i1⟩
  | 63 => ⟨S8192, .i32⟩
  | 64 => ⟨S8192, .i32⟩
  | 65 => ⟨S8192, .i32⟩
  | 66 => ⟨S8192, .f32⟩
  | 67 => ⟨S16, .f32⟩
  | 68 => ⟨S_, .f32⟩
  | 69 => ⟨S16, .f32⟩
  | 70 => ⟨S16, .f32⟩
  | 71 => ⟨S_, .f32⟩
  | 72 => ⟨S16, .f32⟩
  | 73 => ⟨S16, .f32⟩
  | 74 => ⟨S16, .f32⟩
  | 75 => ⟨S_, .f32⟩
  | 76 => ⟨S16, .f32⟩
  | 77 => ⟨S16, .f32⟩
  | 78 => ⟨S_, .f32⟩
  | 79 => ⟨S16, .f32⟩
  | 80 => ⟨S16, .f32⟩
  | 81 => ⟨S8192x1, .f32⟩
  | 82 => ⟨S1x16, .f32⟩
  | 83 => ⟨S8192x16, .f32⟩
  | 84 => ⟨S8192x16, .f32⟩
  | 85 => ⟨S8192x16, .f32⟩
  | 86 => ⟨S8192x1, .f32⟩
  | 87 => ⟨S1x16, .f32⟩
  | 88 => ⟨S8192x16, .f32⟩
  | 89 => ⟨S8192x16, .f32⟩
  | 90 => ⟨S8192x16, .f32⟩
  | 91 => ⟨S8192x32, .f32⟩
  | 92 => ⟨S8192x32x2, .f32⟩
  | 93 => ⟨S8192x64, .f32⟩
  | 94 => ⟨S64, .i32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S64, .i32⟩
  | 102 => ⟨S64, .i32⟩
  | 103 => ⟨S_, .i32⟩
  | 104 => ⟨S64, .i32⟩
  | 105 => ⟨S64, .i1⟩
  | 106 => ⟨S_, .i32⟩
  | 107 => ⟨S64, .i32⟩
  | 108 => ⟨S64, .i1⟩
  | 109 => ⟨S_, .i32⟩
  | 110 => ⟨S_, .i1⟩
  | 111 => ⟨S64, .i1⟩
  | 112 => ⟨S64, .i1⟩
  | 113 => ⟨S64, .i1⟩
  | 114 => ⟨S64, .i32⟩
  | 115 => ⟨S64, .i32⟩
  | 116 => ⟨S64, .i32⟩
  | 117 => ⟨S_, .i32⟩
  | 118 => ⟨S64, .i32⟩
  | 119 => ⟨S64, .i1⟩
  | 120 => ⟨S_, .f32⟩
  | 121 => ⟨S_, .f32⟩
  | 122 => ⟨S64, .f32⟩
  | 123 => ⟨S64, .f32⟩
  | 124 => ⟨S64, .f32⟩
  | 125 => ⟨S64, .f32⟩
  | 126 => ⟨S8192x64, .f32⟩
  | 127 => ⟨S1x8192x1x64, .f32⟩
  | _ => ⟨S16384x1024, .f32⟩

abbrev hbmTy0_1 (i : Nat) : BufTy := match i % 128 with
  | 0 => ⟨S1x8192x2x64, .f32⟩
  | 1 => ⟨S8192x128, .f32⟩
  | 2 => ⟨S8192x64, .f32⟩
  | 3 => ⟨S1x64, .f32⟩
  | 4 => ⟨S8192x64, .f32⟩
  | 5 => ⟨S8192x64, .f32⟩
  | 6 => ⟨S1x8192x1x64, .f32⟩
  | 7 => ⟨S1x8192x2x64, .f32⟩
  | 8 => ⟨S8192x128, .f32⟩
  | 9 => ⟨S3x1536, .f32⟩
  | 10 => ⟨S1536, .f32⟩
  | 11 => ⟨S1x1536, .f32⟩
  | 12 => ⟨S1x1x1024, .f32⟩
  | 13 => ⟨S1024, .f32⟩
  | 14 => ⟨S1x1024, .f32⟩
  | 15 => ⟨S1x2x1x1x1x1024, .f32⟩
  | 16 => ⟨S2x1x1024, .f32⟩
  | 17 => ⟨S1x2x1x1x1x1024, .f32⟩
  | 18 => ⟨S2x1x1024, .f32⟩
  | 19 => ⟨S1x1x64, .f32⟩
  | 20 => ⟨S64, .f32⟩
  | 21 => ⟨S1x64, .f32⟩
  | 22 => ⟨S8x64, .f32⟩
  | 23 => ⟨S512, .f32⟩
  | 24 => ⟨S1x512, .f32⟩
  | 25 => ⟨S1x1x64, .f32⟩
  | 26 => ⟨S64, .f32⟩
  | 27 => ⟨S1x64, .f32⟩
  | 28 => ⟨S2x64, .f32⟩
  | 29 => ⟨S128, .f32⟩
  | 30 => ⟨S1x128, .f32⟩
  | 31 => ⟨S16384x512, .bf16⟩
  | 32 => ⟨S16x128x1024, .bf16⟩
  | 33 => ⟨S16384x256, .bf16⟩
  | 34 => ⟨S16384x512, .f32⟩
  | 35 => ⟨S16384x512, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024x2304, .bf16⟩
  | .local _ .vmem, ⟨8, _⟩ => ⟨S1x512, .f32⟩
  | .local _ .vmem, ⟨9, _⟩ => ⟨S1x128, .f32⟩
  | .local _ .vmem, ⟨10, _⟩ => ⟨S256x256, .bf16⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S16x1024, .f32⟩
  | .local _ .vmem, ⟨16, _⟩ => ⟨S16x1024, .f32⟩
  | .local _ .vmem, ⟨17, _⟩ => ⟨S16x1024, .f32⟩
  | .local _ .vmem, ⟨18, _⟩ => ⟨S16x1024, .f32⟩
  | .local _ .vmem, ⟨19, _⟩ => ⟨S3x1536, .f32⟩
  | .local _ .vmem, ⟨20, _⟩ => ⟨S1x1536, .f32⟩
  | .local _ .vmem, ⟨21, _⟩ => ⟨S1024x512, .bf16⟩
  | .local _ .vmem, ⟨22, _⟩ => ⟨S1024x512, .bf16⟩
  | .local _ .vmem, ⟨23, _⟩ => ⟨S1x128x1024, .bf16⟩
  | .local _ .vmem, ⟨24, _⟩ => ⟨S1x128x1024, .bf16⟩
  | .local _ .vmem, ⟨25, _⟩ => ⟨S1024x256, .bf16⟩
  | .local _ .vmem, ⟨26, _⟩ => ⟨S1024x256, .bf16⟩
  | .local _ .vmem, ⟨27, _⟩ => ⟨S1024x512, .f32⟩
  | .local _ .vmem, ⟨28, _⟩ => ⟨S1024x512, .f32⟩
  | .local _ .vmem, ⟨29, _⟩ => ⟨S1024x512, .f32⟩
  | .local _ .vmem, ⟨30, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v11 : Ref sig .tc := ⟨.hbm, 42, rfl⟩
abbrev main_v12 : Ref sig .tc := ⟨.hbm, 43, rfl⟩
abbrev main_c_1 : Ref sig .tc := ⟨.hbm, 44, rfl⟩
abbrev main_call2_v0 : Ref sig .tc := ⟨.hbm, 45, rfl⟩
abbrev main_call2_c : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_c_1 : Ref sig .tc := ⟨.hbm, 52, rfl⟩
abbrev main_call2_v5 : Ref sig .tc := ⟨.hbm, 53, rfl⟩
abbrev main_call2_v6 : Ref sig .tc := ⟨.hbm, 54, rfl⟩
abbrev main_call2_c_2 : Ref sig .tc := ⟨.hbm, 55, rfl⟩
abbrev main_call2_v7 : Ref sig .tc := ⟨.hbm, 56, rfl⟩
abbrev main_call2_v8 : Ref sig .tc := ⟨.hbm, 57, rfl⟩
abbrev main_call2_c_3 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_v12 : Ref sig .tc := ⟨.hbm, 62, rfl⟩
abbrev main_call2_v13 : Ref sig .tc := ⟨.hbm, 63, rfl⟩
abbrev main_call2_v14 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_cst_2 : Ref sig .tc := ⟨.hbm, 68, rfl⟩
abbrev main_v16 : Ref sig .tc := ⟨.hbm, 69, rfl⟩
abbrev main_v17 : Ref sig .tc := ⟨.hbm, 70, rfl⟩
abbrev main_cst_3 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_cst_4 : Ref sig .tc := ⟨.hbm, 75, rfl⟩
abbrev main_v21 : Ref sig .tc := ⟨.hbm, 76, rfl⟩
abbrev main_v22 : Ref sig .tc := ⟨.hbm, 77, rfl⟩
abbrev main_cst_5 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_c_6 : Ref sig .tc := ⟨.hbm, 95, rfl⟩
abbrev main_call3_v0 : Ref sig .tc := ⟨.hbm, 96, rfl⟩
abbrev main_call3_c : Ref sig .tc := ⟨.hbm, 97, rfl⟩
abbrev main_call3_v1 : Ref sig .tc := ⟨.hbm, 98, rfl⟩
abbrev main_call3_c_0 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_call3_c_1 : Ref sig .tc := ⟨.hbm, 103, rfl⟩
abbrev main_call3_v5 : Ref sig .tc := ⟨.hbm, 104, rfl⟩
abbrev main_call3_v6 : Ref sig .tc := ⟨.hbm, 105, rfl⟩
abbrev main_call3_c_2 : Ref sig .tc := ⟨.hbm, 106, rfl⟩
abbrev main_call3_v7 : Ref sig .tc := ⟨.hbm, 107, rfl⟩
abbrev main_call3_v8 : Ref sig .tc := ⟨.hbm, 108, rfl⟩
abbrev main_call3_c_3 : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_call3_v12 : Ref sig .tc := ⟨.hbm, 113, rfl⟩
abbrev main_call3_v13 : Ref sig .tc := ⟨.hbm, 114, rfl⟩
abbrev main_call3_v14 : Ref sig .tc := ⟨.hbm, 115, rfl⟩
abbrev main_v39 : Ref sig .tc := ⟨.hbm, 116, rfl⟩
abbrev main_c_7 : Ref sig .tc := ⟨.hbm, 117, rfl⟩
abbrev main_v40 : Ref sig .tc := ⟨.hbm, 118, rfl⟩
abbrev main_v41 : Ref sig .tc := ⟨.hbm, 119, rfl⟩
abbrev main_cst_8 : Ref sig .tc := ⟨.hbm, 120, rfl⟩
abbrev main_cst_9 : Ref sig .tc := ⟨.hbm, 121, rfl⟩
abbrev main_call4_v0 : Ref sig .tc := ⟨.hbm, 122, rfl⟩
abbrev main_call4_v1 : Ref sig .tc := ⟨.hbm, 123, rfl⟩
abbrev main_v42 : Ref sig .tc := ⟨.hbm, 124, rfl⟩
abbrev main_v43 : Ref sig .tc := ⟨.hbm, 125, rfl⟩
abbrev main_v44 : Ref sig .tc := ⟨.hbm, 126, rfl⟩
abbrev main_v45 : Ref sig .tc := ⟨.hbm, 127, rfl⟩
abbrev main_v46 : Ref sig .tc := ⟨.hbm, 128, rfl⟩
abbrev main_v47 : Ref sig .tc := ⟨.hbm, 129, rfl⟩
abbrev main_v48 : Ref sig .tc := ⟨.hbm, 130, rfl⟩
abbrev main_v49 : Ref sig .tc := ⟨.hbm, 131, rfl⟩
abbrev main_v50 : Ref sig .tc := ⟨.hbm, 132, rfl⟩
abbrev main_v51 : Ref sig .tc := ⟨.hbm, 133, rfl⟩
abbrev main_v52 : Ref sig .tc := ⟨.hbm, 134, rfl⟩
abbrev main_v53 : Ref sig .tc := ⟨.hbm, 135, rfl⟩
abbrev main_v54 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_v59 : Ref sig .tc := ⟨.hbm, 141, rfl⟩
abbrev main_v60 : Ref sig .tc := ⟨.hbm, 142, rfl⟩
abbrev main_v61 : Ref sig .tc := ⟨.hbm, 143, rfl⟩
abbrev main_v62 : Ref sig .tc := ⟨.hbm, 144, rfl⟩
abbrev main_v63 : Ref sig .tc := ⟨.hbm, 145, rfl⟩
abbrev main_v64 : Ref sig .tc := ⟨.hbm, 146, rfl⟩
abbrev main_v65 : Ref sig .tc := ⟨.hbm, 147, rfl⟩
abbrev main_v66 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_v70 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77_0 : Ref sig .tc := ⟨.hbm, 159, rfl⟩
abbrev main_v77_1 : Ref sig .tc := ⟨.hbm, 160, rfl⟩
abbrev main_v77_2 : Ref sig .tc := ⟨.hbm, 161, rfl⟩
abbrev main_v77_3 : Ref sig .tc := ⟨.hbm, 162, rfl⟩
abbrev main_v77_4 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S3x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== RopeIdeal.lean ====
variable {F : FTy → Type} [FloatOps F] [Named F]
def κ : String → Option EReal := fun
  | "score_scale" => some (((1 / 8) * (Real.log 2)⁻¹ : ℝ) : EReal)
  | _ => none
-- ==== RopeRefIdeal.lean ====
abbrev S16384x1024 : Shape := ⟨2, ![16384, 1024]⟩
abbrev S2x3x1024 : Shape := ⟨3, ![2, 3, 1024]⟩
abbrev S2x2x3x3x1x1024 : Shape := ⟨6, ![2, 2, 3, 3, 1, 1024]⟩
abbrev S2x1024x2304 : Shape := ⟨3, ![2, 1024, 2304]⟩
abbrev S1x2x64 : Shape := ⟨3, ![1, 2, 64]⟩
abbrev S1x3x1536 : Shape := ⟨3, ![1, 3, 1536]⟩
abbrev S1x1536 : Shape := ⟨2, ![1, 1536]⟩
abbrev S2x8192x1024 : Shape := ⟨3, ![2, 8192, 1024]⟩
abbrev S1x2x3x3x1x1024 : Shape := ⟨6, ![1, 2, 3, 3, 1, 1024]⟩
abbrev S2x3x3x1x1024 : Shape := ⟨5, ![2, 3, 3, 1, 1024]⟩
abbrev S2x3x3x1024 : Shape := ⟨4, ![2, 3, 3, 1024]⟩
abbrev S1x1x1024 : Shape := ⟨3, ![1, 1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S2x1x1x1024 : Shape := ⟨4, ![2, 1, 1, 1024]⟩
abbrev S2x1024 : Shape := ⟨2, ![2, 1024]⟩
abbrev S2x1x1024 : Shape := ⟨3, ![2, 1, 1024]⟩
abbrev S1x1024x2304 : Shape := ⟨3, ![1, 1024, 2304]⟩
abbrev S1024x2304 : Shape := ⟨2, ![1024, 2304]⟩
abbrev S2x8192x2304 : Shape := ⟨3, ![2, 8192, 2304]⟩
abbrev S2x8192x512 : Shape := ⟨3, ![2, 8192, 512]⟩
abbrev S2x8192x8x64 : Shape := ⟨4, ![2, 8192, 8, 64]⟩
abbrev S1x1x64 : Shape := ⟨3, ![1, 1, 64]⟩
abbrev S64 : Shape := ⟨1, ![64]⟩
abbrev S2x8192x8 : Shape := ⟨3, ![2, 8192, 8]⟩
abbrev S2x8192x8x1 : Shape := ⟨4, ![2, 8192, 8, 1]⟩
abbrev S1x1x1x64 : Shape := ⟨4, ![1, 1, 1, 64]⟩
abbrev S128 : Shape := ⟨1, ![128]⟩
abbrev S128x64 : Shape := ⟨2, ![128, 64]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S1x8192x1x32 : Shape := ⟨4, ![1, 8192, 1, 32]⟩
abbrev S2x8192x8x32 : Shape := ⟨4, ![2, 8192, 8, 32]⟩
abbrev S2x8192x8x32x1 : Shape := ⟨5, ![2, 8192, 8, 32, 1]⟩
abbrev S2x8192x8x32x2 : Shape := ⟨5, ![2, 8192, 8, 32, 2]⟩
abbrev S2x8192x128 : Shape := ⟨3, ![2, 8192, 128]⟩
abbrev S2x8192x2x64 : Shape := ⟨4, ![2, 8192, 2, 64]⟩
abbrev S2x8192x2 : Shape := ⟨3, ![2, 8192, 2]⟩
abbrev S2x8192x2x1 : Shape := ⟨4, ![2, 8192, 2, 1]⟩
abbrev S2x8192x2x32 : Shape := ⟨4, ![2, 8192, 2, 32]⟩
abbrev S2x8192x2x32x1 : Shape := ⟨5, ![2, 8192, 2, 32, 1]⟩
abbrev S2x8192x2x32x2 : Shape := ⟨5, ![2, 8192, 2, 32, 2]⟩
abbrev S2x8192x1536 : Shape := ⟨3, ![2, 8192, 1536]⟩
abbrev S2x8194x1536 : Shape := ⟨3, ![2, 8194, 1536]⟩
abbrev S3x1536 : Shape := ⟨2, ![3, 1536]⟩
abbrev S1536 : Shape := ⟨1, ![1536]⟩
abbrev S1x1x1536 : Shape := ⟨3, ![1, 1, 1536]⟩
abbrev S16384x512 : Shape := ⟨2, ![16384, 512]⟩
abbrev S16x1024x128 : Shape := ⟨3, ![16, 1024, 128]⟩
abbrev S16x128x1024 : Shape := ⟨3, ![16, 128, 1024]⟩
abbrev S2x8192x2x128 : Shape := ⟨4, ![2, 8192, 2, 128]⟩
abbrev S16384x256 : Shape := ⟨2, ![16384, 256]⟩

abbrev nBuf : Space → Nat
  | .hbm => 244
  | .vmem => 0
  | .smem => 0
  | _ => 0

abbrev hbmTy0_0 (i : Nat) : BufTy := match i % 128 with
  | 0 => ⟨S16384x1024, .f32⟩
  | 1 => ⟨S2x3x1024, .f32⟩
  | 2 => ⟨S2x2x3x3x1x1024, .f32⟩
  | 3 => ⟨S2x1024x2304, .f32⟩
  | 4 => ⟨S1x2x64, .f32⟩
  | 5 => ⟨S1x3x1536, .f32⟩
  | 6 => ⟨S1x1536, .f32⟩
  | 7 => ⟨S2x8192x1024, .f32⟩
  | 8 => ⟨S1x2x3x3x1x1024, .f32⟩
  | 9 => ⟨S2x3x3x1x1024, .f32⟩
  | 10 => ⟨S2x3x3x1024, .f32⟩
  | 11 => ⟨S1x1x1024, .f32⟩
  | 12 => ⟨S1024, .f32⟩
  | 13 => ⟨S2x8192x1024, .f32⟩
  | 14 => ⟨S_, .f32⟩
  | 15 => ⟨S2x8192, .f32⟩
  | 16 => ⟨S2x8192x1, .f32⟩
  | 17 => ⟨S_, .f32⟩
  | 18 => ⟨S2x8192x1, .f32⟩
  | 19 => ⟨S2x8192x1, .f32⟩
  | 20 => ⟨S_, .f32⟩
  | 21 => ⟨S2x8192x1, .f32⟩
  | 22 => ⟨S2x8192x1, .f32⟩
  | 23 => ⟨S2x8192x1, .f32⟩
  | 24 => ⟨S2x8192x1024, .f32⟩
  | 25 => ⟨S2x8192x1024, .f32⟩
  | 26 => ⟨S1x1x1024, .f32⟩
  | 27 => ⟨S2x8192x1024, .f32⟩
  | 28 => ⟨S2x8192x1024, .f32⟩
  | 29 => ⟨S2x1x1x1024, .f32⟩
  | 30 => ⟨S2x1024, .f32⟩
  | 31 => ⟨S2x1x1024, .f32⟩
  | 32 => ⟨S_, .f32⟩
  | 33 => ⟨S2x1x1024, .f32⟩
  | 34 => ⟨S2x1x1024, .f32⟩
  | 35 => ⟨S2x8192x1024, .f32⟩
  | 36 => ⟨S2x8192x1024, .f32⟩
  | 37 => ⟨S2x1x1x1024, .f32⟩
  | 38 => ⟨S2x1024, .f32⟩
  | 39 => ⟨S2x1x1024, .f32⟩
  | 40 => ⟨S2x8192x1024, .f32⟩
  | 41 => ⟨S2x8192x1024, .f32⟩
  | 42 => ⟨S1x1024x2304, .f32⟩
  | 43 => ⟨S1024x2304, .f32⟩
  | 44 => ⟨S2x8192x2304, .f32⟩
  | 45 => ⟨S2x8192x512, .f32⟩
  | 46 => ⟨S2x8192x8x64, .f32⟩
  | 47 => ⟨S1x1x64, .f32⟩
  | 48 => ⟨S64, .f32⟩
  | 49 => ⟨S2x8192x8x64, .f32⟩
  | 50 => ⟨S_, .f32⟩
  | 51 => ⟨S2x8192x8, .f32⟩
  | 52 => ⟨S2x8192x8x1, .f32⟩
  | 53 => ⟨S_, .f32⟩
  | 54 => ⟨S2x8192x8x1, .f32⟩
  | 55 => ⟨S2x8192x8x1, .f32⟩
  | 56 => ⟨S_, .f32⟩
  | 57 => ⟨S2x8192x8x1, .f32⟩
  | 58 => ⟨S2x8192x8x1, .f32⟩
  | 59 => ⟨S2x8192x8x1, .f32⟩
  | 60 => ⟨S2x8192x8x64, .f32⟩
  | 61 => ⟨S2x8192x8x64, .f32⟩
  | 62 => ⟨S1x1x1x64, .f32⟩
  | 63 => ⟨S2x8192x8x64, .f32⟩
  | 64 => ⟨S2x8192x8x64, .f32⟩
  | 65 => ⟨S128, .i32⟩
  | 66 => ⟨S64, .i32⟩
  | 67 => ⟨S128x64, .i32⟩
  | 68 => ⟨S128x64, .i32⟩
  | 69 => ⟨S8192, .i32⟩
  | 70 => ⟨S8192, .f32⟩
  | 71 => ⟨S8192, .i32⟩
  | 72 => ⟨S8192, .f32⟩
  | 73 => ⟨S16, .f32⟩
  | 74 => ⟨S_, .f32⟩
  | 75 => ⟨S16, .f32⟩
  | 76 => ⟨S16, .f32⟩
  | 77 => ⟨S_, .f32⟩
  | 78 => ⟨S16, .f32⟩
  | 79 => ⟨S16, .f32⟩
  | 80 => ⟨S16, .f32⟩
  | 81 => ⟨S_, .f32⟩
  | 82 => ⟨S16, .f32⟩
  | 83 => ⟨S16, .f32⟩
  | 84 => ⟨S_, .f32⟩
  | 85 => ⟨S16, .f32⟩
  | 86 => ⟨S16, .f32⟩
  | 87 => ⟨S8192x1, .f32⟩
  | 88 => ⟨S1x16, .f32⟩
  | 89 => ⟨S8192x16, .f32⟩
  | 90 => ⟨S8192x16, .f32⟩
  | 91 => ⟨S8192x16, .f32⟩
  | 92 => ⟨S8192x1, .f32⟩
  | 93 => ⟨S1x16, .f32⟩
  | 94 => ⟨S8192x16, .f32⟩
  | 95 => ⟨S8192x16, .f32⟩
  | 96 => ⟨S8192x16, .f32⟩
  | 97 => ⟨S8192x32, .f32⟩
  | 98 => ⟨S8192x32, .f32⟩
  | 99 => ⟨S1x8192x1x32, .f32⟩
  | 100 => ⟨S8192x32, .f32⟩
  | 101 => ⟨S1x8192x1x32, .f32⟩
  | 102 => ⟨S2x8192x8x32, .f32⟩
  | 103 => ⟨S2x8192x8x32, .f32⟩
  | 104 => ⟨S2x8192x8x32, .f32⟩
  | 105 => ⟨S2x8192x8x32, .f32⟩
  | 106 => ⟨S2x8192x8x32, .f32⟩
  | 107 => ⟨S2x8192x8x32, .f32⟩
  | 108 => ⟨S2x8192x8x32, .f32⟩
  | 109 => ⟨S2x8192x8x32, .f32⟩
  | 110 => ⟨S2x8192x8x32, .f32⟩
  | 111 => ⟨S2x8192x8x32, .f32⟩
  | 112 => ⟨S2x8192x8x32, .f32⟩
  | 113 => ⟨S2x8192x8x32, .f32⟩
  | 114 => ⟨S2x8192x8x32x1, .f32⟩
  | 115 => ⟨S2x8192x8x32x1, .f32⟩
  | 116 => ⟨S2x8192x8x32x2, .f32⟩
  | 117 => ⟨S2x8192x8x64, .f32⟩
  | 118 => ⟨S2x8192x128, .f32⟩
  | 119 => ⟨S2x8192x2x64, .f32⟩
  | 120 => ⟨S1x1x64, .f32⟩
  | 121 => ⟨S64, .f32⟩
  | 122 => ⟨S2x8192x2x64, .f32⟩
  | 123 => ⟨S_, .f32⟩
  | 124 => ⟨S2x8192x2, .f32⟩
  | 125 => ⟨S2x8192x2x1, .f32⟩
  | 126 => ⟨S_, .f32⟩
  | 127 => ⟨S2x8192x2x1, .f32⟩
  | _ => ⟨S16384x1024, .f32⟩

abbrev hbmTy0_1 (i : Nat) : BufTy := match i % 128 with
  | 0 => ⟨S2x8192x2x1, .f32⟩
  | 1 => ⟨S_, .f32⟩
  | 2 => ⟨S2x8192x2x1, .f32⟩
  | 3 => ⟨S2x8192x2x1, .f32⟩
  | 4 => ⟨S2x8192x2x1, .f32⟩
  | 5 => ⟨S2x8192x2x64, .f32⟩
  | 6 => ⟨S2x8192x2x64, .f32⟩
  | 7 => ⟨S1x1x1x64, .f32⟩
  | 8 => ⟨S2x8192x2x64, .f32⟩
  | 9 => ⟨S2x8192x2x64, .f32⟩
  | 10 => ⟨S128, .i32⟩
  | 11 => ⟨S64, .i32⟩
  | 12 => ⟨S128x64, .i32⟩
  | 13 => ⟨S128x64, .i32⟩
  | 14 => ⟨S8192, .i32⟩
  | 15 => ⟨S8192, .f32⟩
  | 16 => ⟨S8192, .i32⟩
  | 17 => ⟨S8192, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S16, .f32⟩
  | 26 => ⟨S_, .f32⟩
  | 27 => ⟨S16, .f32⟩
  | 28 => ⟨S16, .f32⟩
  | 29 => ⟨S_, .f32⟩
  | 30 => ⟨S16, .f32⟩
  | 31 => ⟨S16, .f32⟩
  | 32 => ⟨S8192x1, .f32⟩
  | 33 => ⟨S1x16, .f32⟩
  | 34 => ⟨S8192x16, .f32⟩
  | 35 => ⟨S8192x16, .f32⟩
  | 36 => ⟨S8192x16, .f32⟩
  | 37 => ⟨S8192x1, .f32⟩
  | 38 => ⟨S1x16, .f32⟩
  | 39 => ⟨S8192x16, .f32⟩
  | 40 => ⟨S8192x16, .f32⟩
  | 41 => ⟨S8192x16, .f32⟩
  | 42 => ⟨S8192x32, .f32⟩
  | 43 => ⟨S8192x32, .f32⟩
  | 44 => ⟨S1x8192x1x32, .f32⟩
  | 45 => ⟨S8192x32, .f32⟩
  | 46 => ⟨S1x8192x1x32, .f32⟩
  | 47 => ⟨S2x8192x2x32, .f32⟩
  | 48 => ⟨S2x8192x2x32, .f32⟩
  | 49 => ⟨S2x8192x2x32, .f32⟩
  | 50 => ⟨S2x8192x2x32, .f32⟩
  | 51 => ⟨S2x8192x2x32, .f32⟩
  | 52 => ⟨S2x8192x2x32, .f32⟩
  | 53 => ⟨S2x8192x2x32, .f32⟩
  | 54 => ⟨S2x8192x2x32, .f32⟩
  | 55 => ⟨S2x8192x2x32, .f32⟩
  | 56 => ⟨S2x8192x2x32, .f32⟩
  | 57 => ⟨S2x8192x2x32, .f32⟩
  | 58 => ⟨S2x8192x2x32, .f32⟩
  | 59 => ⟨S2x8192x2x32x1, .f32⟩
  | 60 => ⟨S2x8192x2x32x1, .f32⟩
  | 61 => ⟨S2x8192x2x32x2, .f32⟩
  | 62 => ⟨S2x8192x2x64, .f32⟩
  | 63 => ⟨S2x8192x128, .f32⟩
  | 64 => ⟨S2x8192x2x64, .f32⟩
  | 65 => ⟨S2x8192x1536, .f32⟩
  | 66 => ⟨S_, .i32⟩
  | 67 => ⟨S_, .f32⟩
  | 68 => ⟨S2x8194x1536, .f32⟩
  | 69 => ⟨S3x1536, .f32⟩
  | 70 => ⟨S2x8192x1536, .f32⟩
  | 71 => ⟨S1x1536, .f32⟩
  | 72 => ⟨S1536, .f32⟩
  | 73 => ⟨S1x1x1536, .f32⟩
  | 74 => ⟨S2x8192x1536, .f32⟩
  | 75 => ⟨S2x8192x1536, .f32⟩
  | 76 => ⟨S2x8192x1536, .f32⟩
  | 77 => ⟨S1x1536, .f32⟩
  | 78 => ⟨S1536, .f32⟩
  | 79 => ⟨S1x1x1536, .f32⟩
  | 80 => ⟨S2x8192x1536, .f32⟩
  | 81 => ⟨S2x8192x1536, .f32⟩
  | 82 => ⟨S2x8192x1536, .f32⟩
  | 83 => ⟨S2x8192x1536, .f32⟩
  | 84 => ⟨S1x1536, .f32⟩
  | 85 => ⟨S1536, .f32⟩
  | 86 => ⟨S1x1x1536, .f32⟩
  | 87 => ⟨S2x8192x1536, .f32⟩
  | 88 => ⟨S2x8192x1536, .f32⟩
  | 89 => ⟨S2x8192x1536, .f32⟩
  | 90 => ⟨S1536, .f32⟩
  | 91 => ⟨S1x1x1536, .f32⟩
  | 92 => ⟨S2x8192x1536, .f32⟩
  | 93 => ⟨S2x8192x1536, .f32⟩
  | 94 => ⟨S2x8192x512, .f32⟩
  | 95 => ⟨S2x8192x512, .f32⟩
  | 96 => ⟨S2x8192x512, .f32⟩
  | 97 => ⟨S_, .f32⟩
  | 98 => ⟨S_, .f32⟩
  | 99 => ⟨S_, .f32⟩
  | 100 => ⟨S_, .f32⟩
  | 101 => ⟨S2x8192x8x64, .f32⟩
  | 102 => ⟨S2x8192x8x64, .f32⟩
  | 103 => ⟨S16384x512, .f32⟩
  | 104 => ⟨S16384x512, .bf16⟩
  | 105 => ⟨S16x1024x128, .f32⟩
  | 106 => ⟨S16x128x1024, .f32⟩
  | 107 => ⟨S16x128x1024, .bf16⟩
  | 108 => ⟨S_, .f32⟩
  | 109 => ⟨S2x8192x2x64, .f32⟩
  | 110 => ⟨S2x8192x2x128, .f32⟩
  | 111 => ⟨S16384x256, .f32⟩
  | 112 => ⟨S16384x256, .bf16⟩
  | 113 => ⟨S16384x512, .f32⟩
  | 114 => ⟨S2x8192x512, .f32⟩
  | 115 => ⟨S16384x512, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_6 : Ref sig .tc := ⟨.hbm, 74, rfl⟩
abbrev main_v60 : Ref sig .tc := ⟨.hbm, 75, rfl⟩
abbrev main_v61 : Ref sig .tc := ⟨.hbm, 76, rfl⟩
abbrev main_cst_7 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_8 : Ref sig .tc := ⟨.hbm, 81, rfl⟩
abbrev main_v65 : Ref sig .tc := ⟨.hbm, 82, rfl⟩
abbrev main_v66 : Ref sig .tc := ⟨.hbm, 83, rfl⟩
abbrev main_cst_9 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_cst_10 : Ref sig .tc := ⟨.hbm, 123, rfl⟩
abbrev main_v105 : Ref sig .tc := ⟨.hbm, 124, rfl⟩
abbrev main_v106 : Ref sig .tc := ⟨.hbm, 125, rfl⟩
abbrev main_cst_11 : Ref sig .tc := ⟨.hbm, 126, rfl⟩
abbrev main_v107 : Ref sig .tc := ⟨.hbm, 127, rfl⟩
abbrev main_v108 : Ref sig .tc := ⟨.hbm, 128, rfl⟩
abbrev main_cst_12 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_cst_13 : Ref sig .tc := ⟨.hbm, 147, rfl⟩
abbrev main_v126 : Ref sig .tc := ⟨.hbm, 148, rfl⟩
abbrev main_v127 : Ref sig .tc := ⟨.hbm, 149, rfl⟩
abbrev main_cst_14 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_cst_15 : Ref sig .tc := ⟨.hbm, 154, rfl⟩
abbrev main_v131 : Ref sig .tc := ⟨.hbm, 155, rfl⟩
abbrev main_v132 : Ref sig .tc := ⟨.hbm, 156, rfl⟩
abbrev main_cst_16 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_c : Ref sig .tc := ⟨.hbm, 194, rfl⟩
abbrev main_call0_v0 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_v193 : Ref sig .tc := ⟨.hbm, 220, rfl⟩
abbrev main_v194 : Ref sig .tc := ⟨.hbm, 221, rfl⟩
abbrev main_v195 : Ref sig .tc := ⟨.hbm, 222, rfl⟩
abbrev main_v196 : Ref sig .tc := ⟨.hbm, 223, rfl⟩
abbrev main_v197 : Ref sig .tc := ⟨.hbm, 224, rfl⟩
abbrev main_cst_17 : Ref sig .tc := ⟨.hbm, 225, rfl⟩
abbrev main_v198 : Ref sig .tc := ⟨.hbm, 226, rfl⟩
abbrev main_cst_18 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_cst_19 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩
abbrev main_v213 : Ref sig .tc := ⟨.hbm, 243, rfl⟩

abbrev nD : Nat := 1
abbrev τ : Topo := Topo.v7x

variable {F : FTy → Type} [FloatOps F]
-- ==== Proof.AttnPoint.lean ====
module
public import proofs.«01_k».proof.Proof.Gen.AttnIdeal.Value
public import Idealize.ShloMosaic.Lib.Pointwise
public import Idealize.ShloMosaic.Lib.Pipeline.ValueKit
@[expose] public section
set_option maxRecDepth 16384
noncomputable section
namespace Cert.AttnIdeal.Value
open Cert.AttnIdeal Cert.AttnIdeal.Gen Idealize.ShloMosaic Idealize.ShloMosaic.TcCoe Idealize.SL.Sem
/-! The attention kernel's payloads at an index. -/

/-- The weight of one query row and one key: two to the power of their score less the bound. -/
def wgt (b : EReal) (q k : Fin 64 → EReal) : EReal := Ideal.exp2 ((∑ d : Fin 64, q d * k d) - b)

theorem pay11_at (b : EReal) (q : FVec Ideal S4096x64 .bf16) (k : FVec Ideal S1x64x1024 .bf16) (r : Fin 4096) (n : Fin 1024) :
    k0_pay11 (F := Ideal) b q k (ix2 r n) = wgt b (fun d => q (ix2 r d)) (fun d => k (ix3 0 d n)) := by
  pointwise [k0_pay11, wgt]
  rfl

theorem pay12_eq (p : FVec Ideal S4096x1024 .bf16) : k0_pay12 (F := Ideal) p = p := by
  funext i; obtain ⟨a, b, rfl⟩ : ∃ a b, i = ix2 a b := ⟨_, _, eq_ix2 i⟩
  pointwise [k0_pay12]

theorem pay14_at (b : EReal) (q : FVec Ideal S4096x64 .bf16) (k : FVec Ideal S1x64x1024 .bf16) (r : Fin 4096) (n : Fin 1024) :
    k0_pay14 (F := Ideal) b q k (ix2 r n) = wgt b (fun d => q (ix2 r d)) (fun d => k (ix3 0 d n)) := by
  pointwise [k0_pay14, wgt]
  rfl

theorem pay16_at (b : EReal) (q : FVec Ideal S4096x64 .bf16) (k : FVec Ideal S1x64x1024 .bf16) (r : Fin 4096) (n : Fin 1024) :
    k0_pay16 (F := Ideal) b q k (ix2 r n) = wgt b (fun d => q (ix2 r d)) (fun d => k (ix3 0 d n)) := by
  pointwise [k0_pay16, wgt]
  rfl

theorem pay13_at (p : FVec Ideal S4096x1024 .bf16) (v : FVec Ideal S1024x128 .bf16) (r : Fin 4096) (l : Fin 128) :
    k0_pay13 (F := Ideal) p v (ix2 r l) = ∑ n : Fin 1024, p (ix2 r n) * v (ix2 n l) := by
  pointwise [k0_pay13]

theorem pay15_at (a : FVec Ideal S4096x128 .f32) (p : FVec Ideal S4096x1024 .bf16) (v : FVec Ideal S1024x128 .bf16) (r : Fin 4096) (l : Fin 128) :
    k0_pay15 (F := Ideal) a p v (ix2 r l) = a (ix2 r l) + ∑ n : Fin 1024, p (ix2 r n) * v (ix2 n l) := by
  pointwise [k0_pay15]

theorem pay17_at (a : FVec Ideal S4096x128 .f32) (p : FVec Ideal S4096x1024 .bf16) (v : FVec Ideal S1024x128 .bf16) (r : Fin 4096) (l : Fin 128) :
    k0_pay17 (F := Ideal) a p v (ix2 r l) = a (ix2 r l) + ∑ n : Fin 1024, p (ix2 r n) * v (ix2 n l) := by
  pointwise [k0_pay17]

theorem pay1_eq (a : FVec Ideal S4096x128 .f32) : k0_pay1 (F := Ideal) a = a := by
  funext i; obtain ⟨a, b, rfl⟩ : ∃ a b, i = ix2 a b := ⟨_, _, eq_ix2 i⟩
  pointwise [k0_pay1]

theorem pay7_at (x : FVec Ideal S1024x64 .bf16) : k0_pay7 (F := Ideal) x = x := by
  funext i; obtain ⟨a, b, rfl⟩ : ∃ a b, i = ix2 a b := ⟨_, _, eq_ix2 i⟩
  pointwise [k0_pay7]
theorem pay8_at (x : FVec Ideal S1024x64 .bf16) : k0_pay8 (F := Ideal) x = x := by
  funext i; obtain ⟨a, b, rfl⟩ : ∃ a b, i = ix2 a b := ⟨_, _, eq_ix2 i⟩
  pointwise [k0_pay8]
theorem pay9_at (x : FVec Ideal S1024x64 .bf16) : k0_pay9 (F := Ideal) x = x := by
  funext i; obtain ⟨a, b, rfl⟩ : ∃ a b, i = ix2 a b := ⟨_, _, eq_ix2 i⟩
  pointwise [k0_pay9]
theorem pay10_at (x : FVec Ideal S1024x64 .bf16) : k0_pay10 (F := Ideal) x = x := by
  funext i; obtain ⟨a, b, rfl⟩ : ∃ a b, i = ix2 a b := ⟨_, _, eq_ix2 i⟩
  pointwise [k0_pay10]

/-- Lane `64 + d` of the accumulator, where the weights' own sum is held. -/
def hi (d : Fin 64) : Fin 128 := ⟨64 + d.val, by omega⟩
/-- Lane `d` of the accumulator. -/
def lo (d : Fin 64) : Fin 128 := ⟨d.val, by omega⟩

theorem pay2_at (a : FVec Ideal S4096x128 .f32) (r : Fin 4096) (d : Fin 64) :
    k0_pay2 (F := Ideal) a (ix2 r (lo d)) = Ideal.div (a (ix2 r (lo d))) (a (ix2 r (hi d))) := by
  pointwise [k0_pay2]
  congr 3
  exact Fin.ext (by simp only [lo, hi]; omega)

theorem pay3_at (a : FVec Ideal S4096x128 .f32) (r : Fin 1024) (d : Fin 64) :
    k0_pay3 (F := Ideal) a (ix2 r d) = k0_pay2 (F := Ideal) a (ix2 ⟨r.val, by omega⟩ (lo d)) := by
  pointwise [k0_pay3, lo]
theorem pay4_at (a : FVec Ideal S4096x128 .f32) (r : Fin 1024) (d : Fin 64) :
    k0_pay4 (F := Ideal) a (ix2 r d) = k0_pay2 (F := Ideal) a (ix2 ⟨1024 + r.val, by omega⟩ (lo d)) := by
  pointwise [k0_pay4, lo]
theorem pay5_at (a : FVec Ideal S4096x128 .f32) (r : Fin 1024) (d : Fin 64) :
    k0_pay5 (F := Ideal) a (ix2 r d) = k0_pay2 (F := Ideal) a (ix2 ⟨2048 + r.val, by omega⟩ (lo d)) := by
  pointwise [k0_pay5, lo]
theorem pay6_at (a : FVec Ideal S4096x128 .f32) (r : Fin 1024) (d : Fin 64) :
    k0_pay6 (F := Ideal) a (ix2 r d) = k0_pay2 (F := Ideal) a (ix2 ⟨3072 + r.val, by omega⟩ (lo d)) := by
  pointwise [k0_pay6, lo]

end Cert.AttnIdeal.Value
-- ==== Proof.AttnRun.lean ====
module
public import proofs.«01_k».proof.Proof.AttnPoint
public import Idealize.ShloMosaic.Lib.WholeRead
@[expose] public section
set_option maxRecDepth 16384
noncomputable section
namespace Cert.AttnIdeal.Value
open Cert.AttnIdeal Cert.AttnIdeal.Gen Idealize.ShloMosaic Idealize.ShloMosaic.TcCoe Idealize.SL.Sem
/-! What the attention kernel's scratch buffers hold, read whole, through its loop. -/

/-- Reading a buffer whole after a list of stores whose last one covers it gives that store's payload. -/
theorem read_last {sig : RefSig} {κ : Kind} {sp : Space} {S : Shape} {e : EltTy} (v : View sig κ sp S e)
    (f : v.ty.Contents (Elt Ideal)) (r : Rect S) (w : r.shape.Idx → Elt Ideal e) (L : List (View.Piece (Elt Ideal) S e)) :
    v.readAt (Elt Ideal) r.toLoadRect (v.writes (Elt Ideal) f (⟨r, w⟩ :: L)) = w := by
  funext j
  rw [View.readAt_apply]
  exact View.read_writes_cons_emb v f r w L j

section Loop
variable (c : Dev nD) (i : grid0.Coords) (arg3 : Memref sig .tc .smem S1 .f32) (harg3 : arg3.IsWhole) (arg4 : Memref sig .tc .vmem S1024x256 .bf16) (harg4 : arg4.IsWhole) (arg5 : Memref sig .tc .vmem S8x64x1024 .bf16) (harg5 : arg5.IsWhole) (arg6 : Memref sig .tc .vmem S8192x128 .bf16) (harg6 : arg6.IsWhole) (arg7 : Memref sig .tc .vmem S1024x256 .bf16) (harg7 : arg7.IsWhole) (arg8 : Memref sig .tc .vmem S4096x64 .bf16) (harg8 : arg8.IsWhole) (arg9 : Memref sig .tc .vmem S4096x1024 .bf16) (harg9 : arg9.IsWhole) (arg10 : Memref sig .tc .vmem S4096x128 .f32) (harg10 : arg10.IsWhole)
  (b : Elt Ideal .f32) (v28 : FVec Ideal S4096x1024 .bf16) (X5 : BufTy.Contents (Elt Ideal) arg5.view.ty) (X6 : BufTy.Contents (Elt Ideal) arg6.view.ty) (X8 : BufTy.Contents (Elt Ideal) arg8.view.ty) (G9 : BufTy.Contents (Elt Ideal) arg9.view.ty) (G10 : BufTy.Contents (Elt Ideal) arg10.view.ty)

/-- The stored weights at the start of trip `k`, read whole. -/
def wts (k : ℕ) : FVec Ideal S4096x1024 .bf16 :=
  View.readAt (Elt Ideal) arg9.view (Rect.unit ![0, 0] S4096x1024.size inb_S4096x1024_S4096x1024_0_0).toLoadRect
    (arg9.view.writes (Elt Ideal) G9 (pb_k0_t1 Variants.none c none i arg3 harg3 arg4 harg4 arg5 harg5 arg6 harg6 arg7 harg7 arg8 harg8 arg9 harg9 arg10 harg10 b v28 X5 X6 X8 G9 G10 k).1)

/-- The accumulator at the start of trip `k`, read whole. -/
def acc (k : ℕ) : FVec Ideal S4096x128 .f32 :=
  View.readAt (Elt Ideal) arg10.view (Rect.unit ![0, 0] S4096x128.size inb_S4096x128_S4096x128_0_0).toLoadRect
    (arg10.view.writes (Elt Ideal) G10 (pb_k0_t1 Variants.none c none i arg3 harg3 arg4 harg4 arg5 harg5 arg6 harg6 arg7 harg7 arg8 harg8 arg9 harg9 arg10 harg10 b v28 X5 X6 X8 G9 G10 k).2)

/-- The queries, read whole. -/
def qs : FVec Ideal S4096x64 .bf16 :=
  View.readAt (Elt Ideal) arg8.view (Rect.unit ![0, 0] S4096x64.size inb_S4096x64_S4096x64_0_0).toLoadRect X8

theorem wts_succ (k : Fin k0_t1_loop.trips) :
    wts c i arg3 harg3 arg4 harg4 arg5 harg5 arg6 harg6 arg7 harg7 arg8 harg8 arg9 harg9 arg10 harg10 b v28 X5 X6 X8 G9 G10 (k.val + 1)
      = k0_pay16 (F := Ideal) b (qs arg8 X8)
        (View.readAt (Elt Ideal) arg5.view (Rect.unit (s := S8x64x1024) (k0_off2 k) S1x64x1024.size (k0_off2_inb k)).toLoadRect X5) := by
  unfold wts qs
  rw [pb_k0_t1_succ]
  delta tripL_k0_t1 trip_k0_t1
  exact read_last _ _ _ _ _

theorem acc_succ (k : Fin k0_t1_loop.trips) :
    acc c i arg3 harg3 arg4 harg4 arg5 harg5 arg6 harg6 arg7 harg7 arg8 harg8 arg9 harg9 arg10 harg10 b v28 X5 X6 X8 G9 G10 (k.val + 1)
      = k0_pay15 (F := Ideal) (acc c i arg3 harg3 arg4 harg4 arg5 harg5 arg6 harg6 arg7 harg7 arg8 harg8 arg9 harg9 arg10 harg10 b v28 X5 X6 X8 G9 G10 k.val) (wts c i arg3 harg3 arg4 harg4 arg5 harg5 arg6 harg6 arg7 harg7 arg8 harg8 arg9 harg9 arg10 harg10 b v28 X5 X6 X8 G9 G10 k.val)
        (View.readAt (Elt Ideal) arg6.view (Rect.unit (s := S8192x128) (k0_off1 k) S1024x128.size (k0_off1_inb k)).toLoadRect X6) := by
  unfold acc wts
  rw [pb_k0_t1_succ]
  delta tripL_k0_t1 trip_k0_t1
  exact read_last _ _ _ _ _

end Loop

/-! The pieces of the run outside the loop. -/

theorem read_ld {κ : Kind} {sp : Space} {S : Shape} {e : EltTy} {w : Memref sig κ sp S e} (h : w.IsWhole)
    (X : S.Idx → Elt Ideal e) (r : Rect S) :
    View.readAt (Elt Ideal) w.view r.toLoadRect (h.unread X) = View.ld X r :=
  funext fun x => Memref.IsWhole.readAt_unread h X _ x

theorem read3 (arg3 : Memref sig .tc .smem S1 .f32) (harg3 : arg3.IsWhole) (c : Dev nD) (x0 : Vec Ideal S1 .f32) :
    kernelRun0_A.sl.r (F := Ideal) c arg3 harg3 x0 = x0 (ix1 0) := by
  unfold kernelRun0_A.sl.r
  rw [read_ld]
  refine congrArg x0 (funext fun a => Fin.ext ?_)
  have h1 : S1.size a = 1 := by obtain ⟨a, ha⟩ := a; interval_cases a; rfl
  omega

theorem read5 (arg5 : Memref sig .tc .vmem S8x64x1024 .bf16) (harg5 : arg5.IsWhole) (x2 : Vec Ideal S8x64x1024 .bf16)
    (off : Fin 3 → ℕ) (j : Fin 8) (h : ∀ a, off a + S1x64x1024.size a ≤ S8x64x1024.size a) (e : off = ![j.val, 0, 0]) (d : Fin 64) (n : Fin 1024) :
    View.readAt (Elt Ideal) arg5.view (Rect.unit (s := S8x64x1024) off S1x64x1024.size h).toLoadRect (harg5.unread x2) (ix3 0 d n)
      = x2 (ix3 j d n) := by
  subst e
  rw [read_ld]
  pointwise

theorem read6 (arg6 : Memref sig .tc .vmem S8192x128 .bf16) (harg6 : arg6.IsWhole) (x3 : Vec Ideal S8192x128 .bf16)
    (off : Fin 2 → ℕ) (j : Fin 8) (h : ∀ a, off a + S1024x128.size a ≤ S8192x128.size a) (e : off = ![j.val * 1024, 0]) (n : Fin 1024) (l : Fin 128) :
    View.readAt (Elt Ideal) arg6.view (Rect.unit (s := S8192x128) off S1024x128.size h).toLoadRect (harg6.unread x3) (ix2 n l)
      = x3 (ix2 ⟨j.val * 1024 + n.val, by omega⟩ l) := by
  subst e
  rw [read_ld]
  pointwise

theorem ld_at (X : Vec Ideal S1024x256 .bf16) (off : Fin 2 → ℕ) (h : ∀ a, off a + S1024x64.size a ≤ S1024x256.size a) (a : Fin 1024) (e : Fin 64)
    (a' : Fin 1024) (e' : Fin 256) (ha : a'.val = off 0 + a.val) (he : e'.val = off 1 + e.val) :
    View.ld X (Rect.unit (s := S1024x256) off S1024x64.size h) (ix2 a e) = X (ix2 a' e') := by
  pointwise
  congr 2 <;> exact Fin.ext (by simp [ha, he])

/-- The query of row `r` of the 4096 stacked rows: the heads of the group one below the other. -/
def qrow (x1 : Vec Ideal S1024x256 .bf16) (r : Fin 4096) (d : Fin 64) : EReal :=
  x1 (ix2 ⟨r.val % 1024, by omega⟩ ⟨64 * (r.val / 1024) + d.val, by omega⟩)

theorem read8 (c : Dev nD) (arg4 : Memref sig .tc .vmem S1024x256 .bf16) (harg4 : arg4.IsWhole) (arg8 : Memref sig .tc .vmem S4096x64 .bf16)
    (x1 : Vec Ideal S1024x256 .bf16) (r : Fin 4096) (d : Fin 64) :
    qs arg8 (arg8.view.writes (Elt Ideal) arg8.view.junk (kernelRun0_A.sl.HS0_4 (F := Ideal) c arg4 harg4 x1)) (ix2 r d) = qrow x1 r d := by
  unfold qs qrow
  rw [View.readAt_writes_junk_eq_canon]
  unfold kernelRun0_A.sl.HS0_4
  refine (congrFun (View.ld_unit_lit (S := S4096x64) (off := ![0, 0]) _ (View.canon _) (by decide)) (ix2 r d)).trans ?_
  canon_tiles x h
  case piece0 =>
    obtain ⟨a, e, rfl⟩ : ∃ a e, x = ix2 a e := ⟨_, _, eq_ix2 x⟩
    have h2 : r.val = 3072 + a.val := h0
    have h3 : d.val = e.val := h1
    rw [pay10_at, read_ld]
    exact ld_at x1 _ _ _ _ _ _ (by simp; omega) (by simp; omega)
  case piece1 =>
    obtain ⟨a, e, rfl⟩ : ∃ a e, x = ix2 a e := ⟨_, _, eq_ix2 x⟩
    have h2 : r.val = 2048 + a.val := h0
    have h3 : d.val = e.val := h1
    rw [pay9_at, read_ld]
    exact ld_at x1 _ _ _ _ _ _ (by simp; omega) (by simp; omega)
  case piece2 =>
    obtain ⟨a, e, rfl⟩ : ∃ a e, x = ix2 a e := ⟨_, _, eq_ix2 x⟩
    have h2 : r.val = 1024 + a.val := h0
    have h3 : d.val = e.val := h1
    rw [pay8_at, read_ld]
    exact ld_at x1 _ _ _ _ _ _ (by simp; omega) (by simp; omega)
  case piece3 =>
    obtain ⟨a, e, rfl⟩ : ∃ a e, x = ix2 a e := ⟨_, _, eq_ix2 x⟩
    have h2 : r.val = a.val := h0
    have h3 : d.val = e.val := h1
    rw [pay7_at, read_ld]
    exact ld_at x1 _ _ _ _ _ _ (by simp; omega) (by simp; omega)

end Cert.AttnIdeal.Value
-- ==== Proof.AttnLoop.lean ====
module
public import proofs.«01_k».proof.Proof.AttnRun
@[expose] public section
set_option maxRecDepth 16384
noncomputable section
namespace Cert.AttnIdeal.Value
open Cert.AttnIdeal Cert.AttnIdeal.Gen Idealize.ShloMosaic Idealize.ShloMosaic.TcCoe Idealize.SL.Sem
/-! The attention kernel's accumulator after its loop: the weighted values of all eight key chunks. -/

variable (c : Dev nD) (i : grid0.Coords) (arg3 : Memref sig .tc .smem S1 .f32) (harg3 : arg3.IsWhole) (arg4 : Memref sig .tc .vmem S1024x256 .bf16) (harg4 : arg4.IsWhole) (arg5 : Memref sig .tc .vmem S8x64x1024 .bf16) (harg5 : arg5.IsWhole) (arg6 : Memref sig .tc .vmem S8192x128 .bf16) (harg6 : arg6.IsWhole) (arg7 : Memref sig .tc .vmem S1024x256 .bf16) (harg7 : arg7.IsWhole) (arg8 : Memref sig .tc .vmem S4096x64 .bf16) (harg8 : arg8.IsWhole) (arg9 : Memref sig .tc .vmem S4096x1024 .bf16) (harg9 : arg9.IsWhole) (arg10 : Memref sig .tc .vmem S4096x128 .f32) (harg10 : arg10.IsWhole)
  (x0 : Vec Ideal S1 .f32) (x1 : Vec Ideal S1024x256 .bf16) (x2 : Vec Ideal S8x64x1024 .bf16) (x3 : Vec Ideal S8192x128 .bf16)

/-- The weight of stacked query row `r` and key `n` of chunk `j`. -/
def W (j : Fin 8) (r : Fin 4096) (n : Fin 1024) : EReal := wgt (x0 (ix1 0)) (qrow x1 r) (fun d => x2 (ix3 j d n))

/-- Chunk `j`'s weighted values in lane `l`. -/
def PV (j : Fin 8) (r : Fin 4096) (l : Fin 128) : EReal :=
  ∑ n : Fin 1024, W x0 x1 x2 j r n * x3 (ix2 ⟨j.val * 1024 + n.val, by omega⟩ l)

/-- The stored weights at the start of trip `k` of the run. -/
abbrev wt (k : ℕ) : FVec Ideal S4096x1024 .bf16 :=
  wts c i arg3 harg3 arg4 harg4 arg5 harg5 arg6 harg6 arg7 harg7 arg8 harg8 arg9 harg9 arg10 harg10 (kernelRun0_A.sl.r c arg3 harg3 x0) (kernelRun0_A.sl.r_1 c arg3 harg3 arg4 harg4 arg5 harg5 arg8 x0 x1 x2) (harg5.unread x2) (harg6.unread x3)
    (arg8.view.writes (Elt Ideal) arg8.view.junk (kernelRun0_A.sl.HS0_4 c arg4 harg4 x1))
    (arg9.view.writes (Elt Ideal) arg9.view.junk (kernelRun0_A.sl.HS1_2 c arg3 harg3 arg4 harg4 arg5 harg5 arg8 x0 x1 x2))
    (arg10.view.writes (Elt Ideal) arg10.view.junk (kernelRun0_A.sl.HS2_1 c arg3 harg3 arg4 harg4 arg5 harg5 arg6 harg6 arg8 arg9 x0 x1 x2 x3)) k

/-- The accumulator at the start of trip `k` of the run. -/
abbrev ac (k : ℕ) : FVec Ideal S4096x128 .f32 :=
  acc c i arg3 harg3 arg4 harg4 arg5 harg5 arg6 harg6 arg7 harg7 arg8 harg8 arg9 harg9 arg10 harg10 (kernelRun0_A.sl.r c arg3 harg3 x0) (kernelRun0_A.sl.r_1 c arg3 harg3 arg4 harg4 arg5 harg5 arg8 x0 x1 x2) (harg5.unread x2) (harg6.unread x3)
    (arg8.view.writes (Elt Ideal) arg8.view.junk (kernelRun0_A.sl.HS0_4 c arg4 harg4 x1))
    (arg9.view.writes (Elt Ideal) arg9.view.junk (kernelRun0_A.sl.HS1_2 c arg3 harg3 arg4 harg4 arg5 harg5 arg8 x0 x1 x2))
    (arg10.view.writes (Elt Ideal) arg10.view.junk (kernelRun0_A.sl.HS2_1 c arg3 harg3 arg4 harg4 arg5 harg5 arg6 harg6 arg8 arg9 x0 x1 x2 x3)) k

theorem v21_at (r : Fin 4096) : (fun d => kernelRun0_A.sl.v21 (F := Ideal) c arg4 harg4 arg8 x1 (ix2 r d)) = qrow x1 r :=
  funext fun d => read8 c arg4 harg4 arg8 x1 r d

theorem r_1_at (r : Fin 4096) (n : Fin 1024) :
    kernelRun0_A.sl.r_1 (F := Ideal) c arg3 harg3 arg4 harg4 arg5 harg5 arg8 x0 x1 x2 (ix2 r n) = W x0 x1 x2 0 r n := by
  unfold kernelRun0_A.sl.r_1
  rw [pay11_at, v21_at, read3]
  unfold W
  congr 1
  funext d
  exact read5 arg5 harg5 x2 _ 0 _ rfl d n

theorem wt_zero (r : Fin 4096) (n : Fin 1024) : wt c i arg3 harg3 arg4 harg4 arg5 harg5 arg6 harg6 arg7 harg7 arg8 harg8 arg9 harg9 arg10 harg10 x0 x1 x2 x3 0 (ix2 r n) = W x0 x1 x2 1 r n := by
  unfold wt wts
  rw [pb_k0_t1.eq_1]
  unfold kernelRun0_A.sl.HS1_2
  dsimp only [View.writes_nil]
  rw [read_last, pay14_at, v21_at, read3]
  unfold W
  congr 1
  funext d
  exact read5 arg5 harg5 x2 _ 1 _ rfl d n

theorem v32_eq : kernelRun0_A.sl.v32 (F := Ideal) c arg3 harg3 arg4 harg4 arg5 harg5 arg8 arg9 x0 x1 x2
    = kernelRun0_A.sl.r_1 (F := Ideal) c arg3 harg3 arg4 harg4 arg5 harg5 arg8 x0 x1 x2 := by
  unfold kernelRun0_A.sl.v32 kernelRun0_A.sl.HS1_1
  rw [View.readCov_cons_toLoadRect, pay12_eq]

theorem ac_zero (r : Fin 4096) (l : Fin 128) : ac c i arg3 harg3 arg4 harg4 arg5 harg5 arg6 harg6 arg7 harg7 arg8 harg8 arg9 harg9 arg10 harg10 x0 x1 x2 x3 0 (ix2 r l) = PV x0 x1 x2 x3 0 r l := by
  unfold ac acc
  rw [pb_k0_t1.eq_1]
  unfold kernelRun0_A.sl.HS2_1
  dsimp only [View.writes_nil]
  rw [read_last, pay13_at, v32_eq]
  unfold PV
  refine Finset.sum_congr rfl fun n _ => ?_
  rw [r_1_at]
  congr 1
  exact read6 arg6 harg6 x3 _ 0 _ rfl n l

theorem off1 : ∀ k : Fin k0_t1_loop.trips, k0_off1 k = ![(k.val + 1) * 1024, 0] := by decide +kernel
theorem off2 : ∀ k : Fin k0_t1_loop.trips, k0_off2 k = ![k.val + 2, 0, 0] := by decide +kernel
theorem six : k0_t1_loop.trips = 6 := by decide +kernel

theorem wt_at : ∀ (k : ℕ) (hk : k ≤ 6) (r : Fin 4096) (n : Fin 1024),
    wt c i arg3 harg3 arg4 harg4 arg5 harg5 arg6 harg6 arg7 harg7 arg8 harg8 arg9 harg9 arg10 harg10 x0 x1 x2 x3 k (ix2 r n) = W x0 x1 x2 ⟨k + 1, by omega⟩ r n
  | 0, _, r, n => wt_zero c i arg3 harg3 arg4 harg4 arg5 harg5 arg6 harg6 arg7 harg7 arg8 harg8 arg9 harg9 arg10 harg10 x0 x1 x2 x3 r n
  | k + 1, hk, r, n => by
    have hk' : k < k0_t1_loop.trips := by rw [six]; omega
    refine (congrFun (wts_succ c i arg3 harg3 arg4 harg4 arg5 harg5 arg6 harg6 arg7 harg7 arg8 harg8 arg9 harg9 arg10 harg10 _ _ _ _ _ _ _ ⟨k, hk'⟩) (ix2 r n)).trans ?_
    rw [pay16_at, read3]
    unfold W
    congr 1
    · funext d; exact read8 c arg4 harg4 arg8 x1 r d
    · funext d; exact read5 arg5 harg5 x2 _ ⟨k + 1 + 1, by omega⟩ _ (off2 ⟨k, hk'⟩) d n

theorem ac_at : ∀ (k : ℕ) (hk : k ≤ 6) (r : Fin 4096) (l : Fin 128),
    ac c i arg3 harg3 arg4 harg4 arg5 harg5 arg6 harg6 arg7 harg7 arg8 harg8 arg9 harg9 arg10 harg10 x0 x1 x2 x3 k (ix2 r l) = ∑ j : Fin (k + 1), PV x0 x1 x2 x3 ⟨j.val, by omega⟩ r l
  | 0, _, r, l => by rw [ac_zero, Fin.sum_univ_one]; rfl
  | k + 1, hk, r, l => by
    have hk' : k < k0_t1_loop.trips := by rw [six]; omega
    refine (congrFun (acc_succ c i arg3 harg3 arg4 harg4 arg5 harg5 arg6 harg6 arg7 harg7 arg8 harg8 arg9 harg9 arg10 harg10 _ _ _ _ _ _ _ ⟨k, hk'⟩) (ix2 r l)).trans ?_
    rw [pay15_at, Fin.sum_univ_castSucc (n := k + 1)]
    congr 1
    · exact ac_at k (by omega) r l
    · unfold PV
      refine Finset.sum_congr rfl fun n _ => ?_
      congr 1
      · exact wt_at c i arg3 harg3 arg4 harg4 arg5 harg5 arg6 harg6 arg7 harg7 arg8 harg8 arg9 harg9 arg10 harg10 x0 x1 x2 x3 k (by omega) r n
      · exact read6 arg6 harg6 x3 _ ⟨k + 1, by omega⟩ _ (off1 ⟨k, hk'⟩) n l

theorem v51_eq : kernelRun0_A.sl.v51 (F := Ideal) c i arg3 harg3 arg4 harg4 arg5 harg5 arg6 harg6 arg7 harg7 arg8 harg8 arg9 harg9 arg10 harg10 x0 x1 x2 x3 = ac c i arg3 harg3 arg4 harg4 arg5 harg5 arg6 harg6 arg7 harg7 arg8 harg8 arg9 harg9 arg10 harg10 x0 x1 x2 x3 6 := by
  unfold kernelRun0_A.sl.v51 ac acc
  rw [← View.writes_append]
  rfl

theorem v52_eq : kernelRun0_A.sl.v52 (F := Ideal) c i arg3 harg3 arg4 harg4 arg5 harg5 arg6 harg6 arg7 harg7 arg8 harg8 arg9 harg9 arg10 harg10 x0 x1 x2 x3 = wt c i arg3 harg3 arg4 harg4 arg5 harg5 arg6 harg6 arg7 harg7 arg8 harg8 arg9 harg9 arg10 harg10 x0 x1 x2 x3 6 := by
  unfold kernelRun0_A.sl.v52 wt wts
  rw [← View.writes_append]
  rfl

/-- The accumulator read back at the end of the run. -/
theorem v60_at (r : Fin 4096) (l : Fin 128) :
    kernelRun0_A.sl.v60 (F := Ideal) c i arg3 harg3 arg4 harg4 arg5 harg5 arg6 harg6 arg7 harg7 arg8 harg8 arg9 harg9 arg10 harg10 x0 x1 x2 x3 (ix2 r l) = ∑ j : Fin 8, PV x0 x1 x2 x3 j r l := by
  unfold kernelRun0_A.sl.v60 kernelRun0_A.sl.HS2_1_1
  rw [View.readCov_cons_toLoadRect, pay1_eq]
  unfold kernelRun0_A.sl.r_2
  rw [pay17_at, v51_eq, v52_eq, ac_at c i arg3 harg3 arg4 harg4 arg5 harg5 arg6 harg6 arg7 harg7 arg8 harg8 arg9 harg9 arg10 harg10 x0 x1 x2 x3 6 (by omega), Fin.sum_univ_castSucc (n := 7)]
  congr 1
  unfold PV
  refine Finset.sum_congr rfl fun n _ => ?_
  congr 1
  · exact wt_at c i arg3 harg3 arg4 harg4 arg5 harg5 arg6 harg6 arg7 harg7 arg8 harg8 arg9 harg9 arg10 harg10 x0 x1 x2 x3 6 (by omega) r n
  · exact read6 arg6 harg6 x3 _ 7 _ rfl n l

end Cert.AttnIdeal.Value
-- ==== Proof.AttnMath.lean ====
module
public import Idealize.ShloMosaic.Lib.IdealHost
public import Idealize.ShloMosaic.PureOps.Ideal
@[expose] public section
noncomputable section
namespace Cert.AttnMath
open Idealize.ShloMosaic
/-! Softmax attention of one query over the extended reals: a fixed shift instead of the maximum gives the same row. -/

/-- The scale of the scores, one eighth. -/
def eighth : EReal := Ideal.ofBits FTy.f32 0x3E000000#32
/-- The scale of the queries: one eighth over the logarithm of two. -/
def qscale : EReal := Ideal.div (Ideal.ofBits FTy.f32 0x3E000000#32) (Ideal.log (Ideal.ofBits FTy.f32 0x40000000#32))

theorem eighth_eq : eighth = ((1 / 8 : ℝ) : EReal) := by
  simp [eighth, Ideal.ofBits, Ideal.ieee]
  rw [← EReal.coe_mul]
  congr 1
  norm_num
theorem two_eq : Ideal.ofBits FTy.f32 0x40000000#32 = ((2 : ℝ) : EReal) := by
  simp [Ideal.ofBits, Ideal.ieee]
  rw [← EReal.coe_mul]
  congr 1
  norm_num
theorem bot_eq : Ideal.ofBits FTy.f32 0xFF800000#32 = ⊥ := by
  simp [Ideal.ofBits, Ideal.ieee]

theorem div_real (x : EReal) (y : ℝ) (hy : 0 < y) : Ideal.div x (y : EReal) = x * ((y⁻¹ : ℝ) : EReal) := by
  unfold Ideal.div
  rw [if_neg (by exact_mod_cast hy.ne'), EReal.coe_inv]

theorem qscale_eq : qscale = ((1 / 8 / Real.log 2 : ℝ) : EReal) := by
  unfold qscale
  rw [two_eq, show Ideal.log ((2 : ℝ) : EReal) = ((Real.log 2 : ℝ) : EReal) from if_neg (by norm_num), div_real _ _ (Real.log_pos (by norm_num))]
  rw [show Ideal.ofBits FTy.f32 0x3E000000#32 = ((1 / 8 : ℝ) : EReal) from eighth_eq, ← EReal.coe_mul, div_eq_mul_inv (1 / 8 : ℝ)]

/-- A finite sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A positive real factor goes through a finite sum of extended reals. -/
theorem sum_mul_pos {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih, mul_comm, EReal.left_distrib_of_nonneg_of_ne_top (by exact_mod_cast hc) (EReal.coe_ne_top c), mul_comm, mul_comm (c : EReal)]

/-- The maximum of finitely many reals, from the least element, is real. -/
theorem max_real {ι : Type} [Fintype ι] [Nonempty ι] (f : ι → ℝ) :
    ∃ M : ℝ, Finset.fold max (⊥ : EReal) (fun i => (f i : EReal)) Finset.univ = (M : EReal) := by
  have h1 : Finset.fold max (⊥ : EReal) (fun i => (f i : EReal)) Finset.univ < ⊤ :=
    (Finset.fold_max_lt _).2 ⟨bot_lt_top, fun x _ => EReal.coe_lt_top _⟩
  have h2 : ⊥ < Finset.fold max (⊥ : EReal) (fun i => (f i : EReal)) Finset.univ :=
    (Finset.lt_fold_max _).2 (Or.inr ⟨Classical.arbitrary ι, Finset.mem_univ _, EReal.bot_lt_coe _⟩)
  exact ⟨_, (EReal.coe_toReal h1.ne h2.ne').symm⟩

variable {ι : Type} [Fintype ι] [Nonempty ι]

/-- The score of a query against a key. -/
def score (q k : Fin 64 → EReal) : EReal := (∑ d, k d * q d) * eighth

/-- The scores' largest. -/
def top (q : Fin 64 → EReal) (k : ι → Fin 64 → EReal) : EReal :=
  max (Ideal.ofBits FTy.f32 0xFF800000#32) (Finset.fold max (Ideal.ofBits FTy.f32 0xFF800000#32) (fun n => score q (k n)) Finset.univ)

/-- One row of softmax attention. -/
def row (q : Fin 64 → EReal) (k : ι → Fin 64 → EReal) (v : ι → EReal) : EReal :=
  ∑ n, v n * Ideal.div (Ideal.exp (score q (k n) - top q k)) (∑ j, Ideal.exp (score q (k j) - top q k))

/-- The weight of a key at a fixed shift. -/
def fixed (b : EReal) (q k : Fin 64 → EReal) : EReal := Ideal.exp2 ((∑ d, q d * qscale * k d) - b)

theorem exp_coe (r : ℝ) : Ideal.exp (r : EReal) = ((Real.exp r : ℝ) : EReal) := rfl
theorem exp2_coe (r : ℝ) : Ideal.exp2 (r : EReal) = ((Real.rpow 2 r : ℝ) : EReal) := rfl

theorem score_coe (q k : Fin 64 → ℝ) : score (fun d => (q d : EReal)) (fun d => (k d : EReal)) = (((∑ d, k d * q d) * (1 / 8) : ℝ) : EReal) := by
  unfold score
  rw [eighth_eq, EReal.coe_mul, coe_sum]
  simp only [EReal.coe_mul]

theorem fixed_coe (b : ℝ) (q k : Fin 64 → ℝ) : fixed (b : EReal) (fun d => (q d : EReal)) (fun d => (k d : EReal))
    = ((Real.exp ((∑ d, k d * q d) * (1 / 8)) * Real.exp (-(b * Real.log 2)) : ℝ) : EReal) := by
  have hl : Real.log 2 ≠ 0 := (Real.log_pos (by norm_num)).ne'
  unfold fixed
  simp only [qscale_eq, ← EReal.coe_mul]
  rw [← coe_sum, ← EReal.coe_sub, exp2_coe]
  congr 1
  rw [Real.rpow_eq_pow, Real.rpow_def_of_pos (by norm_num), ← Real.exp_add]
  congr 1
  have : ∑ d, q d * (1 / 8 / Real.log 2) * k d = (∑ d, k d * q d) * (1 / 8) / Real.log 2 := by
    rw [Finset.sum_mul, Finset.sum_div]
    exact Finset.sum_congr rfl fun d _ => by ring
  rw [this]
  field_simp
  ring

/-- A common positive factor and a common shift leave the quotient of weighted sums. -/
theorem quot (s : ι → ℝ) (v : ι → EReal) (M E : ℝ) (hE : 0 < E) :
    Ideal.div (∑ n, ((Real.exp (s n) * E : ℝ) : EReal) * v n) ((∑ n, Real.exp (s n) * E : ℝ) : EReal)
    = ∑ n, v n * Ideal.div ((Real.exp (s n - M) : ℝ) : EReal) ((∑ j, Real.exp (s j - M) : ℝ) : EReal) := by
  have hA : 0 < ∑ n, Real.exp (s n) := Finset.sum_pos (fun n _ => Real.exp_pos _) Finset.univ_nonempty
  have hm := Real.exp_pos M
  rw [show ∑ n, Real.exp (s n) * E = (∑ n, Real.exp (s n)) * E from (Finset.sum_mul _ _ _).symm,
    show ∑ j, Real.exp (s j - M) = (∑ n, Real.exp (s n)) / Real.exp M by simp only [Real.exp_sub, ← Finset.sum_div]]
  generalize ∑ n, Real.exp (s n) = A at hA
  rw [div_real _ _ (mul_pos hA hE), sum_mul_pos _ _ _ (inv_nonneg.2 (mul_pos hA hE).le)]
  refine Finset.sum_congr rfl fun n _ => ?_
  rw [div_real _ _ (div_pos hA hm), ← EReal.coe_mul, mul_comm _ (v n), mul_assoc, ← EReal.coe_mul]
  congr 2
  rw [Real.exp_sub]
  field_simp

/-- The row computed with a fixed shift, numerator over denominator, is the softmax row. -/
theorem fixed_row (b : ℝ) (q : Fin 64 → ℝ) (k : ι → Fin 64 → ℝ) (v : ι → EReal) :
    Ideal.div (∑ n, fixed (b : EReal) (fun d => (q d : EReal)) (fun d => (k n d : EReal)) * v n)
      (∑ n, fixed (b : EReal) (fun d => (q d : EReal)) (fun d => (k n d : EReal)) * 1)
    = row (fun d => (q d : EReal)) (fun n d => (k n d : EReal)) v := by
  obtain ⟨M, hM⟩ := max_real (fun n => (∑ d, k n d * q d) * (1 / 8))
  have ht : top (fun d => (q d : EReal)) (fun n d => (k n d : EReal)) = (M : EReal) := by
    unfold top
    simp only [score_coe, bot_eq, hM]
    exact max_eq_right bot_le
  unfold row
  simp only [ht, score_coe, fixed_coe, mul_one, ← EReal.coe_sub, exp_coe, ← coe_sum]
  exact quot (fun n => (∑ d, k n d * q d) * (1 / 8)) v M _ (Real.exp_pos _)

end Cert.AttnMath
-- ==== Proof.AttnMap.lean ====
module
public import proofs.«01_k».proof.AttnIdeal
public import proofs.«01_k».proof.Proof.AttnMath
public import Idealize.ShloMosaic.Lib.Pointwise
@[expose] public section
noncomputable section
namespace Cert.AttnIdeal.Value
open Cert.AttnIdeal Idealize.ShloMosaic Cert.AttnMath

/-- The call's result as a function of its arguments: head `l / 64` of row `r`, its key head shared by four. -/
def RES (a0 : FVec Ideal S2x8192x8x64 .f32) (a1 a2 : FVec Ideal S2x8192x2x64 .f32) (r : Fin 16384) (l : Fin 512) : EReal :=
  row (fun d => a0 (ix4 ⟨r.val / 8192, by omega⟩ ⟨r.val % 8192, by omega⟩ ⟨l.val / 256 * 4 + l.val / 64 % 4, by omega⟩ d))
    (fun (n : Fin 8192) d => a1 (ix4 ⟨r.val / 8192, by omega⟩ n ⟨l.val / 256, by omega⟩ d))
    (fun n => a2 (ix4 ⟨r.val / 8192, by omega⟩ n ⟨l.val / 256, by omega⟩ ⟨l.val % 64, by omega⟩))

end Cert.AttnIdeal.Value
-- ==== Proof.AttnHost.lean ====
module
public import proofs.«01_k».proof.Proof.AttnPoint
public import proofs.«01_k».proof.Proof.AttnMap
@[expose] public section
set_option maxRecDepth 16384
noncomputable section
namespace Cert.AttnIdeal.Value
open Cert.AttnIdeal Cert.AttnIdeal.Gen Idealize.ShloMosaic Idealize.ShloMosaic.TcCoe Idealize.SL.Sem
open Idealize.ShloMosaic.Pipeline (Dat)
open Cert.AttnMath
/-! The arrays the host prepares for the attention kernel, at an index. -/

/-- The queries, heads side by side, scaled. -/
def p_v5 (a0 : FVec Ideal S2x8192x8x64 .f32) : FVec Ideal S16384x512 .bf16 :=
  truncf .bf16 (mulf (shapeCast S16384x512 a0 shapeCasts_S2x8192x8x64_S16384x512) (broadcastInDim S16384x512 ![] bcast_S_S16384x512
    (Host.divf (constant S_ .f32 0x3E000000#32) (Host.log (constant S_ .f32 0x40000000#32))))) bitsLt_bf16_f32

/-- The keys, transposed by chunks of 1024. -/
def p_v8 (a1 : FVec Ideal S2x8192x2x64 .f32) : FVec Ideal S16x128x1024 .bf16 :=
  truncf .bf16 (transpose S16x128x1024 [0, 2, 1] (shapeCast S16x1024x128 a1 shapeCasts_S2x8192x2x64_S16x1024x128) transposes_S16x1024x128_S16x128x1024_0_2_1) bitsLt_bf16_f32

/-- The values, each head followed by ones. -/
def p_v13 (a2 : FVec Ideal S2x8192x2x64 .f32) : FVec Ideal S16384x256 .bf16 :=
  truncf .bf16 (shapeCast S16384x256 (concatenate S16384x2x128 2 [⟨S16384x2x64, shapeCast S16384x2x64 a2 shapeCasts_S2x8192x2x64_S16384x2x64⟩,
    ⟨S16384x2x64, broadcastInDim S16384x2x64 ![] bcast_S_S16384x2x64 (constant S_ .f32 0x3F800000#32)⟩] concatenates_S16384x2x64_S16384x2x64_S16384x2x128_d2)
    shapeCasts_S16384x2x128_S16384x256) bitsLt_bf16_f32

theorem p_v5_at (a0 : FVec Ideal S2x8192x8x64 .f32) (r : Fin 16384) (l : Fin 512) :
    p_v5 a0 (ix2 r l) = a0 (ix4 ⟨r.val / 8192, by omega⟩ ⟨r.val % 8192, by omega⟩ ⟨l.val / 64, by omega⟩ ⟨l.val % 64, by omega⟩) * qscale := by
  unfold qscale
  pointwise [p_v5]

theorem p_v8_at (a1 : FVec Ideal S2x8192x2x64 .f32) (j : Fin 16) (e : Fin 128) (n : Fin 1024) :
    p_v8 a1 (ix3 j e n) = a1 (ix4 ⟨j.val / 8, by omega⟩ ⟨j.val % 8 * 1024 + n.val, by omega⟩ ⟨e.val / 64, by omega⟩ ⟨e.val % 64, by omega⟩) := by
  pointwise [p_v8]

theorem p_v13_lo (a2 : FVec Ideal S2x8192x2x64 .f32) (r : Fin 16384) (l : Fin 256) (h : l.val % 128 < 64) :
    p_v13 a2 (ix2 r l) = a2 (ix4 ⟨r.val / 8192, by omega⟩ ⟨r.val % 8192, by omega⟩ ⟨l.val / 128, by omega⟩ ⟨l.val % 128, h⟩) := by
  pointwise [p_v13, h]

theorem p_v13_hi (a2 : FVec Ideal S2x8192x2x64 .f32) (r : Fin 16384) (l : Fin 256) (h : ¬ l.val % 128 < 64) :
    p_v13 a2 (ix2 r l) = 1 := by
  pointwise [p_v13, h]

variable (m : (ℓ : Loc nD τ sig) → Buf (Elt Ideal) ℓ)

theorem V_v5 (c : Dev nD) : V m c main_v5 = p_v5 (m ((c.tc : Thread nD τ).loc main_arg0)) := by
  unfold V; after_results; try rfl
theorem V_v8 (c : Dev nD) : V m c main_v8 = p_v8 (m ((c.tc : Thread nD τ).loc main_arg1)) := by
  unfold V; after_results; try rfl
theorem V_v13 (c : Dev nD) : V m c main_v13 = p_v13 (m ((c.tc : Thread nD τ).loc main_arg2)) := by
  unfold V; after_results; try rfl

end Cert.AttnIdeal.Value
-- ==== Proof.AttnBlock.lean ====
module
public import proofs.«01_k».proof.Proof.AttnLoop
public import proofs.«01_k».proof.Proof.AttnHost
@[expose] public section
set_option maxRecDepth 16384
noncomputable section
namespace Cert.AttnIdeal.Value
open Cert.AttnIdeal Cert.AttnIdeal.Gen Idealize.ShloMosaic Idealize.ShloMosaic.TcCoe Idealize.SL.Sem
open Idealize.ShloMosaic.Pipeline (Dat)
open Cert.AttnMath
/-! What the block stored at a grid point holds. -/
variable (m : (ℓ : Loc nD τ sig) → Buf (Elt Ideal) ℓ)

theorem idx : ∀ t : Fin cfg0.N, win0_0.index t = ![0] ∧ win0_1.index t = ![t.val / 16 * 8 + t.val % 8, t.val / 8 % 2]
    ∧ win0_2.index t = ![t.val / 16, t.val / 8 % 2, 0] ∧ win0_3.index t = ![t.val / 16, t.val / 8 % 2]
    ∧ win0_4.index t = ![t.val / 16 * 8 + t.val % 8, t.val / 8 % 2] :=
  (by decide +kernel : ∀ t : Fin grid0.N, _)

theorem pay2_run (c : Dev nD) (i : grid0.Coords) (arg3 : Memref sig .tc .smem S1 .f32) (harg3 : arg3.IsWhole) (arg4 : Memref sig .tc .vmem S1024x256 .bf16) (harg4 : arg4.IsWhole) (arg5 : Memref sig .tc .vmem S8x64x1024 .bf16) (harg5 : arg5.IsWhole) (arg6 : Memref sig .tc .vmem S8192x128 .bf16) (harg6 : arg6.IsWhole) (arg7 : Memref sig .tc .vmem S1024x256 .bf16) (harg7 : arg7.IsWhole) (arg8 : Memref sig .tc .vmem S4096x64 .bf16) (harg8 : arg8.IsWhole) (arg9 : Memref sig .tc .vmem S4096x1024 .bf16) (harg9 : arg9.IsWhole) (arg10 : Memref sig .tc .vmem S4096x128 .f32) (harg10 : arg10.IsWhole)
    (x0 : Vec Ideal S1 .f32) (x1 : Vec Ideal S1024x256 .bf16) (x2 : Vec Ideal S8x64x1024 .bf16) (x3 : Vec Ideal S8192x128 .bf16) (R R' : Fin 4096) (d d' : Fin 64)
    (hR : R.val = R'.val) (hd : d.val = d'.val) :
    k0_pay2 (F := Ideal) (kernelRun0_A.sl.v60 (F := Ideal) c i arg3 harg3 arg4 harg4 arg5 harg5 arg6 harg6 arg7 harg7 arg8 harg8 arg9 harg9 arg10 harg10 x0 x1 x2 x3) (ix2 R (lo d))
    = Ideal.div (∑ j : Fin 8, PV x0 x1 x2 x3 j R' (lo d')) (∑ j : Fin 8, PV x0 x1 x2 x3 j R' (hi d')) := by
  obtain rfl := Fin.ext hR
  obtain rfl := Fin.ext hd
  rw [pay2_at, v60_at, v60_at]

/-- The block: each head's rows, numerator over denominator. -/
theorem outs_at (c : Dev nD) (t : Fin cfg0.N) (r : Fin 1024) (l : Fin 256) :
    (show FVec Ideal S1024x256 .bf16 from outsAt0 m c t) (ix2 r l)
    = Ideal.div (∑ j : Fin 8, PV (iblk m c 0 t) (iblk m c 1 t) (iblk m c 2 t) (iblk m c 3 t) j ⟨l.val / 64 * 1024 + r.val, by omega⟩ (lo ⟨l.val % 64, by omega⟩))
      (∑ j : Fin 8, PV (iblk m c 0 t) (iblk m c 1 t) (iblk m c 2 t) (iblk m c 3 t) j ⟨l.val / 64 * 1024 + r.val, by omega⟩ (hi ⟨l.val % 64, by omega⟩)) := by
  unfold outsAt0 out0_A_4 kernelRun0_A
  dsimp only
  rw [View.read_writes_junk_eq_canon]
  canon_tiles x h
  case piece0 =>
    obtain ⟨a, e, rfl⟩ : ∃ a e, x = ix2 a e := ⟨_, _, eq_ix2 x⟩
    have h2 : r.val = a.val := h0
    have h3 : l.val = 192 + e.val := h1
    have ha := a.isLt
    have he := e.isLt
    refine (pay6_at _ a e).trans (pay2_run _ _ _ _ _ _ _ _ _ _ _ _ _ _ _ _ _ _ _ _ _ _ _ _ _ _ ?_ ?_) <;> dsimp only <;> omega
  case piece1 =>
    obtain ⟨a, e, rfl⟩ : ∃ a e, x = ix2 a e := ⟨_, _, eq_ix2 x⟩
    have h2 : r.val = a.val := h0
    have h3 : l.val = 128 + e.val := h1
    have ha := a.isLt
    have he := e.isLt
    refine (pay5_at _ a e).trans (pay2_run _ _ _ _ _ _ _ _ _ _ _ _ _ _ _ _ _ _ _ _ _ _ _ _ _ _ ?_ ?_) <;> dsimp only <;> omega
  case piece2 =>
    obtain ⟨a, e, rfl⟩ : ∃ a e, x = ix2 a e := ⟨_, _, eq_ix2 x⟩
    have h2 : r.val = a.val := h0
    have h3 : l.val = 64 + e.val := h1
    have ha := a.isLt
    have he := e.isLt
    refine (pay4_at _ a e).trans (pay2_run _ _ _ _ _ _ _ _ _ _ _ _ _ _ _ _ _ _ _ _ _ _ _ _ _ _ ?_ ?_) <;> dsimp only <;> omega
  case piece3 =>
    obtain ⟨a, e, rfl⟩ : ∃ a e, x = ix2 a e := ⟨_, _, eq_ix2 x⟩
    have h2 : r.val = a.val := h0
    have h3 : l.val = e.val := h1
    have ha := a.isLt
    have he := e.isLt
    refine (pay3_at _ a e).trans (pay2_run _ _ _ _ _ _ _ _ _ _ _ _ _ _ _ _ _ _ _ _ _ _ _ _ _ _ ?_ ?_) <;> dsimp only <;> omega

/-- The arguments, read. -/
abbrev A0 (c : Dev nD) : FVec Ideal S2x8192x8x64 .f32 := m ((c.tc : Thread nD τ).loc main_arg0)
abbrev A1 (c : Dev nD) : FVec Ideal S2x8192x2x64 .f32 := m ((c.tc : Thread nD τ).loc main_arg1)
abbrev A2 (c : Dev nD) : FVec Ideal S2x8192x2x64 .f32 := m ((c.tc : Thread nD τ).loc main_arg2)
abbrev A3 (c : Dev nD) : FVec Ideal S1 .f32 := m ((c.tc : Thread nD τ).loc main_arg3)

/-- Eight chunks of 1024 keys are the 8192 keys. -/
theorem sum_keys (f : Fin 8192 → EReal) : ∑ j : Fin 8, ∑ n : Fin 1024, f ⟨j.val * 1024 + n.val, by omega⟩ = ∑ N : Fin 8192, f N := by
  rw [← Fintype.sum_prod_type' (f := fun (j : Fin 8) (n : Fin 1024) => f ⟨j.val * 1024 + n.val, by omega⟩)]
  exact Fintype.sum_equiv (finProdFinEquiv (m := 8) (n := 1024)) _ _ fun x => congrArg f (Fin.ext (by simp [finProdFinEquiv]; omega))

theorem b_at (c : Dev nD) (t : Fin cfg0.N) : (show FVec Ideal S1 .f32 from iblk m c 0 t) (ix1 0) = A3 m c (ix1 0) := by
  blk_point [iblk, V, idx t]

/-- The weighted values of one stacked row, all keys. -/
theorem pv_at (x0 : Vec Ideal S1 .f32) (x1 : Vec Ideal S1024x256 .bf16) (x2 : Vec Ideal S8x64x1024 .bf16) (x3 : Vec Ideal S8192x128 .bf16)
    (R : Fin 4096) (l : Fin 128) (β : EReal) (q : Fin 64 → EReal) (k : Fin 8192 → Fin 64 → EReal) (v : Fin 8192 → EReal)
    (h0 : x0 (ix1 0) = β) (h1 : ∀ d, qrow x1 R d = q d * qscale) (h2 : ∀ (j : Fin 8) (n : Fin 1024) (d : Fin 64), x2 (ix3 j d n) = k ⟨j.val * 1024 + n.val, by omega⟩ d)
    (h3 : ∀ N, x3 (ix2 N l) = v N) :
    ∑ j : Fin 8, PV x0 x1 x2 x3 j R l = ∑ N : Fin 8192, fixed β q (k N) * v N := by
  refine Eq.trans ?_ (sum_keys _)
  refine Finset.sum_congr rfl fun j _ => ?_
  unfold PV
  refine Finset.sum_congr rfl fun n _ => ?_
  rw [h3]
  congr 1
  unfold W wgt fixed
  simp only [h0, h1, h2]

section Reads
variable (c : Dev nD) (t : Fin cfg0.N) (b : Fin 2) (g : Fin 2) (hb : b.val = t.val / 16) (hg : g.val = t.val / 8 % 2)
include hb hg

theorem q_at (R : Fin 4096) (s : Fin 8192) (h : Fin 8) (hs : s.val = t.val % 8 * 1024 + R.val % 1024) (hh : h.val = g.val * 4 + R.val / 1024) (d : Fin 64) :
    qrow (iblk m c 1 t) R d = A0 m c (ix4 b s h d) * qscale := by
  unfold qrow
  have e : (show FVec Ideal S1024x256 .bf16 from iblk m c 1 t) (ix2 ⟨R.val % 1024, by omega⟩ ⟨64 * (R.val / 1024) + d.val, by omega⟩)
      = (show FVec Ideal S16384x512 .bf16 from V m c main_v5) (ix2 ⟨(t.val / 16 * 8 + t.val % 8) * 1024 + R.val % 1024, by omega⟩ ⟨t.val / 8 % 2 * 256 + (64 * (R.val / 1024) + d.val), by omega⟩) := by
    blk_point [iblk, idx t]
  refine e.trans ?_
  rw [V_v5]
  refine (p_v5_at _ _ _).trans ?_
  congr 2
  blk_ext

theorem k_at (j : Fin 8) (n : Fin 1024) (N : Fin 8192) (hN : N.val = j.val * 1024 + n.val) (d : Fin 64) :
    (show FVec Ideal S8x64x1024 .bf16 from iblk m c 2 t) (ix3 j d n) = A1 m c (ix4 b N g d) := by
  have e : (show FVec Ideal S8x64x1024 .bf16 from iblk m c 2 t) (ix3 j d n)
      = (show FVec Ideal S16x128x1024 .bf16 from V m c main_v8) (ix3 ⟨t.val / 16 * 8 + j.val, by omega⟩ ⟨t.val / 8 % 2 * 64 + d.val, by omega⟩ n) := by
    blk_point [iblk, idx t]
  refine e.trans ?_
  rw [V_v8]
  refine (p_v8_at _ _ _ _).trans ?_
  blk_ext

theorem v_lo (N : Fin 8192) (d : Fin 64) :
    (show FVec Ideal S8192x128 .bf16 from iblk m c 3 t) (ix2 N (lo d)) = A2 m c (ix4 b N g d) := by
  have e : (show FVec Ideal S8192x128 .bf16 from iblk m c 3 t) (ix2 N (lo d))
      = (show FVec Ideal S16384x256 .bf16 from V m c main_v13) (ix2 ⟨t.val / 16 * 8192 + N.val, by omega⟩ ⟨t.val / 8 % 2 * 128 + d.val, by omega⟩) := by
    blk_point [iblk, idx t, lo]
  refine e.trans ?_
  rw [V_v13]
  refine (p_v13_lo _ _ _ (by dsimp only; omega)).trans ?_
  blk_ext

theorem v_hi (N : Fin 8192) (d : Fin 64) :
    (show FVec Ideal S8192x128 .bf16 from iblk m c 3 t) (ix2 N (hi d)) = 1 := by
  have e : (show FVec Ideal S8192x128 .bf16 from iblk m c 3 t) (ix2 N (hi d))
      = (show FVec Ideal S16384x256 .bf16 from V m c main_v13) (ix2 ⟨t.val / 16 * 8192 + N.val, by omega⟩ ⟨t.val / 8 % 2 * 128 + (64 + d.val), by omega⟩) := by
    blk_point [iblk, idx t, hi]
  refine e.trans ?_
  rw [V_v13]
  exact p_v13_hi _ _ _ (by dsimp only; omega)

end Reads

/-- The block stored at a grid point holds softmax attention of its rows, the queries, keys and bound being finite. -/
theorem point (c : Dev nD) (f0 : ∀ i, ∃ x : ℝ, A0 m c i = (x : EReal)) (f1 : ∀ i, ∃ x : ℝ, A1 m c i = (x : EReal)) (f3 : ∀ i, ∃ x : ℝ, A3 m c i = (x : EReal))
    (t : Fin cfg0.N) (r : Fin 1024) (l : Fin 256) (R : Fin 16384) (L : Fin 512)
    (hR : R.val = (t.val / 16 * 8 + t.val % 8) * 1024 + r.val) (hL : L.val = t.val / 8 % 2 * 256 + l.val) :
    (show FVec Ideal S1024x256 .bf16 from outsAt0 m c t) (ix2 r l) = RES (A0 m c) (A1 m c) (A2 m c) R L := by
  have ht : t.val < 32 := t.isLt
  refine (outs_at m c t r l).trans ?_
  choose q0 hq using f0
  choose k0 hk using f1
  choose b0 hb0 using f3
  have e0 : (⟨R.val / 8192, by omega⟩ : Fin 2).val = t.val / 16 := by dsimp only; omega
  have e1 : (⟨L.val / 256, by omega⟩ : Fin 2).val = t.val / 8 % 2 := by dsimp only; omega
  rw [pv_at _ _ _ _ ⟨l.val / 64 * 1024 + r.val, by omega⟩ (lo ⟨l.val % 64, by omega⟩) (A3 m c (ix1 0)) (fun d => A0 m c (ix4 ⟨R.val / 8192, by omega⟩ ⟨R.val % 8192, by omega⟩ ⟨L.val / 256 * 4 + L.val / 64 % 4, by omega⟩ d)) (fun N d => A1 m c (ix4 ⟨R.val / 8192, by omega⟩ N ⟨L.val / 256, by omega⟩ d)) (fun N => A2 m c (ix4 ⟨R.val / 8192, by omega⟩ N ⟨L.val / 256, by omega⟩ ⟨l.val % 64, by omega⟩)) (b_at m c t)
      (q_at m c t ⟨R.val / 8192, by omega⟩ ⟨L.val / 256, by omega⟩ e0 e1 _ ⟨R.val % 8192, by omega⟩
      ⟨L.val / 256 * 4 + L.val / 64 % 4, by omega⟩ (by dsimp only; omega) (by dsimp only; omega))
      (fun j n d => k_at m c t _ _ e0 e1 j n _ rfl d) (fun N => v_lo m c t _ _ e0 e1 N _),
    pv_at _ _ _ _ ⟨l.val / 64 * 1024 + r.val, by omega⟩ (hi ⟨l.val % 64, by omega⟩) (A3 m c (ix1 0)) (fun d => A0 m c (ix4 ⟨R.val / 8192, by omega⟩ ⟨R.val % 8192, by omega⟩ ⟨L.val / 256 * 4 + L.val / 64 % 4, by omega⟩ d)) (fun N d => A1 m c (ix4 ⟨R.val / 8192, by omega⟩ N ⟨L.val / 256, by omega⟩ d)) (fun _ => 1) (b_at m c t)
      (q_at m c t ⟨R.val / 8192, by omega⟩ ⟨L.val / 256, by omega⟩ e0 e1 _ ⟨R.val % 8192, by omega⟩
      ⟨L.val / 256 * 4 + L.val / 64 % 4, by omega⟩ (by dsimp only; omega) (by dsimp only; omega))
      (fun j n d => k_at m c t _ _ e0 e1 j n _ rfl d) (fun N => v_hi m c t _ _ e0 e1 N _)]
  unfold RES
  rw [show (⟨L.val % 64, by omega⟩ : Fin 64) = ⟨l.val % 64, by omega⟩ from Fin.ext (by dsimp only; omega)]
  simp only [hq, hk, hb0]
  exact fixed_row _ _ _ _

end Cert.AttnIdeal.Value
-- ==== Proof.AttnFinal.lean ====
module
public import proofs.«01_k».proof.Proof.AttnBlock
public import Idealize.ShloMosaic.Lib.Pipeline.ValueKit
@[expose] public section
set_option maxRecDepth 16384
noncomputable section
namespace Cert.AttnIdeal.Value
open Cert.AttnIdeal Cert.AttnIdeal.Gen Idealize.ShloMosaic Idealize.ShloMosaic.TcCoe Idealize.SL.Sem
open Idealize.ShloMosaic.Pipeline (Dat)
variable (m : (ℓ : Loc nD τ sig) → Buf (Elt Ideal) ℓ)

/-- The array after the run: softmax attention at every entry, the queries, keys and bound being finite. -/
theorem final (c : Dev nD) (f0 : ∀ i, ∃ x : ℝ, A0 m c i = (x : EReal)) (f1 : ∀ i, ∃ x : ℝ, A1 m c i = (x : EReal)) (f3 : ∀ i, ∃ x : ℝ, A3 m c i = (x : EReal)) :
    (dats m 0 c).arrAt 4 (cfgs 0).N = fun i : S16384x512.Idx => RES (A0 m c) (A1 m c) (A2 m c) (i 0) (i 1) := by
  refine (dats m 0 c).arrAt_eq_of_covers 4 _ (by decide +kernel) fun t _ y => ?_
  blk_simp
  rw [after0_4]
  have h0 : ((win0_4.blk t).view.emb y 0 : ℕ) = (t.val / 16 * 8 + t.val % 8) * 1024 + (y 0).val := by blk_simp [idx t]
  have h1 : ((win0_4.blk t).view.emb y 1 : ℕ) = t.val / 8 % 2 * 256 + (y 1).val := by blk_simp [idx t]
  rw [show y = ix2 (y 0) (y 1) from eq_ix2 y]
  exact point m c f0 f1 f3 t (y 0) (y 1) _ _ h0 h1
end Cert.AttnIdeal.Value
-- ==== Proof.AttnPre.lean ====
module
public import proofs.«01_k».proof.Proof.Gen.Pre_finite_scores
public import Idealize.ShloMosaic.Lib.ReduceAll
public import Idealize.ShloMosaic.Lib.Pointwise
/-! The precondition read back: every query, key and bound is a real number. -/
@[expose] public section
noncomputable section
namespace Cert.AttnPre
open Idealize.ShloMosaic Cert.Pre_finite_scores Cert.Pre_finite_scores.Gen

/-- An extended real whose absolute value is below infinity is a real number. -/
theorem real_of_abs (x : EReal) (h : Ideal.cmp .olt (max x (-x)) (Ideal.ofBits FTy.f32 0x7F800000#32) = 1#1) : ∃ y : ℝ, x = (y : EReal) := by
  have top : Ideal.ofBits FTy.f32 0x7F800000#32 = ⊤ := by simp [Ideal.ofBits, Ideal.ieee]
  rw [top] at h
  have lt : max x (-x) < ⊤ := by
    by_contra hn
    simp [Ideal.cmp, hn] at h
  have h1 : x ≠ ⊤ := fun e => by simp [e] at lt
  have h2 : x ≠ ⊥ := fun e => by simp [e] at lt
  exact ⟨x.toReal, (EReal.coe_toReal h1 h2).symm⟩

instance : Subsingleton S_.Idx := ⟨fun _ _ => funext fun a => a.elim0⟩

theorem finite (a0 : FVec Ideal S2x8192x8x64 .f32) (a1 a2 : FVec Ideal S2x8192x2x64 .f32) (a3 : FVec Ideal S1 .f32)
    (h : (haveI := facts; fn (F := Ideal) a0 a1 a2 a3) = fun _ => 1#1) :
    (∀ i, ∃ x : ℝ, a0 i = (x : EReal)) ∧ (∀ i, ∃ x : ℝ, a1 i = (x : EReal)) ∧ ∀ i, ∃ x : ℝ, a3 i = (x : EReal) := by
  have hj := congrFun h ix0
  unfold fn at hj
  obtain ⟨h01, h3⟩ := IntOp.andi_eq_one.1 hj
  obtain ⟨h0, h1⟩ := IntOp.andi_eq_one.1 h01
  exact ⟨fun i => real_of_abs _ (Host.reduce_andi_all _ _ _ _ _ h0 i), fun i => real_of_abs _ (Host.reduce_andi_all _ _ _ _ _ h1 i),
    fun i => real_of_abs _ (Host.reduce_andi_all _ _ _ _ _ h3 i)⟩
end Cert.AttnPre
-- ==== Proof.AttnRef.lean ====
module
public import proofs.«01_k».proof.Proof.Gen.AttnRefIdeal.Run
public import proofs.«01_k».proof.Proof.AttnMap
public import Idealize.ShloMosaic.Lib.Pointwise
@[expose] public section
set_option maxRecDepth 16384
noncomputable section
namespace Cert.AttnRefIdeal.Value
open Cert.AttnRefIdeal Cert.AttnRefIdeal.Gen Idealize.ShloMosaic Idealize.ShloMosaic.TcCoe Idealize.SL.Sem
open Cert.AttnMath Cert.AttnIdeal.Value
/-! The reference attention, cut at its stages and read at an index. -/

def r_v4 (v_arg0 : FVec Ideal S2x8192x8x64 .f32) (v_arg1 : FVec Ideal S2x8192x2x64 .f32) : FVec Ideal S2x2x4x8192x8192 .f32 :=
  (mulf (transpose S2x2x4x8192x8192 [0, 1, 4, 3, 2] (Host.dotGeneral dot_S2x8192x2x64_S2x8192x2x4x64_S2x2x8192x8192x4_3_4_1_13_02_02 none v_arg1 (shapeCast S2x8192x2x4x64 v_arg0 shapeCasts_S2x8192x8x64_S2x8192x2x4x64)) transposes_S2x2x8192x8192x4_S2x2x4x8192x8192_0_1_4_3_2) (broadcastInDim S2x2x4x8192x8192 ![] bcast_S_S2x2x4x8192x8192 (constant S_ .f32 0x3E000000#32)))
def r_v5 (v_v4 : FVec Ideal S2x2x4x8192x8192 .f32) : FVec Ideal S2x2x4x8192 .f32 :=
  (Host.reduce FloatOps.maximumf v_v4 (constant S_ .f32 0xFF800000#32) reducesTo_S2x2x4x8192x8192_S2x2x4x8192_d4 h_S_)
def r_v7 (v_v5 : FVec Ideal S2x2x4x8192 .f32) : FVec Ideal S2x2x4x8192 .f32 :=
  (maximumf (broadcastInDim S2x2x4x8192 ![] bcast_S_S2x2x4x8192 (constant S_ .f32 0xFF800000#32)) v_v5)
def r_v11 (v_v4 : FVec Ideal S2x2x4x8192x8192 .f32) (v_v7 : FVec Ideal S2x2x4x8192 .f32) : FVec Ideal S2x2x4x8192x8192 .f32 :=
  (Host.exp (subf v_v4 (broadcastInDim S2x2x4x8192x8192 ![0, 1, 2, 3, 4] bcast_S2x2x4x8192x1_S2x2x4x8192x8192_0_1_2_3_4 (broadcastInDim S2x2x4x8192x1 ![0, 1, 2, 3] bcast_S2x2x4x8192_S2x2x4x8192x1_0_1_2_3 v_v7))))
def r_v12 (v_v11 : FVec Ideal S2x2x4x8192x8192 .f32) : FVec Ideal S2x2x4x8192 .f32 :=
  (Host.reduceAdd v_v11 (constant S_ .f32 0x00000000#32) reducesTo_S2x2x4x8192x8192_S2x2x4x8192_d4 h_S_)
def r_v15 (v_v11 : FVec Ideal S2x2x4x8192x8192 .f32) (v_v12 : FVec Ideal S2x2x4x8192 .f32) : FVec Ideal S2x2x4x8192x8192 .f32 :=
  (Host.divf v_v11 (broadcastInDim S2x2x4x8192x8192 ![0, 1, 2, 3, 4] bcast_S2x2x4x8192x1_S2x2x4x8192x8192_0_1_2_3_4 (broadcastInDim S2x2x4x8192x1 ![0, 1, 2, 3] bcast_S2x2x4x8192_S2x2x4x8192x1_0_1_2_3 v_v12)))
def r_v16 (v_arg2 : FVec Ideal S2x8192x2x64 .f32) (v_v15 : FVec Ideal S2x2x4x8192x8192 .f32) : FVec Ideal S2x2x64x4x8192 .f32 :=
  (Host.dotGeneral dot_S2x8192x2x64_S2x2x4x8192x8192_S2x2x64x4x8192_1_4_3_23_02_01 none v_arg2 v_v15)
def r_v19 (v_v16 : FVec Ideal S2x2x64x4x8192 .f32) : FVec Ideal S16384x512 .bf16 :=
  (truncf .bf16 (shapeCast S16384x512 (transpose S2x8192x2x4x64 [0, 4, 1, 3, 2] v_v16 transposes_S2x2x64x4x8192_S2x8192x2x4x64_0_4_1_3_2) shapeCasts_S2x8192x2x4x64_S16384x512) bitsLt_bf16_f32)
/-- The reference's result of its arguments. -/
def refRes (a0 : FVec Ideal S2x8192x8x64 .f32) (a1 a2 : FVec Ideal S2x8192x2x64 .f32) : FVec Ideal S16384x512 .bf16 :=
  (r_v19 (r_v16 a2 (r_v15 (r_v11 (r_v4 a0 a1) (r_v7 (r_v5 (r_v4 a0 a1)))) (r_v12 (r_v11 (r_v4 a0 a1) (r_v7 (r_v5 (r_v4 a0 a1))))))))

theorem r_v4_at (q : FVec Ideal S2x8192x8x64 .f32) (k : FVec Ideal S2x8192x2x64 .f32) (b h : Fin 2) (g : Fin 4) (s n : Fin 8192) :
    r_v4 q k (ix5 b h g s n) = (∑ d : Fin 64, k (ix4 b n h d) * q (ix4 b s ⟨h.val * 4 + g.val, by omega⟩ d)) * Ideal.ofBits FTy.f32 0x3E000000#32 := by
  pointwise [r_v4]

theorem r_v5_at (x : FVec Ideal S2x2x4x8192x8192 .f32) (b h : Fin 2) (g : Fin 4) (s : Fin 8192) :
    r_v5 x (ix4 b h g s) = Finset.fold max (Ideal.ofBits FTy.f32 0xFF800000#32) (fun n => x (ix5 b h g s n)) Finset.univ := by
  pointwise [r_v5]

theorem r_v7_at (x : FVec Ideal S2x2x4x8192 .f32) (b h : Fin 2) (g : Fin 4) (s : Fin 8192) :
    r_v7 x (ix4 b h g s) = max (Ideal.ofBits FTy.f32 0xFF800000#32) (x (ix4 b h g s)) := by
  pointwise [r_v7]

theorem r_v11_at (x : FVec Ideal S2x2x4x8192x8192 .f32) (y : FVec Ideal S2x2x4x8192 .f32) (b h : Fin 2) (g : Fin 4) (s n : Fin 8192) :
    r_v11 x y (ix5 b h g s n) = Ideal.exp (x (ix5 b h g s n) - y (ix4 b h g s)) := by
  pointwise [r_v11]

theorem r_v12_at (x : FVec Ideal S2x2x4x8192x8192 .f32) (b h : Fin 2) (g : Fin 4) (s : Fin 8192) :
    r_v12 x (ix4 b h g s) = ∑ n : Fin 8192, x (ix5 b h g s n) := by
  pointwise [r_v12]

theorem r_v15_at (x : FVec Ideal S2x2x4x8192x8192 .f32) (y : FVec Ideal S2x2x4x8192 .f32) (b h : Fin 2) (g : Fin 4) (s n : Fin 8192) :
    r_v15 x y (ix5 b h g s n) = Ideal.div (x (ix5 b h g s n)) (y (ix4 b h g s)) := by
  pointwise [r_v15]

theorem r_v16_at (v : FVec Ideal S2x8192x2x64 .f32) (p : FVec Ideal S2x2x4x8192x8192 .f32) (b h : Fin 2) (d : Fin 64) (g : Fin 4) (s : Fin 8192) :
    r_v16 v p (ix5 b h d g s) = ∑ n : Fin 8192, v (ix4 b n h d) * p (ix5 b h g s n) := by
  pointwise [r_v16]

theorem r_v19_at (x : FVec Ideal S2x2x64x4x8192 .f32) (r : Fin 16384) (l : Fin 512) :
    r_v19 x (ix2 r l) = x (ix5 ⟨r.val / 8192, by omega⟩ ⟨l.val / 256, by omega⟩ ⟨l.val % 64, by omega⟩ ⟨l.val / 64 % 4, by omega⟩ ⟨r.val % 8192, by omega⟩) := by
  pointwise [r_v19]

/-- The reference at an index: softmax attention of its query row. -/
theorem refRes_at (a0 : FVec Ideal S2x8192x8x64 .f32) (a1 a2 : FVec Ideal S2x8192x2x64 .f32) (r : Fin 16384) (l : Fin 512) :
    refRes a0 a1 a2 (ix2 r l) = RES a0 a1 a2 r l := by
  unfold refRes RES row top score eighth
  simp only [r_v19_at, r_v16_at, r_v15_at, r_v12_at, r_v11_at, r_v7_at, r_v5_at, r_v4_at]

end Cert.AttnRefIdeal.Value
-- ==== Proof.AttnClaim.lean ====
module
public import proofs.«01_k».proof.Defs
public import proofs.«01_k».proof.Proof.AttnFinal
public import proofs.«01_k».proof.Proof.AttnPre
public import proofs.«01_k».proof.Proof.AttnRef
public import Idealize.ShloMosaic.Lib.Claim
/-! The value claim: both programs' results are softmax attention of the same arguments. -/
@[expose] public section
set_option maxRecDepth 16384
noncomputable section
namespace Cert.AttnClaim
open Idealize.ShloMosaic Idealize.SL.Sem

theorem algebraic : Cert.algebraic_AttnIdeal_AttnRefIdeal_pre_finite_scores (hAttnIdeal := Cert.AttnIdeal.Gen.facts) (hAttnRefIdeal := Cert.AttnRefIdeal.Gen.facts)
    (hPre_finite_scores := Cert.Pre_finite_scores.Gen.facts) := by
  pair_intro
  · run_from Cert.AttnIdeal.Value.run_blocks m g
  · run_from Cert.AttnRefIdeal.Value.run m' g'
    have hp := Cert.AttnPre.finite _ _ _ _ (‹Cert.Pre_AttnIdeal_finite_scores m› c)
    refine Eq.trans ?_ (Cert.AttnIdeal.Value.final m c hp.1 hp.2.1 hp.2.2).symm
    funext i
    rw [show i = ix2 (i 0) (i 1) from eq_ix2 i]
    exact Cert.AttnRefIdeal.Value.refRes_at _ _ _ (i 0) (i 1)
end Cert.AttnClaim
-- ==== Proof.FfnMath.lean ====
module
public import Idealize.ShloMosaic.PureOps.Ideal
public import Idealize.ShloMosaic.Lib.Pointwise
/-!
The arithmetic of one row of the feed-forward block, as a function of extended reals: no grid, no blocks.
Both the kernel's stored block and the reference's composed term are shown to be this function.
-/
@[expose] public section
noncomputable section
namespace Cert.Ffn1
open Idealize.ShloMosaic

/-- The conditioned normalised row: the row over its root mean square, times the gain and one plus the scale, plus the shift. -/
def normRow (x g sc sh : Fin 1024 → EReal) (e : Fin 1024) : EReal :=
  x e * Ideal.rsqrt (Ideal.div (∑ d, x d * x d) (Ideal.ofBits FTy.f32 1149239296#32) + Ideal.ofBits FTy.f32 897988541#32)
    * g e * (1 + sc e) + sh e

/-- One hidden unit before its gate: the normalised row against column `f` of a weight. -/
def hid (h : Fin 1024 → EReal) (w : Fin 1024 → Fin 2752 → EReal) (f : Fin 2752) : EReal := ∑ e, h e * w e f

/-- What hidden unit `f` adds to output column `d`. -/
def unit (h : Fin 1024 → EReal) (w1 w3 : Fin 1024 → Fin 2752 → EReal) (w2 : Fin 2752 → Fin 1024 → EReal)
    (d : Fin 1024) (f : Fin 2752) : EReal :=
  hid h w1 f * Ideal.logistic (hid h w1 f) * hid h w3 f * w2 f d

/-- The half step: the row plus half its gate times the gated two-layer map of the normalised row. -/
def ffnRow (x g sc sh ga : Fin 1024 → EReal) (w1 w3 : Fin 1024 → Fin 2752 → EReal) (w2 : Fin 2752 → Fin 1024 → EReal)
    (d : Fin 1024) : EReal :=
  x d + Ideal.ofBits FTy.f32 1056964608#32 * ga d * ∑ f, unit (normRow x g sc sh) w1 w3 w2 d f

/-- A sum over the first `a + b` numbers, cut after `a`. -/
theorem sum_cut {a b : ℕ} (g : Fin (a + b) → EReal) :
    ∑ i, g i = (∑ i : Fin a, g ⟨i, by omega⟩) + ∑ i : Fin b, g ⟨a + i, by omega⟩ := by
  rw [Fin.sum_univ_add]; rfl

/-- The kernel's ten chunks of 256 hidden units and its last one of 192, added in order, are all 2752. -/
theorem sum_chunks (g : Fin 2752 → EReal) :
    (∑ i : Fin 256, g ⟨i, by omega⟩) + (∑ i : Fin 256, g ⟨256 + i, by omega⟩) + (∑ i : Fin 256, g ⟨512 + i, by omega⟩)
      + (∑ i : Fin 256, g ⟨768 + i, by omega⟩) + (∑ i : Fin 256, g ⟨1024 + i, by omega⟩)
      + (∑ i : Fin 256, g ⟨1280 + i, by omega⟩) + (∑ i : Fin 256, g ⟨1536 + i, by omega⟩)
      + (∑ i : Fin 256, g ⟨1792 + i, by omega⟩) + (∑ i : Fin 256, g ⟨2048 + i, by omega⟩)
      + (∑ i : Fin 256, g ⟨2304 + i, by omega⟩) + (∑ i : Fin 192, g ⟨2560 + i, by omega⟩) = ∑ f, g f := by
  rw [sum_cut (a := 2560) (b := 192) g, sum_cut (a := 2304) (b := 256), sum_cut (a := 2048) (b := 256),
    sum_cut (a := 1792) (b := 256), sum_cut (a := 1536) (b := 256), sum_cut (a := 1280) (b := 256),
    sum_cut (a := 1024) (b := 256), sum_cut (a := 768) (b := 256), sum_cut (a := 512) (b := 256),
    sum_cut (a := 256) (b := 256)]

end Cert.Ffn1
-- ==== Proof.FfnPoint.lean ====
module
public import proofs.«01_k».proof.Proof.Gen.FfnIdeal.Value
public import proofs.«01_k».proof.Proof.Gen.FfnRefIdeal.Run
public import proofs.«01_k».proof.Proof.FfnMath
public import Idealize.ShloMosaic.Lib.Pipeline.ValueKit
public import Idealize.ShloMosaic.Lib.Pointwise
@[expose] public section
set_option maxRecDepth 16384
noncomputable section
namespace Cert.FfnIdeal.Value
open Cert.FfnIdeal Cert.FfnIdeal.Gen Idealize.ShloMosaic Idealize.ShloMosaic.TcCoe Idealize.SL.Sem
open Cert.Ffn1
theorem x_at (v0 : FVec Ideal S1024x1024 .f32) (v1 : FVec Ideal S1024x512 .bf16) (v2 : FVec Ideal S1x512x1024 .bf16) (v5 : FVec Ideal S1024x512 .f32) (v7 : FVec Ideal S1x512x1024 .bf16) (v11 : FVec Ideal S1x1x1024 .f32) (r e : Fin 1024) :
   k0_pay2 (F := Ideal) v0 v1 v2 v5 v7 v11 (ix2 r e) = v0 (ix2 r e) + v11 (ix3 0 0 e) * (∑ x, v1 (ix2 r x) * v2 (ix3 0 x e) + ∑ x, v5 (ix2 r x) * v7 (ix3 0 x e)) := by
  pointwise [k0_pay2]
theorem h_at (x0 : FVec Ideal S1024x1024 .f32) (x1 : FVec Ideal S1x1024 .f32) (x2 x3 x4 : FVec Ideal S1x1x1024 .f32)
    (x5 x6 : FVec Ideal S1x1x1024x2752 .bf16) (x7 : FVec Ideal S1x1x2752x1024 .bf16) (x8 : FVec Ideal S1024x512 .bf16) (x9 : FVec Ideal S1024x512 .f32)
    (x10 : FVec Ideal S1x1024x1024 .bf16) (x11 : FVec Ideal S1x1x1024 .f32) (r d : Fin 1024) :
   k0_pay25 (F := Ideal) x0 x1 x2 x3 x4 x5 x6 x7 x8 x9 x10 x11 (ix2 r d) =
     normRow (fun e => k0_pay20 (F := Ideal) x0 x1 x2 x3 x4 x5 x6 x7 x8 x9 x10 x11 (ix2 r e)) (fun e => x1 (ix2 0 e)) (fun e => x3 (ix3 0 0 e)) (fun e => x2 (ix3 0 0 e)) d := by
  unfold normRow
  pointwise [k0_pay25, k0_pay24, k0_pay23, k0_pay22, k0_pay21, k0_pay20, k0_pay7, k0_pay6, k0_pay5, k0_pay4, k0_pay3]
theorem out_at (x0 : FVec Ideal S1024x1024 .f32) (x1 : FVec Ideal S1x1024 .f32) (x2 x3 x4 : FVec Ideal S1x1x1024 .f32)
    (x5 x6 : FVec Ideal S1x1x1024x2752 .bf16) (x7 : FVec Ideal S1x1x2752x1024 .bf16) (x8 : FVec Ideal S1024x512 .bf16) (x9 : FVec Ideal S1024x512 .f32)
    (x10 : FVec Ideal S1x1024x1024 .bf16) (x11 : FVec Ideal S1x1x1024 .f32) (r d : Fin 1024) :
   out0_12 (F := Ideal) x0 x1 x2 x3 x4 x5 x6 x7 x8 x9 x10 x11 (ix2 r d) =
     ffnRow (fun e => k0_pay20 (F := Ideal) x0 x1 x2 x3 x4 x5 x6 x7 x8 x9 x10 x11 (ix2 r e)) (fun e => x1 (ix2 0 e)) (fun e => x3 (ix3 0 0 e)) (fun e => x2 (ix3 0 0 e))
       (fun e => x4 (ix3 0 0 e)) (fun e f => x5 (ix4 0 0 e f)) (fun e f => x6 (ix4 0 0 e f)) (fun f e => x7 (ix4 0 0 f e)) d := by
  unfold ffnRow
  rw [← sum_chunks]
  unfold out0_12
  frame_out
  pointwise [k0_pay1, k0_pay19, k0_pay18, k0_pay17, k0_pay16, k0_pay15, k0_pay14, k0_pay13, k0_pay12, k0_pay11, k0_pay10, k0_pay9, k0_pay8]
  simp only [unit, hid, ← h_at, k0_pay25]

end Cert.FfnIdeal.Value
-- ==== Proof.FfnMap.lean ====
module
public import proofs.«01_k».proof.FfnIdeal
public import proofs.«01_k».proof.Proof.FfnMath
@[expose] public section
noncomputable section
namespace Cert.FfnIdeal.Value
open Cert.FfnIdeal Idealize.ShloMosaic Cert.Ffn1

/-- The batch of row `r` of the 16384. -/
def bat (r : Fin 16384) : Fin 2 := ⟨r.val / 8192, by omega⟩

/-- Row `r` with the mixers' update added: the gate times the concatenated mixer outputs against the output weight. -/
def mixRow (a0 : FVec Ideal S16384x1024 .f32) (a2 : FVec Ideal S2x2x3x3x1x1024 .f32) (a6 : FVec Ideal S16384x512 .bf16)
    (a7 : FVec Ideal S16384x512 .f32) (a8 : FVec Ideal S2x1024x1024 .f32) (r : Fin 16384) (e : Fin 1024) : EReal :=
  a0 (ix2 r e) + a2 (ix6 1 (bat r) 1 2 0 e)
    * ((∑ k : Fin 512, a6 (ix2 r k) * a8 (ix3 1 ⟨k, by omega⟩ e)) + ∑ k : Fin 512, a7 (ix2 r k) * a8 (ix3 1 ⟨512 + k, by omega⟩ e))

/-- The call's result as a function of its arguments. -/
def RES (a0 : FVec Ideal S16384x1024 .f32) (a1 : FVec Ideal S2x3x1024 .f32) (a2 : FVec Ideal S2x2x3x3x1x1024 .f32)
    (a3 a4 : FVec Ideal S2x2x1024x2752 .bf16) (a5 : FVec Ideal S2x2x2752x1024 .f32) (a6 : FVec Ideal S16384x512 .bf16)
    (a7 : FVec Ideal S16384x512 .f32) (a8 : FVec Ideal S2x1024x1024 .f32) (r : Fin 16384) (d : Fin 1024) : EReal :=
  ffnRow (mixRow a0 a2 a6 a7 a8 r) (fun e => a1 (ix3 1 2 e)) (fun e => a2 (ix6 1 (bat r) 2 1 0 e))
    (fun e => a2 (ix6 1 (bat r) 2 0 0 e)) (fun e => a2 (ix6 1 (bat r) 2 2 0 e))
    (fun e f => a3 (ix4 1 1 e f)) (fun e f => a4 (ix4 1 1 e f)) (fun f e => a5 (ix4 1 1 f e)) d

end Cert.FfnIdeal.Value
-- ==== Proof.FfnBlock.lean ====
module
public import proofs.«01_k».proof.Proof.FfnPoint
public import proofs.«01_k».proof.Proof.FfnMap
public import Idealize.ShloMosaic.Lib.Pipeline.ValueKit
@[expose] public section
set_option maxRecDepth 16384
noncomputable section
namespace Cert.FfnIdeal.Value
open Cert.FfnIdeal Cert.FfnIdeal.Gen Idealize.ShloMosaic Idealize.ShloMosaic.TcCoe Idealize.SL.Sem
open Idealize.ShloMosaic.Pipeline (Dat)
open Cert.Ffn1
/-! What the block stored at a grid point holds: the half step of the rows of that point. -/
variable (m : (ℓ : Loc nD τ sig) → Buf (Elt Ideal) ℓ)

theorem idx : ∀ t : Fin cfg0.N, win0_0.index t = ![t.val, 0] ∧ win0_1.index t = ![0, 0] ∧ win0_2.index t = ![t.val / 8, 0, 0]
    ∧ win0_3.index t = ![t.val / 8, 0, 0] ∧ win0_4.index t = ![t.val / 8, 0, 0] ∧ win0_5.index t = ![1, 1, 0, 0]
    ∧ win0_6.index t = ![1, 1, 0, 0] ∧ win0_7.index t = ![1, 1, 0, 0] ∧ win0_8.index t = ![t.val, 0] ∧ win0_9.index t = ![t.val, 0]
    ∧ win0_10.index t = ![1, 0, 0] ∧ win0_11.index t = ![t.val / 8, 0, 0] ∧ win0_12.index t = ![t.val, 0] :=
  (by decide +kernel : ∀ t : Fin grid0.N, _)

theorem point (c : Dev nD) (t : Fin cfg0.N) (r d : Fin 1024) (R : Fin 16384) (hR : R.val = t.val * 1024 + r.val) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d)
    = RES (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) R d := by
  rw [out_at]
  unfold RES mixRow bat
  have hb : t.val / 8 = R.val / 8192 := by omega
  congr 1
  · funext e
    pointwise [k0_pay20, k0_pay2]
    blk_point [iblk, V, idx t]
  · funext e
    blk_point [iblk, V, idx t]
  · funext e
    blk_point [iblk, V, idx t]
  · funext e
    blk_point [iblk, V, idx t]
  · funext e
    blk_point [iblk, V, idx t]
  · funext e f
    blk_point [iblk, V, idx t]
  · funext e f
    blk_point [iblk, V, idx t]
  · funext e f
    blk_point [iblk, V, idx t]

end Cert.FfnIdeal.Value
-- ==== Proof.FfnFinal.lean ====
module
public import proofs.«01_k».proof.Proof.FfnBlock
public import proofs.«01_k».proof.Proof.FfnMap
public import Idealize.ShloMosaic.Lib.Pipeline.ValueKit
@[expose] public section
set_option maxRecDepth 16384
noncomputable section
namespace Cert.FfnIdeal.Value
open Cert.FfnIdeal Cert.FfnIdeal.Gen Idealize.ShloMosaic Idealize.ShloMosaic.TcCoe Idealize.SL.Sem
open Idealize.ShloMosaic.Pipeline (Dat)
open Cert.Ffn1
variable (m : (ℓ : Loc nD τ sig) → Buf (Elt Ideal) ℓ)

/-- The array after the run: the half step at every entry. -/
theorem final (c : Dev nD) : (dats m 0 c).arrAt 12 (cfgs 0).N
    = fun i : S16384x1024.Idx => RES (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (i 0) (i 1) := by
  refine (dats m 0 c).arrAt_eq_of_covers 12 _ (by decide +kernel) fun t _ y => ?_
  blk_simp
  rw [after0_12]
  have h0 : ((win0_12.blk t).view.emb y 0 : ℕ) = t.val * 1024 + (y 0).val := by blk_simp [idx t]
  have h1 : (win0_12.blk t).view.emb y 1 = y 1 := Fin.ext (by blk_simp [idx t])
  rw [h1, show y = ix2 (y 0) (y 1) from eq_ix2 y]
  exact point m c t (y 0) (y 1) _ h0
end Cert.FfnIdeal.Value
-- ==== Proof.FfnRef.lean ====
module
public import proofs.«01_k».proof.Proof.Gen.FfnRefIdeal.Run
public import proofs.«01_k».proof.Proof.FfnMap
public import Idealize.ShloMosaic.Lib.Pointwise
/-!
The reference's composed term, cut at its named stages (row, normalised row, gate, product) and read at an index.
-/
@[expose] public section
set_option maxRecDepth 16384
noncomputable section
namespace Cert.FfnRefIdeal.Value
open Cert.FfnRefIdeal Cert.FfnRefIdeal.Gen Idealize.ShloMosaic Idealize.ShloMosaic.TcCoe Idealize.SL.Sem
open Cert.Ffn1 Cert.FfnIdeal.Value

def r_v3 (v_arg2 : FVec Ideal S2x2x3x3x1x1024 .f32) : FVec Ideal S2x3x3x1024 .f32 :=
  (shapeCast S2x3x3x1024 (shapeCast S2x3x3x1x1024 (extractStridedSlice S1x2x3x3x1x1024 ![1, 0, 0, 0, 0, 0] v_arg2 slices_S2x2x3x3x1x1024_S1x2x3x3x1x1024_1_0_0_0_0_0) shapeCasts_S1x2x3x3x1x1024_S2x3x3x1x1024) shapeCasts_S2x3x3x1x1024_S2x3x3x1024)
def r_v16 (v_arg0 : FVec Ideal S16384x1024 .f32) (v_arg6 : FVec Ideal S16384x512 .bf16) (v_arg7 : FVec Ideal S16384x512 .f32) (v_arg8 : FVec Ideal S2x1024x1024 .f32) (v_v3 : FVec Ideal S2x3x3x1024 .f32) : FVec Ideal S2x8192x1024 .f32 :=
  (addf (shapeCast S2x8192x1024 v_arg0 shapeCasts_S16384x1024_S2x8192x1024) (mulf (broadcastInDim S2x8192x1024 ![0, 1, 2] bcast_S2x1x1024_S2x8192x1024_0_1_2 (broadcastInDim S2x1x1024 ![0, 2] bcast_S2x1024_S2x1x1024_0_2 (shapeCast S2x1024 (extractStridedSlice S2x1x1x1024 ![0, 1, 2, 0] v_v3 slices_S2x3x3x1024_S2x1x1x1024_0_1_2_0) shapeCasts_S2x1x1x1024_S2x1024))) (Host.dotGeneral dot_S2x8192x1024_S1024x1024_S2x8192x1024_2_0_01_1_n_n none (concatenate S2x8192x1024 2 [⟨S2x8192x512, (shapeCast S2x8192x512 (extf .f32 v_arg6 bitsLt_bf16_f32) shapeCasts_S16384x512_S2x8192x512)⟩, ⟨S2x8192x512, (shapeCast S2x8192x512 v_arg7 shapeCasts_S16384x512_S2x8192x512)⟩] concatenates_S2x8192x512_S2x8192x512_S2x8192x1024_d2) (shapeCast S1024x1024 (extractStridedSlice S1x1024x1024 ![1, 0, 0] v_arg8 slices_S2x1024x1024_S1x1024x1024_1_0_0) shapeCasts_S1x1024x1024_S1024x1024))))
def r_v43 (v_arg1 : FVec Ideal S2x3x1024 .f32) (v_v3 : FVec Ideal S2x3x3x1024 .f32) (v_v16 : FVec Ideal S2x8192x1024 .f32) : FVec Ideal S2x8192x1024 .f32 :=
  (addf (mulf (mulf (mulf v_v16 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf v_v16 v_v16) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast S1024 (extractStridedSlice S1x1x1024 ![1, 2, 0] v_arg1 slices_S2x3x1024_S1x1x1024_1_2_0) shapeCasts_S1x1x1024_S1024)))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (shapeCast S2x1024 (extractStridedSlice S2x1x1x1024 ![0, 2, 1, 0] v_v3 slices_S2x3x3x1024_S2x1x1x1024_0_2_1_0) shapeCasts_S2x1x1x1024_S2x1024))))) (broadcastInDim S2x8192x1024 ![0, 1, 2] bcast_S2x1x1024_S2x8192x1024_0_1_2 (broadcastInDim S2x1x1024 ![0, 2] bcast_S2x1024_S2x1x1024_0_2 (shapeCast S2x1024 (extractStridedSlice S2x1x1x1024 ![0, 2, 0, 0] v_v3 slices_S2x3x3x1024_S2x1x1x1024_0_2_0_0) shapeCasts_S2x1x1x1024_S2x1024))))
def r_v57 (v_arg3 : FVec Ideal S2x2x1024x2752 .bf16) (v_v43 : FVec Ideal S2x8192x1024 .f32) : FVec Ideal S2x8192x2752 .f32 :=
  (Host.dotGeneral dot_S2x8192x1024_S1024x2752_S2x8192x2752_2_0_01_1_n_n none v_v43 (extf .f32 (shapeCast S1024x2752 (extractStridedSlice S1x1x1024x2752 ![1, 1, 0, 0] v_arg3 slices_S2x2x1024x2752_S1x1x1024x2752_1_1_0_0) shapeCasts_S1x1x1024x2752_S1024x2752) bitsLt_bf16_f32))
def r_v58 (v_v57 : FVec Ideal S2x8192x2752 .f32) : FVec Ideal S2x8192x2752 .f32 :=
  (mulf v_v57 (Host.divf ((broadcastInDim S2x8192x2752 ![] bcast_S_S2x8192x2752) (constant S_ .f32 0x3F800000#32)) (addf ((broadcastInDim S2x8192x2752 ![] bcast_S_S2x8192x2752) (constant S_ .f32 0x3F800000#32)) (Host.exp (Host.negf v_v57)))))
def r_v59 (v_arg4 : FVec Ideal S2x2x1024x2752 .bf16) (v_v43 : FVec Ideal S2x8192x1024 .f32) : FVec Ideal S2x8192x2752 .f32 :=
  (Host.dotGeneral dot_S2x8192x1024_S1024x2752_S2x8192x2752_2_0_01_1_n_n none v_v43 (extf .f32 (shapeCast S1024x2752 (extractStridedSlice S1x1x1024x2752 ![1, 1, 0, 0] v_arg4 slices_S2x2x1024x2752_S1x1x1024x2752_1_1_0_0) shapeCasts_S1x1x1024x2752_S1024x2752) bitsLt_bf16_f32))
def r_v60 (v_v58 : FVec Ideal S2x8192x2752 .f32) (v_v59 : FVec Ideal S2x8192x2752 .f32) : FVec Ideal S2x8192x2752 .f32 :=
  (mulf v_v58 v_v59)
def r_v65 (v_arg5 : FVec Ideal S2x2x2752x1024 .f32) (v_v3 : FVec Ideal S2x3x3x1024 .f32) (v_v16 : FVec Ideal S2x8192x1024 .f32) (v_v60 : FVec Ideal S2x8192x2752 .f32) : FVec Ideal S16384x1024 .f32 :=
  (shapeCast S16384x1024 (addf v_v16 (mulf (broadcastInDim S2x8192x1024 ![0, 1, 2] bcast_S2x1x1024_S2x8192x1024_0_1_2 (mulf (broadcastInDim S2x1x1024 ![] bcast_S_S2x1x1024 (constant S_ .f32 0x3F000000#32)) (broadcastInDim S2x1x1024 ![0, 2] bcast_S2x1024_S2x1x1024_0_2 (shapeCast S2x1024 (extractStridedSlice S2x1x1x1024 ![0, 2, 2, 0] v_v3 slices_S2x3x3x1024_S2x1x1x1024_0_2_2_0) shapeCasts_S2x1x1x1024_S2x1024)))) (Host.dotGeneral dot_S2x8192x2752_S2752x1024_S2x8192x1024_2_0_01_1_n_n none v_v60 (shapeCast S2752x1024 (extractStridedSlice S1x1x2752x1024 ![1, 1, 0, 0] v_arg5 slices_S2x2x2752x1024_S1x1x2752x1024_1_1_0_0) shapeCasts_S1x1x2752x1024_S2752x1024)))) shapeCasts_S2x8192x1024_S16384x1024)
theorem res_eq (m : (ℓ : Loc nD τ sig) → Buf (Elt Ideal) ℓ) (c : Dev nD) : res_main_v65 m c =
  (r_v65 (m ((c.tc : Thread nD τ).loc main_arg5)) (r_v3 (m ((c.tc : Thread nD τ).loc main_arg2))) (r_v16 (m ((c.tc : Thread nD τ).loc main_arg0)) (m ((c.tc : Thread nD τ).loc main_arg6)) (m ((c.tc : Thread nD τ).loc main_arg7)) (m ((c.tc : Thread nD τ).loc main_arg8)) (r_v3 (m ((c.tc : Thread nD τ).loc main_arg2)))) (r_v60 (r_v58 (r_v57 (m ((c.tc : Thread nD τ).loc main_arg3)) (r_v43 (m ((c.tc : Thread nD τ).loc main_arg1)) (r_v3 (m ((c.tc : Thread nD τ).loc main_arg2))) (r_v16 (m ((c.tc : Thread nD τ).loc main_arg0)) (m ((c.tc : Thread nD τ).loc main_arg6)) (m ((c.tc : Thread nD τ).loc main_arg7)) (m ((c.tc : Thread nD τ).loc main_arg8)) (r_v3 (m ((c.tc : Thread nD τ).loc main_arg2))))))) (r_v59 (m ((c.tc : Thread nD τ).loc main_arg4)) (r_v43 (m ((c.tc : Thread nD τ).loc main_arg1)) (r_v3 (m ((c.tc : Thread nD τ).loc main_arg2))) (r_v16 (m ((c.tc : Thread nD τ).loc main_arg0)) (m ((c.tc : Thread nD τ).loc main_arg6)) (m ((c.tc : Thread nD τ).loc main_arg7)) (m ((c.tc : Thread nD τ).loc main_arg8)) (r_v3 (m ((c.tc : Thread nD τ).loc main_arg2)))))))) := rfl

theorem r_v3_at (a2 : FVec Ideal S2x2x3x3x1x1024 .f32) (b : Fin 2) (s k : Fin 3) (e : Fin 1024) :
    r_v3 a2 (ix4 b s k e) = a2 (ix6 1 b s k 0 e) := by
  pointwise [r_v3]

theorem r_v16_at (a0 : FVec Ideal S16384x1024 .f32) (a2 : FVec Ideal S2x2x3x3x1x1024 .f32) (a6 : FVec Ideal S16384x512 .bf16)
    (a7 : FVec Ideal S16384x512 .f32) (a8 : FVec Ideal S2x1024x1024 .f32) (r : Fin 16384) (b : Fin 2) (s : Fin 8192)
    (hr : r.val = b.val * 8192 + s.val) (e : Fin 1024) :
    r_v16 a0 a6 a7 a8 (r_v3 a2) (ix3 b s e) = mixRow a0 a2 a6 a7 a8 r e := by
  have hb : bat r = b := Fin.ext (by simp only [bat]; omega)
  have hR : r = ⟨b.val * 8192 + s.val, by omega⟩ := Fin.ext hr
  unfold mixRow
  rw [hb, ← r_v3_at a2 b 1 2 e, hR]
  pointwise [r_v16]

theorem r_v60_at (a b : FVec Ideal S2x8192x2752 .f32) (i : S2x8192x2752.Idx) : r_v60 a b i = a i * b i := rfl

theorem r_v43_at (a1 : FVec Ideal S2x3x1024 .f32) (v3 : FVec Ideal S2x3x3x1024 .f32) (x : FVec Ideal S2x8192x1024 .f32)
    (b : Fin 2) (s : Fin 8192) (e : Fin 1024) :
    r_v43 a1 v3 x (ix3 b s e) = normRow (fun e => x (ix3 b s e)) (fun e => a1 (ix3 1 2 e)) (fun e => v3 (ix4 b 2 1 e)) (fun e => v3 (ix4 b 2 0 e)) e := by
  unfold normRow
  pointwise [r_v43]

theorem r_v57_at (w : FVec Ideal S2x2x1024x2752 .bf16) (h : FVec Ideal S2x8192x1024 .f32) (b : Fin 2) (s : Fin 8192) (f : Fin 2752) :
    r_v57 w h (ix3 b s f) = hid (fun e => h (ix3 b s e)) (fun e f => w (ix4 1 1 e f)) f := by
  unfold hid
  pointwise [r_v57]

theorem r_v59_at (w : FVec Ideal S2x2x1024x2752 .bf16) (h : FVec Ideal S2x8192x1024 .f32) (b : Fin 2) (s : Fin 8192) (f : Fin 2752) :
    r_v59 w h (ix3 b s f) = hid (fun e => h (ix3 b s e)) (fun e f => w (ix4 1 1 e f)) f := by
  unfold hid
  pointwise [r_v59]

theorem r_v58_at (z : FVec Ideal S2x8192x2752 .f32) (b : Fin 2) (s : Fin 8192) (f : Fin 2752) :
    r_v58 z (ix3 b s f) = z (ix3 b s f) * Ideal.logistic (z (ix3 b s f)) := by
  unfold Ideal.logistic
  pointwise [r_v58]

theorem r_v65_at (a5 : FVec Ideal S2x2x2752x1024 .f32) (v3 : FVec Ideal S2x3x3x1024 .f32) (x : FVec Ideal S2x8192x1024 .f32)
    (u : FVec Ideal S2x8192x2752 .f32) (r : Fin 16384) (b : Fin 2) (s : Fin 8192) (hr : r.val = b.val * 8192 + s.val) (d : Fin 1024) :
    r_v65 a5 v3 x u (ix2 r d) = x (ix3 b s d) + Ideal.ofBits FTy.f32 1056964608#32 * v3 (ix4 b 2 2 d) * ∑ f, u (ix3 b s f) * a5 (ix4 1 1 f d) := by
  have h1 : r.val / 8192 = b.val := by omega
  have h2 : r.val % 8192 = s.val := by omega
  pointwise [r_v65]
  simp only [h1, h2, Fin.eta]

/-- The reference at an index: the half step of its row. -/
theorem res_at (m : (ℓ : Loc nD τ sig) → Buf (Elt Ideal) ℓ) (c : Dev nD) (r : Fin 16384) (d : Fin 1024) :
    (show FVec Ideal S16384x1024 .f32 from res_main_v65 m c) (ix2 r d)
    = RES (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) r d := by
  have hr : r.val = (bat r).val * 8192 + (⟨r.val % 8192, by omega⟩ : Fin 8192).val := by simp only [bat]; omega
  rw [res_eq]
  refine (r_v65_at _ _ _ _ r _ _ hr d).trans ?_
  unfold RES ffnRow unit
  simp only [r_v60_at, r_v58_at, r_v57_at, r_v59_at, r_v43_at, r_v16_at _ _ _ _ _ r _ _ hr, r_v3_at]

end Cert.FfnRefIdeal.Value
-- ==== Proof.FfnClaim.lean ====
module
public import proofs.«01_k».proof.Defs
public import proofs.«01_k».proof.Proof.FfnFinal
public import proofs.«01_k».proof.Proof.FfnRef
public import Idealize.ShloMosaic.Lib.Claim
/-! The value claim: both programs' results are the half step of the same arguments. -/
@[expose] public section
set_option maxRecDepth 16384
noncomputable section
namespace Cert.FfnClaim
open Idealize.ShloMosaic Idealize.SL.Sem

theorem algebraic : Cert.algebraic_FfnIdeal_FfnRefIdeal (hFfnIdeal := Cert.FfnIdeal.Gen.facts) (hFfnRefIdeal := Cert.FfnRefIdeal.Gen.facts) := by
  pair_intro
  · run_from Cert.FfnIdeal.Value.run_blocks m g
  · run_from Cert.FfnRefIdeal.Value.run m' g'
    refine Eq.trans ?_ (Cert.FfnIdeal.Value.final m c).symm
    funext i
    rw [show i = ix2 (i 0) (i 1) from eq_ix2 i]
    refine (Cert.FfnRefIdeal.Value.res_at m' c (i 0) (i 1)).trans ?_
    obtain ⟨h0, h1, h2, h3, h4, h5, h6, h7, h8⟩ := hagree c
    simp only [h0, h1, h2, h3, h4, h5, h6, h7, h8]
    rfl
end Cert.FfnClaim
-- ==== Proof.HalfPoint.lean ====
module
public import proofs.«01_k».proof.Proof.Gen.HalfIdeal.Value
public import proofs.«01_k».proof.Proof.FfnMath
public import Idealize.ShloMosaic.Lib.Pipeline.ValueKit
public import Idealize.ShloMosaic.Lib.Pointwise
@[expose] public section
set_option maxRecDepth 16384
noncomputable section
namespace Cert.HalfIdeal.Value
open Cert.HalfIdeal Cert.HalfIdeal.Gen Idealize.ShloMosaic Idealize.ShloMosaic.TcCoe Idealize.SL.Sem
open Cert.Ffn1

theorem row_at (v0 : FVec Ideal S1024x1024 .f32) (v1 : FVec Ideal S1x1024 .f32) (v3 v5 : FVec Ideal S1x1x1024 .f32) (r d : Fin 1024) :
   k0_pay2 (F := Ideal) v0 v1 v3 v5 (ix2 r d) =
     normRow (fun e => v0 (ix2 r e)) (fun e => v1 (ix2 0 e)) (fun e => v3 (ix3 0 0 e)) (fun e => v5 (ix3 0 0 e)) d := by
  unfold normRow
  pointwise [k0_pay2]

theorem h_at (x0 : FVec Ideal S1024x1024 .f32) (x1 : FVec Ideal S1x1024 .f32) (x2 x3 x4 : FVec Ideal S1x1x1024 .f32)
    (x5 x6 : FVec Ideal S1x1x1024x2752 .bf16) (x7 : FVec Ideal S1x1x2752x1024 .bf16) (r d : Fin 1024) :
   k0_pay18 (F := Ideal) x0 x1 x2 x3 x4 x5 x6 x7 (ix2 r d) =
     normRow (fun e => x0 (ix2 r e)) (fun e => x1 (ix2 0 e)) (fun e => x3 (ix3 0 0 e)) (fun e => x2 (ix3 0 0 e)) d := by
  pointwise [k0_pay18, row_at]

theorem out_at (x0 : FVec Ideal S1024x1024 .f32) (x1 : FVec Ideal S1x1024 .f32) (x2 x3 x4 : FVec Ideal S1x1x1024 .f32)
    (x5 x6 : FVec Ideal S1x1x1024x2752 .bf16) (x7 : FVec Ideal S1x1x2752x1024 .bf16) (r d : Fin 1024) :
   out0_8 (F := Ideal) x0 x1 x2 x3 x4 x5 x6 x7 (ix2 r d) =
     ffnRow (fun e => x0 (ix2 r e)) (fun e => x1 (ix2 0 e)) (fun e => x3 (ix3 0 0 e)) (fun e => x2 (ix3 0 0 e))
       (fun e => x4 (ix3 0 0 e)) (fun e f => x5 (ix4 0 0 e f)) (fun e f => x6 (ix4 0 0 e f)) (fun f e => x7 (ix4 0 0 f e)) d := by
  unfold ffnRow
  rw [← sum_chunks]
  unfold out0_8
  frame_out
  pointwise [k0_pay1, k0_pay17, k0_pay16, k0_pay15, k0_pay14, k0_pay13, k0_pay12, k0_pay11, k0_pay10, k0_pay9, k0_pay8, k0_pay7, k0_pay6, k0_pay5, k0_pay4, k0_pay3]
  simp only [unit, hid, h_at, row_at]
end Cert.HalfIdeal.Value
-- ==== Proof.HalfMap.lean ====
module
public import proofs.«01_k».proof.HalfIdeal
public import proofs.«01_k».proof.Proof.FfnMath
@[expose] public section
noncomputable section
namespace Cert.HalfIdeal.Value
open Cert.HalfIdeal Idealize.ShloMosaic Cert.Ffn1

/-- The batch of row `r` of the 16384. -/
def bat (r : Fin 16384) : Fin 2 := ⟨r.val / 8192, by omega⟩

/-- The call's result as a function of its arguments. -/
def RES (a0 : FVec Ideal S16384x1024 .f32) (a1 : FVec Ideal S2x3x1024 .f32) (a2 : FVec Ideal S2x2x3x3x1x1024 .f32)
    (a3 a4 : FVec Ideal S2x2x1024x2752 .bf16) (a5 : FVec Ideal S2x2x2752x1024 .f32) (r : Fin 16384) (d : Fin 1024) : EReal :=
  ffnRow (fun e => a0 (ix2 r e)) (fun e => a1 (ix3 0 0 e)) (fun e => a2 (ix6 0 (bat r) 0 1 0 e))
    (fun e => a2 (ix6 0 (bat r) 0 0 0 e)) (fun e => a2 (ix6 0 (bat r) 0 2 0 e))
    (fun e f => a3 (ix4 0 0 e f)) (fun e f => a4 (ix4 0 0 e f)) (fun f e => a5 (ix4 0 0 f e)) d

end Cert.HalfIdeal.Value
-- ==== Proof.HalfBlock.lean ====
module
public import proofs.«01_k».proof.Proof.HalfPoint
public import proofs.«01_k».proof.Proof.HalfMap
public import Idealize.ShloMosaic.Lib.Pipeline.ValueKit
@[expose] public section
set_option maxRecDepth 16384
noncomputable section
namespace Cert.HalfIdeal.Value
open Cert.HalfIdeal Cert.HalfIdeal.Gen Idealize.ShloMosaic Idealize.ShloMosaic.TcCoe Idealize.SL.Sem
open Idealize.ShloMosaic.Pipeline (Dat)
open Cert.Ffn1
/-! What the block stored at a grid point holds: the half step of the rows of that point. -/
variable (m : (ℓ : Loc nD τ sig) → Buf (Elt Ideal) ℓ)

theorem idx : ∀ t : Fin cfg0.N, win0_0.index t = ![t.val, 0] ∧ win0_1.index t = ![0, 0] ∧ win0_2.index t = ![t.val / 8, 0, 0]
    ∧ win0_3.index t = ![t.val / 8, 0, 0] ∧ win0_4.index t = ![t.val / 8, 0, 0] ∧ win0_5.index t = ![0, 0, 0, 0]
    ∧ win0_6.index t = ![0, 0, 0, 0] ∧ win0_7.index t = ![0, 0, 0, 0] ∧ win0_8.index t = ![t.val, 0] :=
  (by decide +kernel : ∀ t : Fin grid0.N, _)

theorem point (c : Dev nD) (t : Fin cfg0.N) (r d : Fin 1024) (R : Fin 16384) (hR : R.val = t.val * 1024 + r.val) :
    out0_8 (F := Ideal) (iblk m c 0 t) (iblk m c 1 t) (iblk m c 2 t) (iblk m c 3 t) (iblk m c 4 t) (iblk m c 5 t) (iblk m c 6 t) (iblk m c 7 t) (ix2 r d)
    = RES (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) R d := by
  rw [out_at]
  unfold RES bat
  have hb : t.val / 8 = R.val / 8192 := by omega
  congr 1
  · funext e
    blk_point [iblk, V, idx t]
  · funext e
    blk_point [iblk, V, idx t]
  · funext e
    blk_point [iblk, V, idx t]
  · funext e
    blk_point [iblk, V, idx t]
  · funext e
    blk_point [iblk, V, idx t]
  · funext e f
    blk_point [iblk, V, idx t]
  · funext e f
    blk_point [iblk, V, idx t]
  · funext e f
    blk_point [iblk, V, idx t]

end Cert.HalfIdeal.Value
-- ==== Proof.HalfFinal.lean ====
module
public import proofs.«01_k».proof.Proof.HalfBlock
public import proofs.«01_k».proof.Proof.HalfMap
public import Idealize.ShloMosaic.Lib.Pipeline.ValueKit
@[expose] public section
set_option maxRecDepth 16384
noncomputable section
namespace Cert.HalfIdeal.Value
open Cert.HalfIdeal Cert.HalfIdeal.Gen Idealize.ShloMosaic Idealize.ShloMosaic.TcCoe Idealize.SL.Sem
open Idealize.ShloMosaic.Pipeline (Dat)
open Cert.Ffn1
variable (m : (ℓ : Loc nD τ sig) → Buf (Elt Ideal) ℓ)

/-- The array after the run: the half step at every entry. -/
theorem final (c : Dev nD) : (dats m 0 c).arrAt 8 (cfgs 0).N
    = fun i : S16384x1024.Idx => RES (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 0) (i 1) := by
  refine (dats m 0 c).arrAt_eq_of_covers 8 _ (by decide +kernel) fun t _ y => ?_
  blk_simp
  rw [after0_8]
  have h0 : ((win0_8.blk t).view.emb y 0 : ℕ) = t.val * 1024 + (y 0).val := by blk_simp [idx t]
  have h1 : (win0_8.blk t).view.emb y 1 = y 1 := Fin.ext (by blk_simp [idx t])
  rw [h1, show y = ix2 (y 0) (y 1) from eq_ix2 y]
  exact point m c t (y 0) (y 1) _ h0
end Cert.HalfIdeal.Value
-- ==== Proof.HalfRef.lean ====
module
public import proofs.«01_k».proof.Proof.Gen.HalfRefIdeal.Run
public import proofs.«01_k».proof.Proof.HalfMap
public import Idealize.ShloMosaic.Lib.Pointwise
/-!
The reference's composed term, cut at its named stages (row, normalised row, gate, product) and read at an index.
-/
@[expose] public section
set_option maxRecDepth 16384
noncomputable section
namespace Cert.HalfRefIdeal.Value
open Cert.HalfRefIdeal Cert.HalfRefIdeal.Gen Idealize.ShloMosaic Idealize.ShloMosaic.TcCoe Idealize.SL.Sem
open Cert.Ffn1 Cert.HalfIdeal.Value

def r_v0 (v_arg0 : FVec Ideal S16384x1024 .f32) : FVec Ideal S2x8192x1024 .f32 :=
  (shapeCast S2x8192x1024 v_arg0 shapeCasts_S16384x1024_S2x8192x1024)
def r_v3 (v_arg2 : FVec Ideal S2x2x3x3x1x1024 .f32) : FVec Ideal S2x3x3x1024 .f32 :=
  (shapeCast S2x3x3x1024 (shapeCast S2x3x3x1x1024 (extractStridedSlice S1x2x3x3x1x1024 ![0, 0, 0, 0, 0, 0] v_arg2 slices_S2x2x3x3x1x1024_S1x2x3x3x1x1024_0_0_0_0_0_0) shapeCasts_S1x2x3x3x1x1024_S2x3x3x1x1024) shapeCasts_S2x3x3x1x1024_S2x3x3x1024)
def r_v30 (v_arg1 : FVec Ideal S2x3x1024 .f32) (v_v0 : FVec Ideal S2x8192x1024 .f32) (v_v3 : FVec Ideal S2x3x3x1024 .f32) : FVec Ideal S2x8192x1024 .f32 :=
  (addf (mulf (mulf (mulf v_v0 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf v_v0 v_v0) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast S1024 (extractStridedSlice S1x1x1024 ![0, 0, 0] v_arg1 slices_S2x3x1024_S1x1x1024_0_0_0) shapeCasts_S1x1x1024_S1024)))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (shapeCast S2x1024 (extractStridedSlice S2x1x1x1024 ![0, 0, 1, 0] v_v3 slices_S2x3x3x1024_S2x1x1x1024_0_0_1_0) shapeCasts_S2x1x1x1024_S2x1024))))) (broadcastInDim S2x8192x1024 ![0, 1, 2] bcast_S2x1x1024_S2x8192x1024_0_1_2 (broadcastInDim S2x1x1024 ![0, 2] bcast_S2x1024_S2x1x1024_0_2 (shapeCast S2x1024 (extractStridedSlice S2x1x1x1024 ![0, 0, 0, 0] v_v3 slices_S2x3x3x1024_S2x1x1x1024_0_0_0_0) shapeCasts_S2x1x1x1024_S2x1024))))
def r_v44 (v_arg3 : FVec Ideal S2x2x1024x2752 .bf16) (v_v30 : FVec Ideal S2x8192x1024 .f32) : FVec Ideal S2x8192x2752 .f32 :=
  (Host.dotGeneral dot_S2x8192x1024_S1024x2752_S2x8192x2752_2_0_01_1_n_n none v_v30 (extf .f32 (shapeCast S1024x2752 (extractStridedSlice S1x1x1024x2752 ![0, 0, 0, 0] v_arg3 slices_S2x2x1024x2752_S1x1x1024x2752_0_0_0_0) shapeCasts_S1x1x1024x2752_S1024x2752) bitsLt_bf16_f32))
def r_v45 (v_v44 : FVec Ideal S2x8192x2752 .f32) : FVec Ideal S2x8192x2752 .f32 :=
  (mulf v_v44 (Host.divf ((broadcastInDim S2x8192x2752 ![] bcast_S_S2x8192x2752) (constant S_ .f32 0x3F800000#32)) (addf ((broadcastInDim S2x8192x2752 ![] bcast_S_S2x8192x2752) (constant S_ .f32 0x3F800000#32)) (Host.exp (Host.negf v_v44)))))
def r_v46 (v_arg4 : FVec Ideal S2x2x1024x2752 .bf16) (v_v30 : FVec Ideal S2x8192x1024 .f32) : FVec Ideal S2x8192x2752 .f32 :=
  (Host.dotGeneral dot_S2x8192x1024_S1024x2752_S2x8192x2752_2_0_01_1_n_n none v_v30 (extf .f32 (shapeCast S1024x2752 (extractStridedSlice S1x1x1024x2752 ![0, 0, 0, 0] v_arg4 slices_S2x2x1024x2752_S1x1x1024x2752_0_0_0_0) shapeCasts_S1x1x1024x2752_S1024x2752) bitsLt_bf16_f32))
def r_v47 (v_v45 : FVec Ideal S2x8192x2752 .f32) (v_v46 : FVec Ideal S2x8192x2752 .f32) : FVec Ideal S2x8192x2752 .f32 :=
  (mulf v_v45 v_v46)
def r_v52 (v_arg5 : FVec Ideal S2x2x2752x1024 .f32) (v_v0 : FVec Ideal S2x8192x1024 .f32) (v_v3 : FVec Ideal S2x3x3x1024 .f32) (v_v47 : FVec Ideal S2x8192x2752 .f32) : FVec Ideal S16384x1024 .f32 :=
  (shapeCast S16384x1024 (addf v_v0 (mulf (broadcastInDim S2x8192x1024 ![0, 1, 2] bcast_S2x1x1024_S2x8192x1024_0_1_2 (mulf (broadcastInDim S2x1x1024 ![] bcast_S_S2x1x1024 (constant S_ .f32 0x3F000000#32)) (broadcastInDim S2x1x1024 ![0, 2] bcast_S2x1024_S2x1x1024_0_2 (shapeCast S2x1024 (extractStridedSlice S2x1x1x1024 ![0, 0, 2, 0] v_v3 slices_S2x3x3x1024_S2x1x1x1024_0_0_2_0) shapeCasts_S2x1x1x1024_S2x1024)))) (Host.dotGeneral dot_S2x8192x2752_S2752x1024_S2x8192x1024_2_0_01_1_n_n none v_v47 (shapeCast S2752x1024 (extractStridedSlice S1x1x2752x1024 ![0, 0, 0, 0] v_arg5 slices_S2x2x2752x1024_S1x1x2752x1024_0_0_0_0) shapeCasts_S1x1x2752x1024_S2752x1024)))) shapeCasts_S2x8192x1024_S16384x1024)
theorem res_eq (m : (ℓ : Loc nD τ sig) → Buf (Elt Ideal) ℓ) (c : Dev nD) : res_main_v52 m c =
  (r_v52 (m ((c.tc : Thread nD τ).loc main_arg5)) (r_v0 (m ((c.tc : Thread nD τ).loc main_arg0))) (r_v3 (m ((c.tc : Thread nD τ).loc main_arg2))) (r_v47 (r_v45 (r_v44 (m ((c.tc : Thread nD τ).loc main_arg3)) (r_v30 (m ((c.tc : Thread nD τ).loc main_arg1)) (r_v0 (m ((c.tc : Thread nD τ).loc main_arg0))) (r_v3 (m ((c.tc : Thread nD τ).loc main_arg2)))))) (r_v46 (m ((c.tc : Thread nD τ).loc main_arg4)) (r_v30 (m ((c.tc : Thread nD τ).loc main_arg1)) (r_v0 (m ((c.tc : Thread nD τ).loc main_arg0))) (r_v3 (m ((c.tc : Thread nD τ).loc main_arg2))))))) := rfl

theorem r_v3_at (a2 : FVec Ideal S2x2x3x3x1x1024 .f32) (b : Fin 2) (s k : Fin 3) (e : Fin 1024) :
    r_v3 a2 (ix4 b s k e) = a2 (ix6 0 b s k 0 e) := by
  pointwise [r_v3]

theorem r_v0_at (a0 : FVec Ideal S16384x1024 .f32) (r : Fin 16384) (b : Fin 2) (s : Fin 8192)
    (hr : r.val = b.val * 8192 + s.val) (e : Fin 1024) : r_v0 a0 (ix3 b s e) = a0 (ix2 r e) := by
  have hR : r = ⟨b.val * 8192 + s.val, by omega⟩ := Fin.ext hr
  rw [hR]
  pointwise [r_v0]

theorem r_v47_at (a b : FVec Ideal S2x8192x2752 .f32) (i : S2x8192x2752.Idx) : r_v47 a b i = a i * b i := rfl

theorem r_v30_at (a1 : FVec Ideal S2x3x1024 .f32) (v3 : FVec Ideal S2x3x3x1024 .f32) (x : FVec Ideal S2x8192x1024 .f32)
    (b : Fin 2) (s : Fin 8192) (e : Fin 1024) :
    r_v30 a1 x v3 (ix3 b s e) = normRow (fun e => x (ix3 b s e)) (fun e => a1 (ix3 0 0 e)) (fun e => v3 (ix4 b 0 1 e)) (fun e => v3 (ix4 b 0 0 e)) e := by
  unfold normRow
  pointwise [r_v30]

theorem r_v44_at (w : FVec Ideal S2x2x1024x2752 .bf16) (h : FVec Ideal S2x8192x1024 .f32) (b : Fin 2) (s : Fin 8192) (f : Fin 2752) :
    r_v44 w h (ix3 b s f) = hid (fun e => h (ix3 b s e)) (fun e f => w (ix4 0 0 e f)) f := by
  unfold hid
  pointwise [r_v44]

theorem r_v46_at (w : FVec Ideal S2x2x1024x2752 .bf16) (h : FVec Ideal S2x8192x1024 .f32) (b : Fin 2) (s : Fin 8192) (f : Fin 2752) :
    r_v46 w h (ix3 b s f) = hid (fun e => h (ix3 b s e)) (fun e f => w (ix4 0 0 e f)) f := by
  unfold hid
  pointwise [r_v46]

theorem r_v45_at (z : FVec Ideal S2x8192x2752 .f32) (b : Fin 2) (s : Fin 8192) (f : Fin 2752) :
    r_v45 z (ix3 b s f) = z (ix3 b s f) * Ideal.logistic (z (ix3 b s f)) := by
  unfold Ideal.logistic
  pointwise [r_v45]

theorem r_v52_at (a5 : FVec Ideal S2x2x2752x1024 .f32) (v3 : FVec Ideal S2x3x3x1024 .f32) (x : FVec Ideal S2x8192x1024 .f32)
    (u : FVec Ideal S2x8192x2752 .f32) (r : Fin 16384) (b : Fin 2) (s : Fin 8192) (hr : r.val = b.val * 8192 + s.val) (d : Fin 1024) :
    r_v52 a5 x v3 u (ix2 r d) = x (ix3 b s d) + Ideal.ofBits FTy.f32 1056964608#32 * v3 (ix4 b 0 2 d) * ∑ f, u (ix3 b s f) * a5 (ix4 0 0 f d) := by
  have h1 : r.val / 8192 = b.val := by omega
  have h2 : r.val % 8192 = s.val := by omega
  pointwise [r_v52]
  simp only [h1, h2, Fin.eta]

/-- The reference at an index: the half step of its row. -/
theorem res_at (m : (ℓ : Loc nD τ sig) → Buf (Elt Ideal) ℓ) (c : Dev nD) (r : Fin 16384) (d : Fin 1024) :
    (show FVec Ideal S16384x1024 .f32 from res_main_v52 m c) (ix2 r d)
    = RES (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) r d := by
  have hr : r.val = (bat r).val * 8192 + (⟨r.val % 8192, by omega⟩ : Fin 8192).val := by simp only [bat]; omega
  rw [res_eq]
  refine (r_v52_at _ _ _ _ r _ _ hr d).trans ?_
  unfold RES ffnRow unit
  simp only [r_v47_at, r_v45_at, r_v44_at, r_v46_at, r_v30_at, r_v0_at _ r _ _ hr, r_v3_at]

end Cert.HalfRefIdeal.Value
-- ==== Proof.HalfClaim.lean ====
module
public import proofs.«01_k».proof.Defs
public import proofs.«01_k».proof.Proof.HalfFinal
public import proofs.«01_k».proof.Proof.HalfRef
public import Idealize.ShloMosaic.Lib.Claim
/-! The value claim: both programs' results are the half step of the same arguments. -/
@[expose] public section
set_option maxRecDepth 16384
noncomputable section
namespace Cert.HalfClaim
open Idealize.ShloMosaic Idealize.SL.Sem

theorem algebraic : Cert.algebraic_HalfIdeal_HalfRefIdeal (hHalfIdeal := Cert.HalfIdeal.Gen.facts) (hHalfRefIdeal := Cert.HalfRefIdeal.Gen.facts) := by
  pair_intro
  · run_from Cert.HalfIdeal.Value.run_blocks m g
  · run_from Cert.HalfRefIdeal.Value.run m' g'
    refine Eq.trans ?_ (Cert.HalfIdeal.Value.final m c).symm
    funext i
    rw [show i = ix2 (i 0) (i 1) from eq_ix2 i]
    refine (Cert.HalfRefIdeal.Value.res_at m' c (i 0) (i 1)).trans ?_
    obtain ⟨h0, h1, h2, h3, h4, h5⟩ := hagree c
    simp only [h0, h1, h2, h3, h4, h5]
    rfl
end Cert.HalfClaim
-- ==== Proof.ProjMath.lean ====
module
public import Idealize.ShloMosaic.PureOps.Ideal
public import Idealize.ShloMosaic.Lib.Pointwise
public import proofs.«01_k».proof.Proof.AttnMath
public import proofs.«01_k».proof.Proof.FfnMath
/-!
Head-wise normalisation over extended reals. The kernel sums squares through a product with a 0/1 matrix of diagonal
64 by 64 blocks, in two parts (the squares rounded, and what rounding dropped); on finite entries the second part is
zero and the product is the sum over the entry's own head.
-/
@[expose] public section
noncomputable section
namespace Cert.ProjMath
open Idealize.ShloMosaic Cert.AttnMath

/-- A finite entry. -/
def Fin' (x : EReal) : Prop := ∃ r : ℝ, x = r

theorem Fin'.add {x y : EReal} : Fin' x → Fin' y → Fin' (x + y)
  | ⟨a, ha⟩, ⟨b, hb⟩ => ⟨a + b, by rw [ha, hb, EReal.coe_add]⟩

theorem Fin'.mul {x y : EReal} : Fin' x → Fin' y → Fin' (x * y)
  | ⟨a, ha⟩, ⟨b, hb⟩ => ⟨a * b, by rw [ha, hb, EReal.coe_mul]⟩

theorem Fin'.sum {ι : Type} (s : Finset ι) (f : ι → EReal) (h : ∀ i, Fin' (f i)) : Fin' (∑ i ∈ s, f i) := by
  classical
  induction s using Finset.induction_on with
  | empty => exact ⟨0, by simp⟩
  | insert a s ha ih => rw [Finset.sum_insert ha]; exact (h a).add ih

theorem one_fin : Fin' 1 := ⟨1, by simp⟩

theorem n64_eq : Ideal.ofBits FTy.f32 1115684864#32 = ((64 : ℝ) : EReal) := by
  simp [Ideal.ofBits, Ideal.ieee]
  rw [← EReal.coe_mul]
  congr 1
  norm_num
theorem n1024_eq : Ideal.ofBits FTy.f32 1149239296#32 = ((1024 : ℝ) : EReal) := by
  simp [Ideal.ofBits, Ideal.ieee]
  rw [← EReal.coe_mul]
  congr 1
  norm_num
theorem r64_eq : Ideal.ofBits FTy.f32 1015021568#32 = (((64 : ℝ)⁻¹ : ℝ) : EReal) := by
  simp [Ideal.ofBits, Ideal.ieee]
  rw [← EReal.coe_mul]
  congr 1
  norm_num
theorem eps_eq : ∃ ε : ℝ, 0 < ε ∧ Ideal.ofBits FTy.f32 897988541#32 = (ε : EReal) := by
  refine ⟨8796093 * 2⁻¹ ^ 43, by positivity, ?_⟩
  simp [Ideal.ofBits, Ideal.ieee]

/-- The mean square of finite entries plus the small constant is a positive real, so its reciprocal root is real. -/
theorem inv_fin {n : ℕ} (z : Fin n → EReal) (hz : ∀ i, Fin' (z i)) (N : ℝ) (hN : 0 < N) (ε : ℝ) (hε : 0 < ε) :
    Fin' (Ideal.rsqrt (Ideal.div (∑ d, z d * z d) (N : EReal) + (ε : EReal))) := by
  choose y hy using hz
  have hs : (∑ d, z d * z d) = ((∑ d, y d * y d : ℝ) : EReal) := by
    simp only [hy]
    rw [coe_sum]
    exact Finset.sum_congr rfl fun d _ => (EReal.coe_mul _ _).symm
  have hp : 0 ≤ ∑ d, y d * y d := Finset.sum_nonneg fun d _ => mul_self_nonneg _
  have hq : 0 < (∑ d, y d * y d) * N⁻¹ + ε := by positivity
  refine ⟨(Real.sqrt ((∑ d, y d * y d) * N⁻¹ + ε))⁻¹, ?_⟩
  rw [hs, div_real _ _ hN, ← EReal.coe_mul, ← EReal.coe_add, Ideal.rsqrt_coe, if_neg hq.not_gt, if_neg hq.ne']

/-- The kernel's 0/1 matrix: one inside a head, zero across heads. -/
def E (i j : ℕ) : EReal := if i / 64 = j / 64 then 1 else 0

/-- Reciprocal root mean square of one head. -/
def inv (z : Fin 64 → EReal) : EReal :=
  Ideal.rsqrt (Ideal.div (∑ d, z d * z d) (Ideal.ofBits FTy.f32 1115684864#32) + Ideal.ofBits FTy.f32 897988541#32)

/-- A row of `64 * a` numbers against column `l` of the 0/1 matrix is the sum over the head of `l`. -/
theorem sum_E (a : ℕ) (f : Fin (a * 64) → EReal) (l : Fin (a * 64)) :
    ∑ x, f x * E x.val l.val = ∑ d : Fin 64, f ⟨l.val / 64 * 64 + d.val, by omega⟩ := by
  rw [← (finProdFinEquiv (m := a) (n := 64)).sum_comp, Fintype.sum_prod_type]
  rw [Finset.sum_eq_single (⟨l.val / 64, by omega⟩ : Fin a)]
  · refine Finset.sum_congr rfl fun d _ => ?_
    have : ((finProdFinEquiv ((⟨l.val / 64, by omega⟩ : Fin a), d) : Fin (a * 64)).val) / 64 = l.val / 64 := by
      simp [finProdFinEquiv]; omega
    rw [E, if_pos this, mul_one]
    congr 1
    ext
    simp [finProdFinEquiv]; omega
  · intro b _ hb
    refine Finset.sum_eq_zero fun d _ => ?_
    have : ¬ ((finProdFinEquiv (b, d) : Fin (a * 64)).val) / 64 = l.val / 64 := by
      intro h
      apply hb
      ext
      simp [finProdFinEquiv] at h
      simp only
      omega
    rw [E, if_neg this, mul_zero]
  · intro h; exact absurd (Finset.mem_univ _) h

/-- The kernel's two-part sum, scaled, under the root is the head's own reciprocal root mean square. -/
theorem kernel_inv (a : ℕ) (f : Fin (a * 64) → EReal) (hf : ∀ x, Fin' (f x)) (l : Fin (a * 64)) :
    Ideal.rsqrt ((∑ x, f x * f x * E x.val l.val + ∑ x, (f x * f x - f x * f x) * E x.val l.val)
        * Ideal.ofBits FTy.f32 1015021568#32 + Ideal.ofBits FTy.f32 897988541#32)
      = inv fun d => f ⟨l.val / 64 * 64 + d.val, by omega⟩ := by
  have h0 : ∀ x, f x * f x - f x * f x = 0 := by
    intro x
    obtain ⟨r, hr⟩ := (hf x).mul (hf x)
    rw [hr, ← EReal.coe_sub, sub_self, EReal.coe_zero]
  simp only [h0, zero_mul, Finset.sum_const_zero, add_zero]
  rw [sum_E a (fun x => f x * f x) l]
  unfold inv
  rw [n64_eq, div_real _ _ (by norm_num), r64_eq]

/-- A conditioned row against column `c` of the weight. -/
def pj (h : Fin 1024 → EReal) (w : Fin 1024 → Fin 2304 → EReal) (c : Fin 2304) : EReal := ∑ e, h e * w e c

/-- Entry `l` of the queries: normalised within its head, times the head gain, times an eighth. -/
def qv (z : Fin 2304 → EReal) (g : Fin 64 → EReal) (l : Fin 512) : EReal :=
  z ⟨l.val, by omega⟩ * inv (fun d => z ⟨l.val / 64 * 64 + d.val, by omega⟩) * g ⟨l.val % 64, by omega⟩ * Ideal.ofBits FTy.f32 1040187392#32

/-- Entry `l` of the keys: normalised within its head, times the head gain. -/
def kv (z : Fin 2304 → EReal) (g : Fin 64 → EReal) (l : Fin 128) : EReal :=
  z ⟨512 + l.val, by omega⟩ * inv (fun d => z ⟨512 + (l.val / 64 * 64 + d.val), by omega⟩) * g ⟨l.val % 64, by omega⟩

/-- Entry `l` of the widened values: each head's 64 entries, then 64 ones. -/
def vv (z : Fin 2304 → EReal) (l : Fin 256) : EReal :=
  if l.val % 128 < 64 then z ⟨640 + (l.val / 128 * 64 + l.val % 64), by omega⟩ else 1

/-- Entry `l` of the remaining columns. -/
def uv (z : Fin 2304 → EReal) (l : Fin 1536) : EReal := z ⟨768 + l.val, by omega⟩

/-- On finite data the conditioned row is finite. -/
theorem normRow_fin (x g sc sh : Fin 1024 → EReal) (hx : ∀ e, Fin' (x e)) (hg : ∀ e, Fin' (g e)) (hc : ∀ e, Fin' (sc e))
    (hs : ∀ e, Fin' (sh e)) (e : Fin 1024) : Fin' (Cert.Ffn1.normRow x g sc sh e) := by
  unfold Cert.Ffn1.normRow
  obtain ⟨ε, h0, h1⟩ := eps_eq
  rw [n1024_eq, h1]
  exact ((((hx e).mul (inv_fin x hx 1024 (by norm_num) ε h0)).mul (hg e)).mul (one_fin.add (hc e))).add (hs e)

theorem pj_fin (h : Fin 1024 → EReal) (w : Fin 1024 → Fin 2304 → EReal) (hh : ∀ e, Fin' (h e)) (hw : ∀ e c, Fin' (w e c))
    (c : Fin 2304) : Fin' (pj h w c) := Fin'.sum _ _ fun e => (hh e).mul (hw e c)

end Cert.ProjMath
-- ==== Proof.ProjHost.lean ====
module
public import proofs.«01_k».proof.Proof.Gen.ProjIdeal.Value
public import proofs.«01_k».proof.Proof.ProjMath
public import Idealize.ShloMosaic.Lib.Pipeline.ValueKit
public import Idealize.ShloMosaic.Lib.Pointwise
/-! The blocks the grid point reads, as entries of the arguments: the host slices and repeats them, and makes the 0/1 matrix. -/
@[expose] public section
set_option maxRecDepth 16384
noncomputable section
namespace Cert.ProjIdeal.Value
open Cert.ProjIdeal Cert.ProjIdeal.Gen Idealize.ShloMosaic Idealize.ShloMosaic.TcCoe Idealize.SL.Sem
open Cert.Ffn1 Cert.ProjMath
variable (m : (ℓ : Loc nD τ sig) → Buf (Elt Ideal) ℓ)
theorem idx : ∀ t : Fin cfg0.N, win0_0.index t = ![t.val, 0] ∧ win0_1.index t = ![0, 0] ∧ win0_2.index t = ![t.val / 8, 0, 0]
    ∧ win0_3.index t = ![t.val / 8, 0, 0] ∧ win0_4.index t = ![0, 0, 0] ∧ win0_5.index t = ![0, 0]
    ∧ win0_6.index t = ![0, 0] ∧ win0_7.index t = ![0, 0] ∧ win0_8.index t = ![t.val, 0]
    ∧ win0_9.index t = ![t.val, 0, 0] ∧ win0_10.index t = ![t.val, 0] ∧ win0_11.index t = ![t.val, 0] :=
  (by decide +kernel : ∀ t : Fin grid0.N, _)

/-- The 0/1 matrix, as the host makes it. -/
def eblk : FVec Ideal S256x256 .bf16 :=
  truncf .bf16 (shapeCast S256x256 (mulf
    (broadcastInDim S4x64x4x64 ![0, 1, 2, 3] bcast_S4x1x4x1_S4x64x4x64_0_1_2_3 (broadcastInDim S4x1x4x1 ![0, 2] bcast_S4x4_S4x1x4x1_0_2
      (uitofp (F := Ideal) .f32 (cmpi .eq (addi (iotaInDim S4x4 32 0) (broadcastInDim S4x4 ![] bcast_S_S4x4 (constantI S_ 32 0#32))) (iotaInDim S4x4 32 1)))))
    (broadcastInDim S4x64x4x64 ![0, 1, 2, 3] bcast_S1x64x1x64_S4x64x4x64_0_1_2_3 (broadcastInDim S1x64x1x64 ![1, 3] bcast_S64x64_S1x64x1x64_1_3
      (broadcastInDim S64x64 ![] bcast_S_S64x64 (constant (F := Ideal) S_ .f32 0x3F800000#32))))) shapeCasts_S4x64x4x64_S256x256) bitsLt_bf16_f32

theorem eblk_at (i j : Fin 256) : eblk (ix2 i j) = ProjMath.E i j := by
  pointwise [eblk]
  unfold ProjMath.E
  have h : ∀ a b : Fin 4, FloatOps.uitofp (F := Ideal) FTy.f32 (IntOp.cmpi CmpIPredicate.eq (IntOp.addi (BitVec.ofNat 32 a.val) 0#32) (BitVec.ofNat 32 b.val))
      = if a.val = b.val then 1 else 0 := by
    intro a b
    by_cases hab : a = b
    · subst hab
      have : IntOp.cmpi CmpIPredicate.eq (IntOp.addi (BitVec.ofNat 32 a.val) 0#32) (BitVec.ofNat 32 a.val) = 1#1 := by
        revert a; decide
      rw [this, if_pos rfl]
      show (((1#1 : BitVec 1).toNat : ℝ) : EReal) = 1
      simp
    · have : IntOp.cmpi CmpIPredicate.eq (IntOp.addi (BitVec.ofNat 32 a.val) 0#32) (BitVec.ofNat 32 b.val) = 0#1 := by
        revert a b; decide
      rw [this, if_neg (fun h => hab (Fin.ext h))]
      show (((0#1 : BitVec 1).toNat : ℝ) : EReal) = 0
      simp
  exact h ⟨i.val / 64, by omega⟩ ⟨j.val / 64, by omega⟩

theorem V7 (c : Dev nD) : (show FVec Ideal S256x256 .bf16 from V m c main_v9) = eblk := by
  unfold V
  after_results
  rfl

theorem e_blk (c : Dev nD) (t : Fin cfg0.N) (i j : Fin 256) : (show FVec Ideal S256x256 .bf16 from iblk m c 7 t) (ix2 i j) = ProjMath.E i j := by
  rw [← eblk_at, ← V7 m c]
  blk_point [iblk, idx t]

def qgain (a4 : FVec Ideal S1x2x64 .f32) : FVec Ideal S1x512 .f32 :=
  broadcastInDim S1x512 ![1] bcast_S512_S1x512_1 (shapeCast S512 (broadcastInDim S8x64 ![0, 1] bcast_S1x64_S8x64_0_1
    (shapeCast S1x64 (shapeCast S64 (extractStridedSlice S1x1x64 ![0, 0, 0] a4 slices_S1x2x64_S1x1x64_0_0_0) shapeCasts_S1x1x64_S64) shapeCasts_S64_S1x64)) shapeCasts_S8x64_S512)
def kgain (a4 : FVec Ideal S1x2x64 .f32) : FVec Ideal S1x128 .f32 :=
  broadcastInDim S1x128 ![1] bcast_S128_S1x128_1 (shapeCast S128 (broadcastInDim S2x64 ![0, 1] bcast_S1x64_S2x64_0_1
    (shapeCast S1x64 (shapeCast S64 (extractStridedSlice S1x1x64 ![0, 1, 0] a4 slices_S1x2x64_S1x1x64_0_1_0) shapeCasts_S1x1x64_S64) shapeCasts_S64_S1x64)) shapeCasts_S2x64_S128)
theorem qgain_at (a4 : FVec Ideal S1x2x64 .f32) (j : Fin 512) : qgain a4 (ix2 0 j) = a4 (ix3 0 0 ⟨j.val % 64, by omega⟩) := by
  pointwise [qgain]
theorem kgain_at (a4 : FVec Ideal S1x2x64 .f32) (j : Fin 128) : kgain a4 (ix2 0 j) = a4 (ix3 0 1 ⟨j.val % 64, by omega⟩) := by
  pointwise [kgain]
theorem V22 (c : Dev nD) : (show FVec Ideal S1x512 .f32 from V m c main_v22) = qgain (m ((c.tc : Thread nD τ).loc main_arg4)) := by
  unfold V
  after_results
  rfl
theorem V28 (c : Dev nD) : (show FVec Ideal S1x128 .f32 from V m c main_v28) = kgain (m ((c.tc : Thread nD τ).loc main_arg4)) := by
  unfold V
  after_results
  rfl
theorem qg_blk (c : Dev nD) (t : Fin cfg0.N) (j : Fin 512) : (show FVec Ideal S1x512 .f32 from iblk m c 5 t) (ix2 0 j) = (m ((c.tc : Thread nD τ).loc main_arg4)) (ix3 0 0 ⟨j.val % 64, by omega⟩) := by
  refine Eq.trans ?_ (qgain_at _ j)
  rw [← V22 m c]
  blk_point [iblk, idx t]
theorem kg_blk (c : Dev nD) (t : Fin cfg0.N) (j : Fin 128) : (show FVec Ideal S1x128 .f32 from iblk m c 6 t) (ix2 0 j) = (m ((c.tc : Thread nD τ).loc main_arg4)) (ix3 0 1 ⟨j.val % 64, by omega⟩) := by
  refine Eq.trans ?_ (kgain_at _ j)
  rw [← V28 m c]
  blk_point [iblk, idx t]
def shift (a2 : FVec Ideal S2x2x3x3x1x1024 .f32) : FVec Ideal S2x1x1024 .f32 :=
  shapeCast S2x1x1024 (extractStridedSlice S1x2x1x1x1x1024 ![0, 0, 1, 0, 0, 0] a2 slices_S2x2x3x3x1x1024_S1x2x1x1x1x1024_0_0_1_0_0_0) shapeCasts_S1x2x1x1x1x1024_S2x1x1024
def scale (a2 : FVec Ideal S2x2x3x3x1x1024 .f32) : FVec Ideal S2x1x1024 .f32 :=
  shapeCast S2x1x1024 (extractStridedSlice S1x2x1x1x1x1024 ![0, 0, 1, 1, 0, 0] a2 slices_S2x2x3x3x1x1024_S1x2x1x1x1x1024_0_0_1_1_0_0) shapeCasts_S1x2x1x1x1x1024_S2x1x1024
theorem shift_at (a2 : FVec Ideal S2x2x3x3x1x1024 .f32) (b : Fin 2) (e : Fin 1024) : shift a2 (ix3 b 0 e) = a2 (ix6 0 b 1 0 0 e) := by
  pointwise [shift]
theorem scale_at (a2 : FVec Ideal S2x2x3x3x1x1024 .f32) (b : Fin 2) (e : Fin 1024) : scale a2 (ix3 b 0 e) = a2 (ix6 0 b 1 1 0 e) := by
  pointwise [scale]
theorem V14 (c : Dev nD) : (show FVec Ideal S2x1x1024 .f32 from V m c main_v14) = shift (m ((c.tc : Thread nD τ).loc main_arg2)) := by
  unfold V
  after_results
  rfl
theorem V16 (c : Dev nD) : (show FVec Ideal S2x1x1024 .f32 from V m c main_v16) = scale (m ((c.tc : Thread nD τ).loc main_arg2)) := by
  unfold V
  after_results
  rfl
theorem shift_blk (c : Dev nD) (t : Fin cfg0.N) (b : Fin 2) (hb : t.val / 8 = b.val) (e : Fin 1024) : (show FVec Ideal S1x1x1024 .f32 from iblk m c 2 t) (ix3 0 0 e) = (m ((c.tc : Thread nD τ).loc main_arg2)) (ix6 0 b 1 0 0 e) := by
  refine Eq.trans ?_ (shift_at _ b e)
  rw [← V14 m c]
  blk_point [iblk, idx t]
theorem scale_blk (c : Dev nD) (t : Fin cfg0.N) (b : Fin 2) (hb : t.val / 8 = b.val) (e : Fin 1024) : (show FVec Ideal S1x1x1024 .f32 from iblk m c 3 t) (ix3 0 0 e) = (m ((c.tc : Thread nD τ).loc main_arg2)) (ix6 0 b 1 1 0 e) := by
  refine Eq.trans ?_ (scale_at _ b e)
  rw [← V16 m c]
  blk_point [iblk, idx t]
theorem x_blk (c : Dev nD) (t : Fin cfg0.N) (r e : Fin 1024) (R : Fin 16384) (hR : R.val = t.val * 1024 + r.val) : (show FVec Ideal S1024x1024 .f32 from iblk m c 0 t) (ix2 r e) = (m ((c.tc : Thread nD τ).loc main_arg0)) (ix2 R e) := by
  blk_point [iblk, V, idx t]
def gain (a1 : FVec Ideal S2x3x1024 .f32) : FVec Ideal S1x1024 .f32 :=
  broadcastInDim S1x1024 ![1] bcast_S1024_S1x1024_1 (shapeCast S1024 (extractStridedSlice S1x1x1024 ![0, 1, 0] a1 slices_S2x3x1024_S1x1x1024_0_1_0) shapeCasts_S1x1x1024_S1024)
theorem gain_at (a1 : FVec Ideal S2x3x1024 .f32) (e : Fin 1024) : gain a1 (ix2 0 e) = a1 (ix3 0 1 e) := by
  pointwise [gain]
theorem V12 (c : Dev nD) : (show FVec Ideal S1x1024 .f32 from V m c main_v12) = gain (m ((c.tc : Thread nD τ).loc main_arg1)) := by
  unfold V
  after_results
  rfl
theorem gain_blk (c : Dev nD) (t : Fin cfg0.N) (e : Fin 1024) : (show FVec Ideal S1x1024 .f32 from iblk m c 1 t) (ix2 0 e) = (m ((c.tc : Thread nD τ).loc main_arg1)) (ix3 0 1 e) := by
  refine Eq.trans ?_ (gain_at _ e)
  rw [← V12 m c]
  blk_point [iblk, idx t]

theorem w_blk (c : Dev nD) (t : Fin cfg0.N) (e : Fin 1024) (f : Fin 2304) : (show FVec Ideal S1x1024x2304 .bf16 from iblk m c 4 t) (ix3 0 e f) = (m ((c.tc : Thread nD τ).loc main_arg3)) (ix3 0 e f) := by
  blk_point [iblk, V, idx t]

end Cert.ProjIdeal.Value
-- ==== Proof.ProjPoint.lean ====
module
public import proofs.«01_k».proof.Proof.Gen.ProjIdeal.Value
public import proofs.«01_k».proof.Proof.ProjMath
public import Idealize.ShloMosaic.Lib.Pipeline.ValueKit
public import Idealize.ShloMosaic.Lib.Pointwise
/-! The four stored blocks at an index, for any blocks read: the arithmetic of ProjMath. -/
@[expose] public section
set_option maxRecDepth 16384
noncomputable section
namespace Cert.ProjIdeal.Value
open Cert.ProjIdeal Cert.ProjIdeal.Gen Idealize.ShloMosaic Idealize.ShloMosaic.TcCoe Idealize.SL.Sem
open Cert.Ffn1 Cert.ProjMath

theorem row_at (v0 : FVec Ideal S1024x1024 .f32) (v1 : FVec Ideal S1x1024 .f32) (v3 v5 : FVec Ideal S1x1x1024 .f32) (r d : Fin 1024) :
   k0_pay5 (F := Ideal) v0 v1 v3 v5 (ix2 r d) =
     normRow (fun e => v0 (ix2 r e)) (fun e => v1 (ix2 0 e)) (fun e => v3 (ix3 0 0 e)) (fun e => v5 (ix3 0 0 e)) d := by
  unfold normRow
  pointwise [k0_pay5]

/-- Row `r` of the blocks against column `c` of the weight block. -/
def z (x0 : FVec Ideal S1024x1024 .f32) (x1 : FVec Ideal S1x1024 .f32) (x2 x3 : FVec Ideal S1x1x1024 .f32) (x4 : FVec Ideal S1x1024x2304 .bf16)
    (r : Fin 1024) : Fin 2304 → EReal :=
  pj (normRow (fun e => x0 (ix2 r e)) (fun e => x1 (ix2 0 e)) (fun e => x3 (ix3 0 0 e)) (fun e => x2 (ix3 0 0 e))) (fun e c => x4 (ix3 0 e c))

variable (x0 : FVec Ideal S1024x1024 .f32) (x1 : FVec Ideal S1x1024 .f32) (x2 x3 : FVec Ideal S1x1x1024 .f32) (x4 : FVec Ideal S1x1024x2304 .bf16)
  (x5 : FVec Ideal S1x512 .f32) (x6 : FVec Ideal S1x128 .f32) (x7 : FVec Ideal S256x256 .bf16)

theorem u_at (r : Fin 1024) (l : Fin 1536) :
    out0_11 (F := Ideal) x0 x1 x2 x3 x4 x5 x6 x7 (ix2 r l) = uv (z x0 x1 x2 x3 x4 r) l := by
  unfold out0_11 k0_pay13
  frame_out
  unfold uv z pj
  pointwise [k0_pay4, row_at]

/-- The lane mask: lane below 64 or not. -/
theorem slt_at (n : ℕ) (hn : n < 128) (a b : EReal) :
    Scalar.select (IntOp.cmpi CmpIPredicate.slt (BitVec.ofNat 32 n) 64#32) a b = if n < 64 then a else b := by
  have h : ∀ n : Fin 128, IntOp.cmpi CmpIPredicate.slt (BitVec.ofNat 32 n.val) 64#32 = if n.val < 64 then 1#1 else 0#1 := by decide
  rw [h ⟨n, hn⟩]
  by_cases h1 : n < 64
  · rw [if_pos h1, if_pos h1]; exact if_pos rfl
  · rw [if_neg h1, if_neg h1]; exact if_neg (by decide)

theorem v_at (r : Fin 1024) (l : Fin 256) :
    out0_10 (F := Ideal) x0 x1 x2 x3 x4 x5 x6 x7 (ix2 r l) = vv (z x0 x1 x2 x3 x4 r) l := by
  unfold out0_10 k0_pay13
  frame_out
  pointwise [k0_pay3, row_at]
  unfold vv z pj
  by_cases h : l.val < 128
  · rw [dif_pos h, slt_at l.val h]
    by_cases h1 : l.val < 64
    · rw [if_pos h1]
      refine Eq.trans ?_ (if_pos (by omega)).symm
      exact Finset.sum_congr rfl fun e _ => congrArg (fun k => _ * x4 (ix3 0 e k)) (Fin.ext (by simp only; omega))
    · rw [if_neg h1]
      exact (if_neg (by omega)).symm
  · rw [dif_neg h, slt_at (l.val - 128) (by omega)]
    by_cases h1 : l.val - 128 < 64
    · rw [if_pos h1]
      refine Eq.trans ?_ (if_pos (by omega)).symm
      exact Finset.sum_congr rfl fun e _ => congrArg (fun k => _ * x4 (ix3 0 e k)) (Fin.ext (by simp only; omega))
    · rw [if_neg h1]
      exact (if_neg (by omega)).symm

theorem k_at (r : Fin 1024) (l : Fin 128) (hE : ∀ i j, x7 (ix2 i j) = E i j) (hz : ∀ c, Fin' (z x0 x1 x2 x3 x4 r c)) :
    out0_9 (F := Ideal) x0 x1 x2 x3 x4 x5 x6 x7 (ix3 0 l r) = kv (z x0 x1 x2 x3 x4 r) (fun d => x6 (ix2 0 ⟨l.val / 64 * 64 + d.val, by omega⟩)) l := by
  unfold out0_9
  frame_out
  pointwise [k0_pay2, k0_pay12, k0_pay7, row_at]
  simp only [hE]
  have key := kernel_inv 2 (fun x => z x0 x1 x2 x3 x4 r ⟨512 + x.val, by omega⟩) (fun x => hz _) l
  refine congrArg₂ (· * ·) (congrArg₂ (· * ·) rfl key) ?_
  exact congrArg x6 (congrArg (ix2 0) (Fin.ext (by simp only; omega)))

theorem q_at (r : Fin 1024) (l : Fin 512) (hE : ∀ i j, x7 (ix2 i j) = E i j) (hz : ∀ c, Fin' (z x0 x1 x2 x3 x4 r c)) :
    out0_8 (F := Ideal) x0 x1 x2 x3 x4 x5 x6 x7 (ix2 r l) = qv (z x0 x1 x2 x3 x4 r) (fun d => x5 (ix2 0 ⟨l.val / 64 * 64 + d.val, by omega⟩)) l := by
  unfold out0_8
  frame_out
  pointwise [k0_pay1, k0_pay11, k0_pay6, k0_pay9, k0_pay10, k0_pay8, row_at]
  simp only [hE]
  refine congrArg₂ (· * ·) (congrArg₂ (· * ·) (congrArg₂ (· * ·) rfl ?_) ?_) rfl
  · by_cases h : l.val < 256
    · rw [dif_pos h]
      exact kernel_inv 4 (fun x => z x0 x1 x2 x3 x4 r ⟨x.val, by omega⟩) (fun x => hz _) ⟨l.val, h⟩
    · rw [dif_neg h]
      refine (kernel_inv 4 (fun x => z x0 x1 x2 x3 x4 r ⟨256 + x.val, by omega⟩) (fun x => hz _) ⟨l.val - 256, by omega⟩).trans ?_
      refine congrArg inv (funext fun d => ?_)
      exact congrArg _ (Fin.ext (by simp only; omega))
  · exact congrArg x5 (congrArg (ix2 0) (Fin.ext (by simp only; omega)))

end Cert.ProjIdeal.Value
-- ==== Proof.ProjMap.lean ====
module
public import proofs.«01_k».proof.ProjIdeal
public import proofs.«01_k».proof.Proof.ProjMath
/-! The call's four results as functions of its arguments. -/
@[expose] public section
noncomputable section
namespace Cert.ProjIdeal.Value
open Cert.ProjIdeal Idealize.ShloMosaic
open Cert.Ffn1 Cert.ProjMath

variable (a0 : FVec Ideal S16384x1024 .f32) (a1 : FVec Ideal S2x3x1024 .f32) (a2 : FVec Ideal S2x2x3x3x1x1024 .f32)
  (a3 : FVec Ideal S2x1024x2304 .f32) (a4 : FVec Ideal S1x2x64 .f32)

/-- The batch of row `R` of the 16384. -/
def bat (R : Fin 16384) : Fin 2 := ⟨R.val / 8192, by omega⟩

/-- Row `R`, conditioned and normalised, against every column of the weight. -/
def Z (R : Fin 16384) : Fin 2304 → EReal :=
  pj (normRow (fun e => a0 (ix2 R e)) (fun e => a1 (ix3 0 1 e)) (fun e => a2 (ix6 0 (bat R) 1 1 0 e)) (fun e => a2 (ix6 0 (bat R) 1 0 0 e)))
    (fun e c => a3 (ix3 0 e c))

def Q (R : Fin 16384) (l : Fin 512) : EReal := qv (Z a0 a1 a2 a3 R) (fun d => a4 (ix3 0 0 d)) l
def K (b : Fin 16) (l : Fin 128) (r : Fin 1024) : EReal := kv (Z a0 a1 a2 a3 ⟨b.val * 1024 + r.val, by omega⟩) (fun d => a4 (ix3 0 1 d)) l
def W (R : Fin 16384) (l : Fin 256) : EReal := vv (Z a0 a1 a2 a3 R) l
def U (R : Fin 16384) (l : Fin 1536) : EReal := uv (Z a0 a1 a2 a3 R) l

theorem Z_fin (h0 : ∀ i, Fin' (a0 i)) (h1 : ∀ i, Fin' (a1 i)) (h2 : ∀ i, Fin' (a2 i)) (h3 : ∀ i, Fin' (a3 i)) (R : Fin 16384) (c : Fin 2304) :
    Fin' (Z a0 a1 a2 a3 R c) :=
  pj_fin _ _ (normRow_fin _ _ _ _ (fun _ => h0 _) (fun _ => h1 _) (fun _ => h2 _) (fun _ => h2 _)) (fun _ _ => h3 _) c

end Cert.ProjIdeal.Value
-- ==== Proof.ProjBlock.lean ====
module
public import proofs.«01_k».proof.Proof.ProjHost
public import proofs.«01_k».proof.Proof.ProjPoint
public import proofs.«01_k».proof.Proof.ProjMap
public import Idealize.ShloMosaic.Lib.Pipeline.ValueKit
/-! The blocks stored at a grid point, and the four arrays after the run. -/
@[expose] public section
set_option maxRecDepth 16384
noncomputable section
namespace Cert.ProjIdeal.Value
open Cert.ProjIdeal Cert.ProjIdeal.Gen Idealize.ShloMosaic Idealize.ShloMosaic.TcCoe Idealize.SL.Sem
open Idealize.ShloMosaic.Pipeline (Dat)
open Cert.Ffn1 Cert.ProjMath

variable (m : (ℓ : Loc nD τ sig) → Buf (Elt Ideal) ℓ)

/-- The rows of a grid point against the weight. -/
theorem z_blk (c : Dev nD) (t : Fin cfg0.N) (r : Fin 1024) (R : Fin 16384) (hR : R.val = t.val * 1024 + r.val) :
    z (iblk m c 0 t) (iblk m c 1 t) (iblk m c 2 t) (iblk m c 3 t) (iblk m c 4 t) r = Z (m ((c.tc : Thread nD τ).loc main_arg0)) (m ((c.tc : Thread nD τ).loc main_arg1)) (m ((c.tc : Thread nD τ).loc main_arg2)) (m ((c.tc : Thread nD τ).loc main_arg3)) R := by
  have hb : t.val / 8 = (bat R).val := by unfold bat; simp only; omega
  have e0 : (fun e => (show FVec Ideal S1024x1024 .f32 from iblk m c 0 t) (ix2 r e)) = fun e => (m ((c.tc : Thread nD τ).loc main_arg0)) (ix2 R e) := funext fun e => x_blk m c t r e R hR
  have e1 : (fun e => (show FVec Ideal S1x1024 .f32 from iblk m c 1 t) (ix2 0 e)) = fun e => (m ((c.tc : Thread nD τ).loc main_arg1)) (ix3 0 1 e) := funext fun e => gain_blk m c t e
  have e2 : (fun e => (show FVec Ideal S1x1x1024 .f32 from iblk m c 2 t) (ix3 0 0 e)) = fun e => (m ((c.tc : Thread nD τ).loc main_arg2)) (ix6 0 (bat R) 1 0 0 e) := funext fun e => shift_blk m c t _ hb e
  have e3 : (fun e => (show FVec Ideal S1x1x1024 .f32 from iblk m c 3 t) (ix3 0 0 e)) = fun e => (m ((c.tc : Thread nD τ).loc main_arg2)) (ix6 0 (bat R) 1 1 0 e) := funext fun e => scale_blk m c t _ hb e
  have e4 : (fun e f => (show FVec Ideal S1x1024x2304 .bf16 from iblk m c 4 t) (ix3 0 e f)) = fun e f => (m ((c.tc : Thread nD τ).loc main_arg3)) (ix3 0 e f) := funext fun e => funext fun f => w_blk m c t e f
  unfold z Z
  exact congrArg₂ pj (congr (congr (congrArg₂ normRow e0 e1) e3) e2) e4

theorem u_final (c : Dev nD) : (dats m 0 c).arrAt 11 (cfgs 0).N = fun i : S16384x1536.Idx => U (m ((c.tc : Thread nD τ).loc main_arg0)) (m ((c.tc : Thread nD τ).loc main_arg1)) (m ((c.tc : Thread nD τ).loc main_arg2)) (m ((c.tc : Thread nD τ).loc main_arg3)) (i 0) (i 1) := by
  refine (dats m 0 c).arrAt_eq_of_covers 11 _ (by decide +kernel) fun t _ y => ?_
  blk_simp
  rw [after0_11]
  have h0 : ((win0_11.blk t).view.emb y 0 : ℕ) = t.val * 1024 + (y 0).val := by blk_simp [idx t]
  have h1 : (win0_11.blk t).view.emb y 1 = y 1 := Fin.ext (by blk_simp [idx t])
  rw [h1, show y = ix2 (y 0) (y 1) from eq_ix2 y]
  refine (u_at _ _ _ _ _ _ _ _ (y 0) (y 1)).trans ?_
  exact congrArg (fun Y => uv Y (y 1)) (z_blk m c t (y 0) _ h0)

theorem v_final (c : Dev nD) : (dats m 0 c).arrAt 10 (cfgs 0).N = fun i : S16384x256.Idx => W (m ((c.tc : Thread nD τ).loc main_arg0)) (m ((c.tc : Thread nD τ).loc main_arg1)) (m ((c.tc : Thread nD τ).loc main_arg2)) (m ((c.tc : Thread nD τ).loc main_arg3)) (i 0) (i 1) := by
  refine (dats m 0 c).arrAt_eq_of_covers 10 _ (by decide +kernel) fun t _ y => ?_
  blk_simp
  rw [after0_10]
  have h0 : ((win0_10.blk t).view.emb y 0 : ℕ) = t.val * 1024 + (y 0).val := by blk_simp [idx t]
  have h1 : (win0_10.blk t).view.emb y 1 = y 1 := Fin.ext (by blk_simp [idx t])
  rw [h1, show y = ix2 (y 0) (y 1) from eq_ix2 y]
  refine (v_at _ _ _ _ _ _ _ _ (y 0) (y 1)).trans ?_
  exact congrArg (fun Y => vv Y (y 1)) (z_blk m c t (y 0) _ h0)

/-- Finite arguments; of the head gains nothing is asked. -/
def FinArgs (c : Dev nD) : Prop :=
  (∀ i, Fin' ((show FVec Ideal S16384x1024 .f32 from (m ((c.tc : Thread nD τ).loc main_arg0))) i)) ∧ (∀ i, Fin' ((show FVec Ideal S2x3x1024 .f32 from (m ((c.tc : Thread nD τ).loc main_arg1))) i))
    ∧ (∀ i, Fin' ((show FVec Ideal S2x2x3x3x1x1024 .f32 from (m ((c.tc : Thread nD τ).loc main_arg2))) i)) ∧ (∀ i, Fin' ((show FVec Ideal S2x1024x2304 .f32 from (m ((c.tc : Thread nD τ).loc main_arg3))) i))

theorem q_final (c : Dev nD) (hf : FinArgs m c) : (dats m 0 c).arrAt 8 (cfgs 0).N = fun i : S16384x512.Idx => Q (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1) := by
  refine (dats m 0 c).arrAt_eq_of_covers 8 _ (by decide +kernel) fun t _ y => ?_
  blk_simp
  rw [after0_8]
  have h0 : ((win0_8.blk t).view.emb y 0 : ℕ) = t.val * 1024 + (y 0).val := by blk_simp [idx t]
  have h1 : (win0_8.blk t).view.emb y 1 = y 1 := Fin.ext (by blk_simp [idx t])
  rw [h1, show y = ix2 (y 0) (y 1) from eq_ix2 y]
  have hz := z_blk m c t (y 0) _ h0
  refine (q_at _ _ _ _ _ _ _ _ (y 0) (y 1) (e_blk m c t) (fun k => ?_)).trans ?_
  · rw [hz]; exact Z_fin _ _ _ _ hf.1 hf.2.1 hf.2.2.1 hf.2.2.2 _ k
  · refine congrArg₂ (fun Y g => qv Y g (y 1)) hz (funext fun d => ?_)
    exact (qg_blk m c t _).trans (congrArg _ (congrArg (ix3 0 0) (Fin.ext (by simp only; omega))))

theorem k_point (c : Dev nD) (hf : FinArgs m c) (t : Fin cfg0.N) (r : Fin 1024) (l : Fin 128) (b : Fin 16) (hb : b.val = t.val) :
    out0_9 (F := Ideal) (iblk m c 0 t) (iblk m c 1 t) (iblk m c 2 t) (iblk m c 3 t) (iblk m c 4 t) (iblk m c 5 t) (iblk m c 6 t) (iblk m c 7 t) (ix3 0 l r) = K (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b l r := by
  have hz := z_blk m c t r ⟨b.val * 1024 + r.val, by omega⟩ (by simp only [hb])
  refine (k_at _ _ _ _ _ _ _ _ r l (e_blk m c t) (fun k => ?_)).trans ?_
  · rw [hz]; exact Z_fin _ _ _ _ hf.1 hf.2.1 hf.2.2.1 hf.2.2.2 _ k
  · refine congrArg₂ (fun Y g => kv Y g l) hz (funext fun d => ?_)
    exact (kg_blk m c t _).trans (congrArg _ (congrArg (ix3 0 1) (Fin.ext (by simp only; omega))))

theorem k_final (c : Dev nD) (hf : FinArgs m c) : (dats m 0 c).arrAt 9 (cfgs 0).N = fun i : S16x128x1024.Idx => K (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1) (i 2) := by
  refine (dats m 0 c).arrAt_eq_of_covers 9 _ (by decide +kernel) fun t _ y => ?_
  blk_simp
  rw [after0_9]
  have h0 : ((win0_9.blk t).view.emb y 0 : ℕ) = t.val := by blk_simp [idx t]
  have h1 : (win0_9.blk t).view.emb y 1 = y 1 := Fin.ext (by blk_simp [idx t])
  have h2 : (win0_9.blk t).view.emb y 2 = y 2 := Fin.ext (by blk_simp [idx t])
  have hy : y = ix3 0 (y 1) (y 2) := (eq_ix3 y).trans (congrArg (fun a => ix3 a (y 1) (y 2)) (Subsingleton.elim (α := Fin 1) _ _))
  rw [h1, h2]
  refine (congrArg _ hy).trans ?_
  exact k_point m c hf t (y 2) (y 1) _ h0

end Cert.ProjIdeal.Value
-- ==== Proof.ProjPre.lean ====
module
public import proofs.«01_k».proof.Proof.Gen.Pre_finite_rows
public import proofs.«01_k».proof.Proof.AttnPre
public import proofs.«01_k».proof.Proof.ProjMath
public import Idealize.ShloMosaic.Lib.ReduceAll
public import Idealize.ShloMosaic.Lib.Pointwise
/-! The precondition read back: every row, gain, modulation and weight entry is a real number. -/
@[expose] public section
noncomputable section
namespace Cert.ProjPre
open Idealize.ShloMosaic Cert.Pre_finite_rows Cert.Pre_finite_rows.Gen Cert.ProjMath Cert.AttnPre

instance : Subsingleton S_.Idx := ⟨fun _ _ => funext fun a => a.elim0⟩

theorem finite (a0 : FVec Ideal S16384x1024 .f32) (a1 : FVec Ideal S2x3x1024 .f32) (a2 : FVec Ideal S2x2x3x3x1x1024 .f32)
    (a3 : FVec Ideal S2x1024x2304 .f32) (a4 : FVec Ideal S1x2x64 .f32)
    (h : (haveI := facts; fn (F := Ideal) a0 a1 a2 a3 a4) = fun _ => 1#1) :
    (∀ i, Fin' (a0 i)) ∧ (∀ i, Fin' (a1 i)) ∧ (∀ i, Fin' (a2 i)) ∧ ∀ i, Fin' (a3 i) := by
  have hj := congrFun h ix0
  unfold fn fn_part1 at hj
  obtain ⟨h012, h3⟩ := IntOp.andi_eq_one.1 hj
  obtain ⟨h01, h2⟩ := IntOp.andi_eq_one.1 h012
  obtain ⟨h0, h1⟩ := IntOp.andi_eq_one.1 h01
  exact ⟨fun i => real_of_abs _ (Host.reduce_andi_all _ _ _ _ _ h0 i), fun i => real_of_abs _ (Host.reduce_andi_all _ _ _ _ _ h1 i),
    fun i => real_of_abs _ (Host.reduce_andi_all _ _ _ _ _ h2 i), fun i => real_of_abs _ (Host.reduce_andi_all _ _ _ _ _ h3 i)⟩
end Cert.ProjPre
-- ==== Proof.ProjRef.lean ====
module
public import proofs.«01_k».proof.Proof.Gen.ProjRefIdeal.Run
public import proofs.«01_k».proof.Proof.ProjMap
public import Idealize.ShloMosaic.Lib.Pointwise
/-!
The reference's four composed terms, cut at named stages (rows, conditioned rows, product, heads) and read at an index.
-/
@[expose] public section
set_option maxRecDepth 16384
noncomputable section
namespace Cert.ProjRefIdeal.Value
open Cert.ProjRefIdeal Cert.ProjRefIdeal.Gen Idealize.ShloMosaic Idealize.ShloMosaic.TcCoe Idealize.SL.Sem
open Cert.Ffn1 Cert.ProjMath
open Cert.ProjIdeal.Value (bat Z Q K W U)

def r_v0 (v_arg0 : FVec Ideal S16384x1024 .f32) : FVec Ideal S2x8192x1024 .f32 :=
  (shapeCast S2x8192x1024 v_arg0 shapeCasts_S16384x1024_S2x8192x1024)
def r_v3 (v_arg2 : FVec Ideal S2x2x3x3x1x1024 .f32) : FVec Ideal S2x3x3x1024 .f32 :=
  (shapeCast S2x3x3x1024 (shapeCast S2x3x3x1x1024 (extractStridedSlice S1x2x3x3x1x1024 ![0, 0, 0, 0, 0, 0] v_arg2 slices_S2x2x3x3x1x1024_S1x2x3x3x1x1024_0_0_0_0_0_0) shapeCasts_S1x2x3x3x1x1024_S2x3x3x1x1024) shapeCasts_S2x3x3x1x1024_S2x3x3x1024)
def r_v30 (v_arg1 : FVec Ideal S2x3x1024 .f32) (v_v0 : FVec Ideal S2x8192x1024 .f32) (v_v3 : FVec Ideal S2x3x3x1024 .f32) : FVec Ideal S2x8192x1024 .f32 :=
  (addf (mulf (mulf (mulf v_v0 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf v_v0 v_v0) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast S1024 (extractStridedSlice S1x1x1024 ![0, 1, 0] v_arg1 slices_S2x3x1024_S1x1x1024_0_1_0) shapeCasts_S1x1x1024_S1024)))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (shapeCast S2x1024 (extractStridedSlice S2x1x1x1024 ![0, 1, 1, 0] v_v3 slices_S2x3x3x1024_S2x1x1x1024_0_1_1_0) shapeCasts_S2x1x1x1024_S2x1024))))) (broadcastInDim S2x8192x1024 ![0, 1, 2] bcast_S2x1x1024_S2x8192x1024_0_1_2 (broadcastInDim S2x1x1024 ![0, 2] bcast_S2x1024_S2x1x1024_0_2 (shapeCast S2x1024 (extractStridedSlice S2x1x1x1024 ![0, 1, 0, 0] v_v3 slices_S2x3x3x1024_S2x1x1x1024_0_1_0_0) shapeCasts_S2x1x1x1024_S2x1024))))
def r_v33 (v_arg3 : FVec Ideal S2x1024x2304 .f32) (v_v30 : FVec Ideal S2x8192x1024 .f32) : FVec Ideal S2x8192x2304 .f32 :=
  (Host.dotGeneral dot_S2x8192x1024_S1024x2304_S2x8192x2304_2_0_01_1_n_n none v_v30 (shapeCast S1024x2304 (extractStridedSlice S1x1024x2304 ![0, 0, 0] v_arg3 slices_S2x1024x2304_S1x1024x2304_0_0_0) shapeCasts_S1x1024x2304_S1024x2304))
def r_v52 (v_arg4 : FVec Ideal S1x2x64 .f32) (v_v33 : FVec Ideal S2x8192x2304 .f32) : FVec Ideal S2x8192x8x64 .f32 :=
  (mulf (mulf (mulf (shapeCast S2x8192x8x64 (extractStridedSlice S2x8192x512 ![0, 0, 0] v_v33 slices_S2x8192x2304_S2x8192x512_0_0_0) shapeCasts_S2x8192x512_S2x8192x8x64) (broadcastInDim S2x8192x8x64 ![0, 1, 2, 3] bcast_S2x8192x8x1_S2x8192x8x64_0_1_2_3 (Host.rsqrt (addf (Host.divf (broadcastInDim S2x8192x8x1 ![0, 1, 2] bcast_S2x8192x8_S2x8192x8x1_0_1_2 (Host.reduceAdd (mulf (shapeCast S2x8192x8x64 (extractStridedSlice S2x8192x512 ![0, 0, 0] v_v33 slices_S2x8192x2304_S2x8192x512_0_0_0) shapeCasts_S2x8192x512_S2x8192x8x64) (shapeCast S2x8192x8x64 (extractStridedSlice S2x8192x512 ![0, 0, 0] v_v33 slices_S2x8192x2304_S2x8192x512_0_0_0) shapeCasts_S2x8192x512_S2x8192x8x64)) (constant S_ .f32 0x00000000#32) reducesTo_S2x8192x8x64_S2x8192x8_d3 h_S_)) (broadcastInDim S2x8192x8x1 ![] bcast_S_S2x8192x8x1 (constant S_ .f32 0x42800000#32))) (broadcastInDim S2x8192x8x1 ![] bcast_S_S2x8192x8x1 (constant S_ .f32 0x358637BD#32)))))) (broadcastInDim S2x8192x8x64 ![0, 1, 2, 3] bcast_S1x1x1x64_S2x8192x8x64_0_1_2_3 (broadcastInDim S1x1x1x64 ![3] bcast_S64_S1x1x1x64_3 (shapeCast S64 (extractStridedSlice S1x1x64 ![0, 0, 0] v_arg4 slices_S1x2x64_S1x1x64_0_0_0) shapeCasts_S1x1x64_S64)))) (broadcastInDim S2x8192x8x64 ![] bcast_S_S2x8192x8x64 (constant S_ .f32 0x3E000000#32)))
def r_v69 (v_arg4 : FVec Ideal S1x2x64 .f32) (v_v33 : FVec Ideal S2x8192x2304 .f32) : FVec Ideal S2x8192x2x64 .f32 :=
  (mulf (mulf (shapeCast S2x8192x2x64 (extractStridedSlice S2x8192x128 ![0, 0, 512] v_v33 slices_S2x8192x2304_S2x8192x128_0_0_512) shapeCasts_S2x8192x128_S2x8192x2x64) (broadcastInDim S2x8192x2x64 ![0, 1, 2, 3] bcast_S2x8192x2x1_S2x8192x2x64_0_1_2_3 (Host.rsqrt (addf (Host.divf (broadcastInDim S2x8192x2x1 ![0, 1, 2] bcast_S2x8192x2_S2x8192x2x1_0_1_2 (Host.reduceAdd (mulf (shapeCast S2x8192x2x64 (extractStridedSlice S2x8192x128 ![0, 0, 512] v_v33 slices_S2x8192x2304_S2x8192x128_0_0_512) shapeCasts_S2x8192x128_S2x8192x2x64) (shapeCast S2x8192x2x64 (extractStridedSlice S2x8192x128 ![0, 0, 512] v_v33 slices_S2x8192x2304_S2x8192x128_0_0_512) shapeCasts_S2x8192x128_S2x8192x2x64)) (constant S_ .f32 0x00000000#32) reducesTo_S2x8192x2x64_S2x8192x2_d3 h_S_)) (broadcastInDim S2x8192x2x1 ![] bcast_S_S2x8192x2x1 (constant S_ .f32 0x42800000#32))) (broadcastInDim S2x8192x2x1 ![] bcast_S_S2x8192x2x1 (constant S_ .f32 0x358637BD#32)))))) (broadcastInDim S2x8192x2x64 ![0, 1, 2, 3] bcast_S1x1x1x64_S2x8192x2x64_0_1_2_3 (broadcastInDim S1x1x1x64 ![3] bcast_S64_S1x1x1x64_3 (shapeCast S64 (extractStridedSlice S1x1x64 ![0, 1, 0] v_arg4 slices_S1x2x64_S1x1x64_0_1_0) shapeCasts_S1x1x64_S64))))
def r_v74 (v_v52 : FVec Ideal S2x8192x8x64 .f32) : FVec Ideal S16384x512 .bf16 :=
  (truncf .bf16 (shapeCast S16384x512 v_v52 shapeCasts_S2x8192x8x64_S16384x512) bitsLt_bf16_f32)
def r_v77 (v_v69 : FVec Ideal S2x8192x2x64 .f32) : FVec Ideal S16x128x1024 .bf16 :=
  (truncf .bf16 (transpose S16x128x1024 [0, 2, 1] (shapeCast S16x1024x128 v_v69 shapeCasts_S2x8192x2x64_S16x1024x128) transposes_S16x1024x128_S16x128x1024_0_2_1) bitsLt_bf16_f32)
def r_v81 (v_v33 : FVec Ideal S2x8192x2304 .f32) : FVec Ideal S16384x256 .bf16 :=
  (truncf .bf16 (shapeCast S16384x256 (concatenate S2x8192x2x128 3 [⟨S2x8192x2x64, (shapeCast S2x8192x2x64 (extractStridedSlice S2x8192x128 ![0, 0, 640] v_v33 slices_S2x8192x2304_S2x8192x128_0_0_640) shapeCasts_S2x8192x128_S2x8192x2x64)⟩, ⟨S2x8192x2x64, (broadcastInDim S2x8192x2x64 ![] bcast_S_S2x8192x2x64 (constant S_ .f32 0x3F800000#32))⟩] concatenates_S2x8192x2x64_S2x8192x2x64_S2x8192x2x128_d3) shapeCasts_S2x8192x2x128_S16384x256) bitsLt_bf16_f32)
def r_v82 (v_v33 : FVec Ideal S2x8192x2304 .f32) : FVec Ideal S16384x1536 .f32 :=
  (shapeCast S16384x1536 (extractStridedSlice S2x8192x1536 ![0, 0, 768] v_v33 slices_S2x8192x2304_S2x8192x1536_0_0_768) shapeCasts_S2x8192x1536_S16384x1536)

/-- The product of the conditioned rows with the weight. -/
def P (a0 : FVec Ideal S16384x1024 .f32) (a1 : FVec Ideal S2x3x1024 .f32) (a2 : FVec Ideal S2x2x3x3x1x1024 .f32)
    (a3 : FVec Ideal S2x1024x2304 .f32) : FVec Ideal S2x8192x2304 .f32 :=
  r_v33 a3 (r_v30 a1 (r_v0 a0) (r_v3 a2))

theorem r_v3_at (a2 : FVec Ideal S2x2x3x3x1x1024 .f32) (b : Fin 2) (s k : Fin 3) (e : Fin 1024) :
    r_v3 a2 (ix4 b s k e) = a2 (ix6 0 b s k 0 e) := by
  pointwise [r_v3]

theorem r_v0_at (a0 : FVec Ideal S16384x1024 .f32) (r : Fin 16384) (b : Fin 2) (s : Fin 8192)
    (hr : r.val = b.val * 8192 + s.val) (e : Fin 1024) : r_v0 a0 (ix3 b s e) = a0 (ix2 r e) := by
  have hR : r = ⟨b.val * 8192 + s.val, by omega⟩ := Fin.ext hr
  rw [hR]
  pointwise [r_v0]

theorem r_v30_at (a1 : FVec Ideal S2x3x1024 .f32) (v3 : FVec Ideal S2x3x3x1024 .f32) (x : FVec Ideal S2x8192x1024 .f32)
    (b : Fin 2) (s : Fin 8192) (e : Fin 1024) :
    r_v30 a1 x v3 (ix3 b s e) = normRow (fun e => x (ix3 b s e)) (fun e => a1 (ix3 0 1 e)) (fun e => v3 (ix4 b 1 1 e)) (fun e => v3 (ix4 b 1 0 e)) e := by
  unfold normRow
  pointwise [r_v30]

theorem r_v33_at (w : FVec Ideal S2x1024x2304 .f32) (h : FVec Ideal S2x8192x1024 .f32) (b : Fin 2) (s : Fin 8192) (c : Fin 2304) :
    r_v33 w h (ix3 b s c) = pj (fun e => h (ix3 b s e)) (fun e c => w (ix3 0 e c)) c := by
  unfold pj
  pointwise [r_v33]

/-- Batch and place of row `R`. -/
theorem row_split (R : Fin 16384) : R.val = (bat R).val * 8192 + (⟨R.val % 8192, by omega⟩ : Fin 8192).val := by
  simp only [bat]; omega

theorem P_at (a0 : FVec Ideal S16384x1024 .f32) (a1 : FVec Ideal S2x3x1024 .f32) (a2 : FVec Ideal S2x2x3x3x1x1024 .f32)
    (a3 : FVec Ideal S2x1024x2304 .f32) (R : Fin 16384) (c : Fin 2304) :
    P a0 a1 a2 a3 (ix3 (bat R) ⟨R.val % 8192, by omega⟩ c) = Z a0 a1 a2 a3 R c := by
  unfold P Z
  rw [r_v33_at]
  simp only [r_v30_at, r_v0_at a0 R _ _ (row_split R), r_v3_at]

theorem r_v52_at (a4 : FVec Ideal S1x2x64 .f32) (y : FVec Ideal S2x8192x2304 .f32) (b : Fin 2) (s : Fin 8192) (l : Fin 512) :
    r_v52 a4 y (ix4 b s ⟨l.val / 64, by omega⟩ ⟨l.val % 64, by omega⟩) = qv (fun c => y (ix3 b s c)) (fun d => a4 (ix3 0 0 d)) l := by
  unfold qv ProjMath.inv
  have h : l.val / 64 * 64 + l.val % 64 = l.val := by omega
  pointwise [r_v52]

theorem r_v69_at (a4 : FVec Ideal S1x2x64 .f32) (y : FVec Ideal S2x8192x2304 .f32) (b : Fin 2) (s : Fin 8192) (l : Fin 128) :
    r_v69 a4 y (ix4 b s ⟨l.val / 64, by omega⟩ ⟨l.val % 64, by omega⟩) = kv (fun c => y (ix3 b s c)) (fun d => a4 (ix3 0 1 d)) l := by
  unfold kv ProjMath.inv
  have h : l.val / 64 * 64 + l.val % 64 = l.val := by omega
  pointwise [r_v69]

theorem r_v74_at (y : FVec Ideal S2x8192x8x64 .f32) (R : Fin 16384) (l : Fin 512) :
    r_v74 y (ix2 R l) = y (ix4 (bat R) ⟨R.val % 8192, by omega⟩ ⟨l.val / 64, by omega⟩ ⟨l.val % 64, by omega⟩) := by
  unfold bat
  pointwise [r_v74]

theorem r_v77_at (y : FVec Ideal S2x8192x2x64 .f32) (t : Fin 16) (l : Fin 128) (r : Fin 1024) (R : Fin 16384) (hR : R.val = t.val * 1024 + r.val) :
    r_v77 y (ix3 t l r) = y (ix4 (bat R) ⟨R.val % 8192, by omega⟩ ⟨l.val / 64, by omega⟩ ⟨l.val % 64, by omega⟩) := by
  unfold bat
  pointwise [r_v77]
  have h1 : t.val / 8 = R.val / 8192 := by omega
  have h2 : t.val % 8 * 1024 + r.val = R.val % 8192 := by omega
  simp only [h1, h2]

theorem r_v82_at (y : FVec Ideal S2x8192x2304 .f32) (R : Fin 16384) (l : Fin 1536) :
    r_v82 y (ix2 R l) = uv (fun c => y (ix3 (bat R) ⟨R.val % 8192, by omega⟩ c)) l := by
  unfold bat uv
  pointwise [r_v82]

theorem r_v81_at (y : FVec Ideal S2x8192x2304 .f32) (R : Fin 16384) (l : Fin 256) :
    r_v81 y (ix2 R l) = vv (fun c => y (ix3 (bat R) ⟨R.val % 8192, by omega⟩ c)) l := by
  unfold bat vv
  pointwise [r_v81]
  by_cases h : l.val % 128 < 64
  · rw [dif_pos h, if_pos h]
    exact congrArg (fun k => y (ix3 _ _ k)) (Fin.ext (by simp only; omega))
  · rw [dif_neg h, if_neg h]

variable (a0 : FVec Ideal S16384x1024 .f32) (a1 : FVec Ideal S2x3x1024 .f32) (a2 : FVec Ideal S2x2x3x3x1x1024 .f32)
  (a3 : FVec Ideal S2x1024x2304 .f32) (a4 : FVec Ideal S1x2x64 .f32)

theorem q_at (R : Fin 16384) (l : Fin 512) : r_v74 (r_v52 a4 (P a0 a1 a2 a3)) (ix2 R l) = Q a0 a1 a2 a3 a4 R l := by
  rw [r_v74_at, r_v52_at]
  unfold Q
  simp only [P_at]

theorem k_at (t : Fin 16) (l : Fin 128) (r : Fin 1024) : r_v77 (r_v69 a4 (P a0 a1 a2 a3)) (ix3 t l r) = K a0 a1 a2 a3 a4 t l r := by
  rw [r_v77_at _ t l r ⟨t.val * 1024 + r.val, by omega⟩ rfl, r_v69_at]
  unfold K
  exact congrArg (fun Y => kv Y _ l) (funext fun c => P_at a0 a1 a2 a3 ⟨t.val * 1024 + r.val, by omega⟩ c)

theorem v_at (R : Fin 16384) (l : Fin 256) : r_v81 (P a0 a1 a2 a3) (ix2 R l) = W a0 a1 a2 a3 R l := by
  rw [r_v81_at]
  unfold W
  simp only [P_at]

theorem u_at (R : Fin 16384) (l : Fin 1536) : r_v82 (P a0 a1 a2 a3) (ix2 R l) = U a0 a1 a2 a3 R l := by
  rw [r_v82_at]
  unfold U
  simp only [P_at]

theorem res_q (m : (ℓ : Loc nD τ sig) → Buf (Elt Ideal) ℓ) (c : Dev nD) :
    res_main_v74 m c = r_v74 (r_v52 (m ((c.tc : Thread nD τ).loc main_arg4)) (P (m ((c.tc : Thread nD τ).loc main_arg0)) (m ((c.tc : Thread nD τ).loc main_arg1)) (m ((c.tc : Thread nD τ).loc main_arg2)) (m ((c.tc : Thread nD τ).loc main_arg3)))) := rfl

theorem res_k (m : (ℓ : Loc nD τ sig) → Buf (Elt Ideal) ℓ) (c : Dev nD) :
    res_main_v77 m c = r_v77 (r_v69 (m ((c.tc : Thread nD τ).loc main_arg4)) (P (m ((c.tc : Thread nD τ).loc main_arg0)) (m ((c.tc : Thread nD τ).loc main_arg1)) (m ((c.tc : Thread nD τ).loc main_arg2)) (m ((c.tc : Thread nD τ).loc main_arg3)))) := rfl

end Cert.ProjRefIdeal.Value
-- ==== Proof.ProjClaim.lean ====
module
public import proofs.«01_k».proof.Defs
public import proofs.«01_k».proof.Proof.ProjBlock
public import proofs.«01_k».proof.Proof.ProjPre
public import proofs.«01_k».proof.Proof.ProjRef
public import Idealize.ShloMosaic.Lib.Claim
/-! The value claim: both programs' four results are the same functions of the same arguments. -/
@[expose] public section
set_option maxRecDepth 16384
noncomputable section
namespace Cert.ProjClaim
open Idealize.ShloMosaic Idealize.SL.Sem

theorem algebraic : Cert.algebraic_ProjIdeal_ProjRefIdeal_pre_finite_rows (hProjIdeal := Cert.ProjIdeal.Gen.facts) (hProjRefIdeal := Cert.ProjRefIdeal.Gen.facts)
    (hPre_finite_rows := Cert.Pre_finite_rows.Gen.facts) := by
  pair_intro
  · run_from Cert.ProjIdeal.Value.run_blocks m g
  · run_from Cert.ProjRefIdeal.Value.run m' g'
    all_goals have hp : Cert.ProjIdeal.Value.FinArgs m c := Cert.ProjPre.finite _ _ _ _ _ (‹Cert.Pre_ProjIdeal_finite_rows m› c)
    · refine Eq.trans ?_ (Cert.ProjIdeal.Value.q_final m c hp).symm
      funext i
      rw [show i = ix2 (i 0) (i 1) from eq_ix2 i]
      rw [Cert.ProjRefIdeal.Value.res_q]
      refine (Cert.ProjRefIdeal.Value.q_at _ _ _ _ _ (i 0) (i 1)).trans ?_
      obtain ⟨h0, h1, h2, h3, h4⟩ := hagree c
      simp only [h0, h1, h2, h3, h4]
      rfl
    · refine Eq.trans ?_ (Cert.ProjIdeal.Value.k_final m c hp).symm
      funext i
      rw [show i = ix3 (i 0) (i 1) (i 2) from eq_ix3 i]
      rw [Cert.ProjRefIdeal.Value.res_k]
      refine (Cert.ProjRefIdeal.Value.k_at _ _ _ _ _ (i 0) (i 1) (i 2)).trans ?_
      obtain ⟨h0, h1, h2, h3, h4⟩ := hagree c
      simp only [h0, h1, h2, h3, h4]
      rfl
    · refine Eq.trans ?_ (Cert.ProjIdeal.Value.v_final m c).symm
      funext i
      rw [show i = ix2 (i 0) (i 1) from eq_ix2 i]
      exact Cert.ProjRefIdeal.Value.v_at _ _ _ _ (i 0) (i 1)
    · refine Eq.trans ?_ (Cert.ProjIdeal.Value.u_final m c).symm
      funext i
      rw [show i = ix2 (i 0) (i 1) from eq_ix2 i]
      exact Cert.ProjRefIdeal.Value.u_at _ _ _ _ (i 0) (i 1)
end Cert.ProjClaim
-- ==== Proof.RopeMath.lean ====
module
public import Idealize.ShloMosaic.PureOps.Ideal
public import Idealize.ShloMosaic.Lib.Pointwise
public import proofs.«01_k».proof.Proof.ProjMath
/-! Rotary positions, the score scale and the width-3 convolution as functions of numbers. -/
@[expose] public section
noncomputable section
namespace Cert.RopeMath
open Idealize.ShloMosaic Cert.AttnMath Cert.ProjMath

/-- The integer `n` as a float. -/
def num (n : ℕ) : EReal := FloatOps.sitofp (F := Ideal) FTy.f32 (BitVec.ofNat 32 n)

/-- The `j`-th rotary frequency, `10000 ^ (-2j / 32)`. -/
def freq (j : ℕ) : EReal :=
  Ideal.pow (Ideal.ofBits FTy.f32 1176256512#32)
    (Ideal.div (-(Ideal.ofBits FTy.f32 0#32 + Ideal.ofBits FTy.f32 1073741824#32 * num j)) (Ideal.ofBits FTy.f32 1107296256#32))

/-- The angle of pair `p` at position `s`: the first 16 pairs turn with the row `s / 64`, the others with the column. -/
def ang (s p : ℕ) : EReal := if p < 16 then num (s / 64) * freq p else num (s % 64) * freq (p - 16)

/-- The other entry of the pair of `l`. -/
def mate {n : ℕ} (h : n % 2 = 0) (l : Fin n) : Fin n := ⟨if l.val % 2 = 0 then l.val + 1 else l.val - 1, by split <;> omega⟩

/-- Minus one on even places, one on odd. -/
def sgn (l : ℕ) : EReal := if l % 2 = 0 then -1 else 1

/-- Entry `l` of the heads `y` turned by the angles of position `s`. -/
def rot {n : ℕ} (h : n % 2 = 0) (y : Fin n → EReal) (s : ℕ) (l : Fin n) : EReal :=
  y l * Ideal.cos (ang s (l.val % 64 / 2)) + y (mate h l) * (Ideal.sin (ang s (l.val % 64 / 2)) * sgn l.val)

/-- Entry `l` of the queries before turning: normalised within its head, times the head gain. -/
def qn (z : Fin 2304 → EReal) (g : Fin 64 → EReal) (l : Fin 512) : EReal :=
  z ⟨l.val, by omega⟩ * inv (fun d => z ⟨l.val / 64 * 64 + d.val, by omega⟩) * g ⟨l.val % 64, by omega⟩

/-- One column of the convolution: three taps, then the offset. -/
def tap (w0 w1 w2 b p u n : EReal) : EReal := w0 * p + w1 * u + w2 * n + b

theorem rot_even {n : ℕ} (h : n % 2 = 0) (y : Fin n → EReal) (s : ℕ) (l : Fin n) (hl : l.val % 2 = 0) :
    rot h y s l = y l * Ideal.cos (ang s (l.val % 64 / 2)) - y ⟨l.val + 1, by omega⟩ * Ideal.sin (ang s (l.val % 64 / 2)) := by
  have hm : mate h l = ⟨l.val + 1, by omega⟩ := Fin.ext (if_pos hl)
  rw [rot, hm, sgn, if_pos hl, sub_eq_add_neg, mul_neg, mul_one, mul_neg]

theorem rot_odd {n : ℕ} (h : n % 2 = 0) (y : Fin n → EReal) (s : ℕ) (l : Fin n) (hl : ¬ l.val % 2 = 0) :
    rot h y s l = y ⟨l.val - 1, by omega⟩ * Ideal.sin (ang s (l.val % 64 / 2)) + y l * Ideal.cos (ang s (l.val % 64 / 2)) := by
  have hm : mate h l = ⟨l.val - 1, by omega⟩ := Fin.ext (if_neg hl)
  rw [rot, hm, sgn, if_neg hl, mul_one, add_comm]

end Cert.RopeMath
-- ==== Proof.RopeHost.lean ====
module
public import proofs.«01_k».proof.Proof.Gen.RopeIdeal.Value
public import proofs.«01_k».proof.Proof.RopeMath
public import proofs.«01_k».proof.Proof.ProjHost
public import Idealize.ShloMosaic.Lib.Pipeline.ValueKit
public import Idealize.ShloMosaic.Lib.Pointwise
public import Idealize.ShloMosaic.Lib.StableHlo.RunRead
/-! The blocks the grid point reads, as entries of the arguments, and the tables of angles the host makes. -/
@[expose] public section
set_option maxRecDepth 16384
noncomputable section
namespace Cert.RopeIdeal.Value
open Cert.RopeIdeal Cert.RopeIdeal.Gen Idealize.ShloMosaic Idealize.ShloMosaic.TcCoe Idealize.SL.Sem
open Cert.Ffn1 Cert.ProjMath Cert.RopeMath
variable (m : (ℓ : Loc nD τ sig) → Buf (Elt Ideal) ℓ)
theorem idx : ∀ t : Fin cfg0.N, win0_0.index t = ![t.val, 0] ∧ win0_1.index t = ![0, 0] ∧ win0_2.index t = ![t.val / 8, 0, 0]
    ∧ win0_3.index t = ![t.val / 8, 0, 0] ∧ win0_4.index t = ![1, 0, 0] ∧ win0_5.index t = ![0, 0]
    ∧ win0_6.index t = ![0, 0] ∧ win0_7.index t = ![0, 0] ∧ win0_8.index t = ![t.val % 8, 0] ∧ win0_9.index t = ![t.val % 8, 0]
    ∧ win0_10.index t = ![t.val * 64 - 1, 0] ∧ win0_11.index t = ![min (t.val * 64 + 64) 1023, 0]
    ∧ win0_12.index t = ![0, 0] ∧ win0_13.index t = ![0, 0]
    ∧ win0_14.index t = ![t.val, 0]
    ∧ win0_15.index t = ![t.val, 0, 0] ∧ win0_16.index t = ![t.val, 0] ∧ win0_17.index t = ![t.val, 0] ∧ win0_18.index t = ![t.val, 0] :=
  (by decide +kernel : ∀ t : Fin grid0.N, _)

/-- The grid point's own number. -/
theorem point : ∀ t : Fin cfg0.N, ((cfg0.grid.coords t) 0).val = t.val :=
  (by decide +kernel : ∀ t : Fin grid0.N, _)

/-! The tables of angles. -/
def fdiv (x : IVec S8192 32) (k : IVec S_ 32) : IVec S8192 32 :=
  select (andi (cmpi .ne (signi x) (broadcastInDim S8192 ![] bcast_S_S8192 (signi (id k))))
      (cmpi .ne (Host.remsi x (broadcastInDim S8192 ![] bcast_S_S8192 (id k))) (broadcastInDim S8192 ![] bcast_S_S8192 (constantI S_ 32 0#32))))
    (subi (Host.divsi x (broadcastInDim S8192 ![] bcast_S_S8192 (id k))) (broadcastInDim S8192 ![] bcast_S_S8192 (constantI S_ 32 1#32)))
    (Host.divsi x (broadcastInDim S8192 ![] bcast_S_S8192 (id k)))
/-- The divisor, one where it is zero. -/
def nz (k : IVec S_ 32) : IVec S_ 32 := select (cmpi .eq (id k) (constantI S_ 32 0#32)) (constantI S_ 32 1#32) (id k)
def fmod (x : IVec S8192 32) (k : IVec S_ 32) : IVec S8192 32 :=
  select (andi (cmpi .ne (cmpi .slt (Host.remsi x (broadcastInDim S8192 ![] bcast_S_S8192 (nz k))) (broadcastInDim S8192 ![] bcast_S_S8192 (constantI S_ 32 0#32)))
        (broadcastInDim S8192 ![] bcast_S_S8192 (cmpi .slt (nz k) (constantI S_ 32 0#32))))
      (cmpi .ne (Host.remsi x (broadcastInDim S8192 ![] bcast_S_S8192 (nz k))) (broadcastInDim S8192 ![] bcast_S_S8192 (constantI S_ 32 0#32))))
    (addi (Host.remsi x (broadcastInDim S8192 ![] bcast_S_S8192 (nz k))) (broadcastInDim S8192 ![] bcast_S_S8192 (nz k)))
    (Host.remsi x (broadcastInDim S8192 ![] bcast_S_S8192 (nz k)))
def fmod64 (x : IVec S64 32) (k : IVec S_ 32) : IVec S64 32 :=
  select (andi (cmpi .ne (cmpi .slt (Host.remsi x (broadcastInDim S64 ![] bcast_S_S64 (nz k))) (broadcastInDim S64 ![] bcast_S_S64 (constantI S_ 32 0#32)))
        (broadcastInDim S64 ![] bcast_S_S64 (cmpi .slt (nz k) (constantI S_ 32 0#32))))
      (cmpi .ne (Host.remsi x (broadcastInDim S64 ![] bcast_S_S64 (nz k))) (broadcastInDim S64 ![] bcast_S_S64 (constantI S_ 32 0#32))))
    (addi (Host.remsi x (broadcastInDim S64 ![] bcast_S_S64 (nz k))) (broadcastInDim S64 ![] bcast_S_S64 (nz k)))
    (Host.remsi x (broadcastInDim S64 ![] bcast_S_S64 (nz k)))

def rowT : IVec S8192 32 := fdiv (iotaInDim S8192 32 0) (constantI S_ 32 64#32)
def colT : IVec S8192 32 := fmod (iotaInDim S8192 32 0) (constantI S_ 32 64#32)
def freqT : FVec Ideal S16 .f32 :=
  Host.powf (broadcastInDim S16 ![] bcast_S_S16 (constant (F := Ideal) S_ .f32 0x461C4000#32))
    (Host.divf (Host.negf (addf (broadcastInDim S16 ![] bcast_S_S16 (constant (F := Ideal) S_ .f32 0x00000000#32))
      (mulf (broadcastInDim S16 ![] bcast_S_S16 (constant (F := Ideal) S_ .f32 0x40000000#32)) (sitofp (F := Ideal) .f32 (iotaInDim S16 32 0)))))
      (broadcastInDim S16 ![] bcast_S_S16 (constant (F := Ideal) S_ .f32 0x42000000#32)))
/-- Positions against frequencies. -/
def halfT (p : IVec S8192 32) (f : FVec Ideal S16 .f32) : FVec Ideal S8192x16 .f32 :=
  mulf (broadcastInDim S8192x16 ![0, 1] bcast_S8192x1_S8192x16_0_1 (broadcastInDim S8192x1 ![0] bcast_S8192_S8192x1_0 (sitofp (F := Ideal) .f32 p)))
    (broadcastInDim S8192x16 ![0, 1] bcast_S1x16_S8192x16_0_1 (broadcastInDim S1x16 ![1] bcast_S16_S1x16_1 f))
def angT (r k : IVec S8192 32) : FVec Ideal S8192x64 .f32 :=
  shapeCast S8192x64 (broadcastInDim S8192x32x2 ![0, 1] bcast_S8192x32_S8192x32x2_0_1
    (concatenate S8192x32 1 [⟨S8192x16, halfT r freqT⟩, ⟨S8192x16, halfT k freqT⟩] concatenates_S8192x16_S8192x16_S8192x32_d1)) shapeCasts_S8192x32x2_S8192x64
def sgnT : FVec Ideal S64 .f32 :=
  select (cmpi .eq (fmod64 (iotaInDim S64 32 0) (constantI S_ 32 2#32)) (broadcastInDim S64 ![] bcast_S_S64 (constantI S_ 32 0#32)))
    (broadcastInDim S64 ![] bcast_S_S64 (constant (F := Ideal) S_ .f32 0xBF800000#32)) (broadcastInDim S64 ![] bcast_S_S64 (constant (F := Ideal) S_ .f32 0x3F800000#32))
/-- Two heads side by side. -/
def twice (a : FVec Ideal S8192x64 .f32) : FVec Ideal S8192x128 .f32 :=
  shapeCast S8192x128 (broadcastInDim S1x8192x2x64 ![0, 1, 2, 3] bcast_S1x8192x1x64_S1x8192x2x64_0_1_2_3 (shapeCast S1x8192x1x64 a shapeCasts_S8192x64_S1x8192x1x64)) shapeCasts_S1x8192x2x64_S8192x128
def cosT : FVec Ideal S8192x128 .f32 := twice (Host.cos (angT rowT colT))
def sinT : FVec Ideal S8192x128 .f32 :=
  twice (mulf (Host.sin (angT rowT colT)) (broadcastInDim S8192x64 ![0, 1] bcast_S1x64_S8192x64_0_1 (broadcastInDim S1x64 ![1] bcast_S64_S1x64_1 (id sgnT))))

theorem V47 (c : Dev nD) : (show FVec Ideal S8192x128 .f32 from V m c main_v47) = cosT := by
  unfold V
  simp only [hostOps0, hostOps0_1, hostOps0_2, hostOps0_3, hostOps0_4, hostOps0_5, hostOps0_6, hostOps0_7, hostOps0_8, hostOps0_9, hostOps0_10, List.flatten_cons, List.flatten_nil, List.append_nil,
    List.cons_append, List.nil_append]
  after_reads_simp
  rfl
set_option maxHeartbeats 4000000 in
theorem V54 (c : Dev nD) : (show FVec Ideal S8192x128 .f32 from V m c main_v54) = sinT := by
  unfold V
  simp only [hostOps0, hostOps0_1, hostOps0_2, hostOps0_3, hostOps0_4, hostOps0_5, hostOps0_6, hostOps0_7, hostOps0_8, hostOps0_9, hostOps0_10, List.flatten_cons, List.flatten_nil, List.append_nil,
    List.cons_append, List.nil_append]
  after_reads_simp
  rfl
theorem twice_at (a : FVec Ideal S8192x64 .f32) (s : Fin 8192) (l : Fin 128) : twice a (ix2 s l) = a (ix2 s ⟨l.val % 64, by omega⟩) := by
  pointwise [twice]
theorem row_t (s : Fin 8192) : rowT (ix1 s) = BitVec.ofNat 32 (s.val / 64) := by
  pointwise [rowT, fdiv]
  revert s
  decide +kernel
theorem col_t (s : Fin 8192) : colT (ix1 s) = BitVec.ofNat 32 (s.val % 64) := by
  pointwise [colT, fmod, nz]
  revert s
  decide +kernel
theorem freq_t (j : Fin 16) : freqT (ix1 j) = freq j.val := by
  unfold freq num
  pointwise [freqT]
theorem half_t (p : IVec S8192 32) (f : FVec Ideal S16 .f32) (s : Fin 8192) (j : Fin 16) :
    halfT p f (ix2 s j) = FloatOps.sitofp (F := Ideal) FTy.f32 (p (ix1 s)) * f (ix1 j) := by
  pointwise [halfT]
theorem ang_t (s : Fin 8192) (l : Fin 64) : angT rowT colT (ix2 s l) = ang s.val (l.val / 2) := by
  unfold ang num
  pointwise [angT, half_t, row_t, col_t, freq_t]
  by_cases h : l.val / 2 < 16
  · rw [if_pos h, dif_pos h]
  · rw [if_neg h, dif_neg h]
theorem sgn_t (l : Fin 64) : sgnT (ix1 l) = sgn l.val := by
  have h : ∀ l : Fin 64, cmpi .eq (fmod64 (iotaInDim S64 32 0) (constantI S_ 32 2#32)) (broadcastInDim S64 ![] bcast_S_S64 (constantI S_ 32 0#32)) (ix1 l)
      = if l.val % 2 = 0 then 1#1 else 0#1 := by
    intro l
    pointwise [fmod64, nz]
    revert l
    decide +kernel
  unfold sgnT
  show Scalar.select _ _ _ = _
  rw [h]
  unfold sgn
  by_cases hl : l.val % 2 = 0
  · rw [if_pos hl, if_pos hl]
    refine (if_pos rfl).trans ?_
    show Ideal.ofBits FTy.f32 0xBF800000#32 = -1
    simp [Ideal.ofBits, Ideal.ieee]
    rw [← EReal.coe_mul]
    norm_num
  · rw [if_neg hl, if_neg hl]
    refine (if_neg (by decide)).trans ?_
    show Ideal.ofBits FTy.f32 0x3F800000#32 = 1
    simp [Ideal.ofBits, Ideal.ieee]
    rw [← EReal.coe_mul]
    norm_num

theorem cos_t (s : Fin 8192) (l : Fin 128) : cosT (ix2 s l) = Ideal.cos (ang s.val (l.val % 64 / 2)) := by
  unfold cosT
  rw [twice_at]
  exact congrArg Ideal.cos (ang_t s _)
theorem sin_t (s : Fin 8192) (l : Fin 128) : sinT (ix2 s l) = Ideal.sin (ang s.val (l.val % 64 / 2)) * sgn (l.val % 64) := by
  unfold sinT
  rw [twice_at]
  have h := sgn_t ⟨l.val % 64, by omega⟩
  pointwise [ang_t]
  exact congrArg (_ * ·) h
theorem cos_blk (c : Dev nD) (t : Fin cfg0.N) (r : Fin 1024) (l : Fin 128) : (show FVec Ideal S1024x128 .f32 from iblk m c 8 t) (ix2 r l)
    = Ideal.cos (ang (t.val % 8 * 1024 + r.val) (l.val % 64 / 2)) := by
  refine Eq.trans ?_ (cos_t ⟨t.val % 8 * 1024 + r.val, by omega⟩ l)
  rw [← V47 m c]
  blk_point [iblk, idx t]
theorem sin_blk (c : Dev nD) (t : Fin cfg0.N) (r : Fin 1024) (l : Fin 128) : (show FVec Ideal S1024x128 .f32 from iblk m c 9 t) (ix2 r l)
    = Ideal.sin (ang (t.val % 8 * 1024 + r.val) (l.val % 64 / 2)) * sgn (l.val % 64) := by
  refine Eq.trans ?_ (sin_t ⟨t.val % 8 * 1024 + r.val, by omega⟩ l)
  rw [← V54 m c]
  blk_point [iblk, idx t]

/-! The 0/1 matrix and the head gains, made as before. -/
theorem V9 (c : Dev nD) : (show FVec Ideal S256x256 .bf16 from V m c main_v9) = (ProjIdeal.Value.eblk : FVec Ideal S256x256 .bf16) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil,
    List.cons_append, List.nil_append]
  after_reads_simp
  rfl
theorem e_blk (c : Dev nD) (t : Fin cfg0.N) (i j : Fin 256) : (show FVec Ideal S256x256 .bf16 from iblk m c 7 t) (ix2 i j) = ProjMath.E i j := by
  refine Eq.trans ?_ (ProjIdeal.Value.eblk_at i j)
  rw [← V9 m c]
  blk_point [iblk, idx t]
theorem V70 (c : Dev nD) : (show FVec Ideal S1x512 .f32 from V m c main_v70) = ProjIdeal.Value.qgain (m ((c.tc : Thread nD τ).loc main_arg4)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil,
    List.cons_append, List.nil_append]
  after_reads_simp
  rfl
theorem V76 (c : Dev nD) : (show FVec Ideal S1x128 .f32 from V m c main_v76) = ProjIdeal.Value.kgain (m ((c.tc : Thread nD τ).loc main_arg4)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil,
    List.cons_append, List.nil_append]
  after_reads_simp
  rfl
theorem qg_blk (c : Dev nD) (t : Fin cfg0.N) (j : Fin 512) : (show FVec Ideal S1x512 .f32 from iblk m c 5 t) (ix2 0 j) = (m ((c.tc : Thread nD τ).loc main_arg4)) (ix3 0 0 ⟨j.val % 64, by omega⟩) := by
  refine Eq.trans ?_ (ProjIdeal.Value.qgain_at _ j)
  rw [← V70 m c]
  blk_point [iblk, idx t]
theorem kg_blk (c : Dev nD) (t : Fin cfg0.N) (j : Fin 128) : (show FVec Ideal S1x128 .f32 from iblk m c 6 t) (ix2 0 j) = (m ((c.tc : Thread nD τ).loc main_arg4)) (ix3 0 1 ⟨j.val % 64, by omega⟩) := by
  refine Eq.trans ?_ (ProjIdeal.Value.kgain_at _ j)
  rw [← V76 m c]
  blk_point [iblk, idx t]

/-! The rows, their gain, shift and scale, and the weights of the projection and of the convolution. -/
def shift (a2 : FVec Ideal S2x2x3x3x1x1024 .f32) : FVec Ideal S2x1x1024 .f32 :=
  shapeCast S2x1x1024 (extractStridedSlice S1x2x1x1x1x1024 ![1, 0, 1, 0, 0, 0] a2 slices_S2x2x3x3x1x1024_S1x2x1x1x1x1024_1_0_1_0_0_0) shapeCasts_S1x2x1x1x1x1024_S2x1x1024
def scale (a2 : FVec Ideal S2x2x3x3x1x1024 .f32) : FVec Ideal S2x1x1024 .f32 :=
  shapeCast S2x1x1024 (extractStridedSlice S1x2x1x1x1x1024 ![1, 0, 1, 1, 0, 0] a2 slices_S2x2x3x3x1x1024_S1x2x1x1x1x1024_1_0_1_1_0_0) shapeCasts_S1x2x1x1x1x1024_S2x1x1024
theorem shift_at (a2 : FVec Ideal S2x2x3x3x1x1024 .f32) (b : Fin 2) (e : Fin 1024) : shift a2 (ix3 b 0 e) = a2 (ix6 1 b 1 0 0 e) := by
  pointwise [shift]
theorem scale_at (a2 : FVec Ideal S2x2x3x3x1x1024 .f32) (b : Fin 2) (e : Fin 1024) : scale a2 (ix3 b 0 e) = a2 (ix6 1 b 1 1 0 e) := by
  pointwise [scale]
theorem V62 (c : Dev nD) : (show FVec Ideal S2x1x1024 .f32 from V m c main_v62) = shift (m ((c.tc : Thread nD τ).loc main_arg2)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil,
    List.cons_append, List.nil_append]
  after_reads_simp
  rfl
theorem V64 (c : Dev nD) : (show FVec Ideal S2x1x1024 .f32 from V m c main_v64) = scale (m ((c.tc : Thread nD τ).loc main_arg2)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil,
    List.cons_append, List.nil_append]
  after_reads_simp
  rfl
theorem shift_blk (c : Dev nD) (t : Fin cfg0.N) (b : Fin 2) (hb : t.val / 8 = b.val) (e : Fin 1024) : (show FVec Ideal S1x1x1024 .f32 from iblk m c 2 t) (ix3 0 0 e) = (m ((c.tc : Thread nD τ).loc main_arg2)) (ix6 1 b 1 0 0 e) := by
  refine Eq.trans ?_ (shift_at _ b e)
  rw [← V62 m c]
  blk_point [iblk, idx t]
theorem scale_blk (c : Dev nD) (t : Fin cfg0.N) (b : Fin 2) (hb : t.val / 8 = b.val) (e : Fin 1024) : (show FVec Ideal S1x1x1024 .f32 from iblk m c 3 t) (ix3 0 0 e) = (m ((c.tc : Thread nD τ).loc main_arg2)) (ix6 1 b 1 1 0 e) := by
  refine Eq.trans ?_ (scale_at _ b e)
  rw [← V64 m c]
  blk_point [iblk, idx t]
theorem x_blk (c : Dev nD) (t : Fin cfg0.N) (r e : Fin 1024) (R : Fin 16384) (hR : R.val = t.val * 1024 + r.val) : (show FVec Ideal S1024x1024 .f32 from iblk m c 0 t) (ix2 r e) = (m ((c.tc : Thread nD τ).loc main_arg0)) (ix2 R e) := by
  blk_point [iblk, V, idx t]
/-- The last row before the block. -/
theorem xp_blk (c : Dev nD) (t : Fin cfg0.N) (e : Fin 1024) (R : Fin 16384) (ht : 0 < t.val) (hR : R.val = t.val * 1024 - 1) : (show FVec Ideal S16x1024 .f32 from iblk m c 10 t) (ix2 15 e) = (m ((c.tc : Thread nD τ).loc main_arg0)) (ix2 R e) := by
  have h : (t.val * 64 - 1) * 16 + 15 = R.val := by omega
  blk_point [iblk, V, idx t]
/-- The first row after it. -/
theorem xn_blk (c : Dev nD) (t : Fin cfg0.N) (e : Fin 1024) (R : Fin 16384) (hR : R.val = t.val * 1024 + 1024) : (show FVec Ideal S16x1024 .f32 from iblk m c 11 t) (ix2 0 e) = (m ((c.tc : Thread nD τ).loc main_arg0)) (ix2 R e) := by
  have h : min (t.val * 64 + 64) 1023 * 16 = R.val := by omega
  blk_point [iblk, V, idx t]
def gain (a1 : FVec Ideal S2x3x1024 .f32) : FVec Ideal S1x1024 .f32 :=
  broadcastInDim S1x1024 ![1] bcast_S1024_S1x1024_1 (shapeCast S1024 (extractStridedSlice S1x1x1024 ![1, 1, 0] a1 slices_S2x3x1024_S1x1x1024_1_1_0) shapeCasts_S1x1x1024_S1024)
theorem gain_at (a1 : FVec Ideal S2x3x1024 .f32) (e : Fin 1024) : gain a1 (ix2 0 e) = a1 (ix3 1 1 e) := by
  pointwise [gain]
theorem V60 (c : Dev nD) : (show FVec Ideal S1x1024 .f32 from V m c main_v60) = gain (m ((c.tc : Thread nD τ).loc main_arg1)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil,
    List.cons_append, List.nil_append]
  after_reads_simp
  rfl
theorem gain_blk (c : Dev nD) (t : Fin cfg0.N) (e : Fin 1024) : (show FVec Ideal S1x1024 .f32 from iblk m c 1 t) (ix2 0 e) = (m ((c.tc : Thread nD τ).loc main_arg1)) (ix3 1 1 e) := by
  refine Eq.trans ?_ (gain_at _ e)
  rw [← V60 m c]
  blk_point [iblk, idx t]
theorem w_blk (c : Dev nD) (t : Fin cfg0.N) (e : Fin 1024) (f : Fin 2304) : (show FVec Ideal S1x1024x2304 .bf16 from iblk m c 4 t) (ix3 0 e f) = (m ((c.tc : Thread nD τ).loc main_arg3)) (ix3 1 e f) := by
  blk_point [iblk, V, idx t]
def taps (a5 : FVec Ideal S1x3x1536 .f32) : FVec Ideal S3x1536 .f32 := shapeCast S3x1536 a5 shapeCasts_S1x3x1536_S3x1536
def offs (a6 : FVec Ideal S1x1536 .f32) : FVec Ideal S1x1536 .f32 :=
  broadcastInDim S1x1536 ![1] bcast_S1536_S1x1536_1 (shapeCast S1536 a6 shapeCasts_S1x1536_S1536)
theorem taps_at (a5 : FVec Ideal S1x3x1536 .f32) (k : Fin 3) (e : Fin 1536) : taps a5 (ix2 k e) = a5 (ix3 0 k e) := by
  pointwise [taps]
theorem offs_at (a6 : FVec Ideal S1x1536 .f32) (e : Fin 1536) : offs a6 (ix2 0 e) = a6 (ix2 0 e) := by
  pointwise [offs]
theorem V55 (c : Dev nD) : (show FVec Ideal S3x1536 .f32 from V m c main_v55) = taps (m ((c.tc : Thread nD τ).loc main_arg5)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil,
    List.cons_append, List.nil_append]
  after_reads_simp
  rfl
theorem V57 (c : Dev nD) : (show FVec Ideal S1x1536 .f32 from V m c main_v57) = offs (m ((c.tc : Thread nD τ).loc main_arg6)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil,
    List.cons_append, List.nil_append]
  after_reads_simp
  rfl
theorem taps_blk (c : Dev nD) (t : Fin cfg0.N) (k : Fin 3) (e : Fin 1536) : (show FVec Ideal S3x1536 .f32 from iblk m c 12 t) (ix2 k e) = (m ((c.tc : Thread nD τ).loc main_arg5)) (ix3 0 k e) := by
  refine Eq.trans ?_ (taps_at _ k e)
  rw [← V55 m c]
  blk_point [iblk, idx t]
theorem offs_blk (c : Dev nD) (t : Fin cfg0.N) (e : Fin 1536) : (show FVec Ideal S1x1536 .f32 from iblk m c 13 t) (ix2 0 e) = (m ((c.tc : Thread nD τ).loc main_arg6)) (ix2 0 e) := by
  refine Eq.trans ?_ (offs_at _ e)
  rw [← V57 m c]
  blk_point [iblk, idx t]
end Cert.RopeIdeal.Value
-- ==== Proof.RopePoint.lean ====
module
public import proofs.«01_k».proof.Proof.Gen.RopeIdeal.Value
public import proofs.«01_k».proof.Proof.RopeMath
public import Idealize.ShloMosaic.Lib.Pipeline.ValueKit
public import Idealize.ShloMosaic.Lib.Pointwise
/-! The payloads at an index, for any blocks read: conditioned rows, turned pairs, the convolution's taps. -/
@[expose] public section
set_option maxRecDepth 16384
noncomputable section
namespace Cert.RopeIdeal.Value
open Cert.RopeIdeal Cert.RopeIdeal.Gen Idealize.ShloMosaic Idealize.ShloMosaic.TcCoe Idealize.SL.Sem
open Cert.Ffn1 Cert.ProjMath Cert.RopeMath

theorem row_at (v0 : FVec Ideal S1024x1024 .f32) (v1 : FVec Ideal S1x1024 .f32) (v3 v5 : FVec Ideal S1x1x1024 .f32) (r d : Fin 1024) :
   k0_pay2 (F := Ideal) v0 v1 v3 v5 (ix2 r d) =
     normRow (fun e => v0 (ix2 r e)) (fun e => v1 (ix2 0 e)) (fun e => v3 (ix3 0 0 e)) (fun e => v5 (ix3 0 0 e)) d := by
  unfold normRow
  pointwise [k0_pay2]

theorem halo_at (v0 : FVec Ideal S16x1024 .f32) (v1 : FVec Ideal S1x1024 .f32) (v3 v5 : FVec Ideal S1x1x1024 .f32) (r : Fin 16) (d : Fin 1024) :
   k0_pay22 (F := Ideal) v0 v1 v3 v5 (ix2 r d) =
     normRow (fun e => v0 (ix2 r e)) (fun e => v1 (ix2 0 e)) (fun e => v3 (ix3 0 0 e)) (fun e => v5 (ix3 0 0 e)) d := by
  unfold normRow
  pointwise [k0_pay22]

/-- The lane mask: even lane or not. -/
theorem lane_at (r : Fin 1024) (l : Fin 128) : k0_pay13 (ix2 r l) = if l.val % 2 = 0 then 1#1 else 0#1 := by
  pointwise [k0_pay13]
  revert l
  decide

/-- Entry `l` turned by tables of 128 lanes. -/
def turn {n : ℕ} (h : n % 2 = 0) (y : Fin n → EReal) (c s : Fin 128 → EReal) (l : Fin n) : EReal :=
  y l * c ⟨l.val % 128, by omega⟩ + y (mate h l) * s ⟨l.val % 128, by omega⟩

theorem turn_step {n : ℕ} (h : n % 2 = 0) (hn : n % 128 = 0) (y : Fin n → EReal) (c s : Fin 128 → EReal) (l a a1 a2 : Fin n) (k : Fin 128) (r : Fin 1024)
    (hk : k.val = l.val % 128) (ha : a.val = l.val) (h1 : k.val % 2 = 0 → a1.val = l.val + 1) (h2 : ¬ k.val % 2 = 0 → a2.val = l.val - 1) :
    y a * c k + Scalar.select (k0_pay13 (ix2 r k)) (y a1) (y a2) * s k = turn h y c s l := by
  have e0 : a = l := Fin.ext ha
  have e1 : k = ⟨l.val % 128, by omega⟩ := Fin.ext hk
  rw [lane_at, turn, ← e1, e0]
  refine congrArg (fun w => y l * c k + w * s k) ?_
  by_cases hp : k.val % 2 = 0
  · have hq : l.val % 2 = 0 := by omega
    have e2 : a1 = mate h l := Fin.ext ((h1 hp).trans (if_pos hq).symm)
    rw [if_pos hp, e2]; exact if_pos rfl
  · have hq : ¬ l.val % 2 = 0 := by omega
    have e2 : a2 = mate h l := Fin.ext ((h2 hp).trans (if_neg hq).symm)
    rw [if_neg hp, e2]; exact if_neg (by decide)

theorem scale_eq : (Named.named (F := Ideal) (φ := FTy.f32) κ "score_scale" 1043900987#32 : EReal) = AttnMath.qscale := by
  rw [AttnMath.qscale_eq, div_eq_mul_inv]
  rfl

theorem turn_q (v : FVec Ideal S1024x512 .f32) (x8 x9 : FVec Ideal S1024x128 .f32) (r : Fin 1024) (l : Fin 512) :
    k0_pay19 (F := Ideal) v (k0_pay11 x8) (k0_pay12 x9) k0_pay13 (k0_pay14 v x8 x9) (k0_pay15 v x8 x9) (k0_pay16 v) (k0_pay17 v) (k0_pay18 v) (ix2 r l)
      = turn rfl (fun k => v (ix2 r k)) (fun k => x8 (ix2 r k)) (fun k => x9 (ix2 r k)) l * AttnMath.qscale := by
  pointwise [k0_pay19, k0_pay11, k0_pay12, k0_pay14, k0_pay15, k0_pay16, k0_pay17, k0_pay18]
  refine congrArg₂ (· * ·) ?_ scale_eq
  have step := turn_step (n := 512) rfl rfl (fun k => v (ix2 r k)) (fun k => x8 (ix2 r k)) (fun k => x9 (ix2 r k)) l
  by_cases h1 : l.val < 128
  · rw [dif_pos h1]
    exact step _ _ _ _ r (by simp only; omega) (by simp only) (by simp only; omega) (by simp only; omega)
  rw [dif_neg h1]
  by_cases h2 : l.val - 128 < 128
  · rw [dif_pos h2]
    exact step _ _ _ _ r (by simp only; omega) (by simp only; omega) (by simp only; omega) (by simp only; omega)
  rw [dif_neg h2]
  by_cases h3 : l.val - 128 - 128 < 128
  · rw [dif_pos h3]
    exact step _ _ _ _ r (by simp only; omega) (by simp only; omega) (by simp only; omega) (by simp only; omega)
  rw [dif_neg h3]
  exact step _ _ _ _ r (by simp only; omega) (by simp only; omega) (by simp only; omega) (by simp only; omega)

theorem turn_k (v : FVec Ideal S1024x128 .f32) (x8 x9 : FVec Ideal S1024x128 .f32) (r : Fin 1024) (l : Fin 128) :
    k0_pay20 (F := Ideal) v (k0_pay11 x8) (k0_pay12 x9) k0_pay13 (ix3 0 l r)
      = turn rfl (fun k => v (ix2 r k)) (fun k => x8 (ix2 r k)) (fun k => x9 (ix2 r k)) l := by
  pointwise [k0_pay20, k0_pay11, k0_pay12]
  exact turn_step (n := 128) rfl rfl (fun k => v (ix2 r k)) (fun k => x8 (ix2 r k)) (fun k => x9 (ix2 r k)) l _ _ _ _ r
    (Nat.mod_eq_of_lt l.isLt).symm rfl (by simp only; omega) (by simp only; omega)

/-! The convolution. Its rows: 16 before, the block's 1024, 16 after. -/
section
variable (v25 : FVec Ideal S1024x1024 .bf16) (v188 : FVec Ideal S16x1024 .bf16) (v189 : FVec Ideal S16x1024 .f32) (v1 : FVec Ideal S1x1024 .f32)
  (v3 v5 : FVec Ideal S1x1x1024 .f32) (w : FVec Ideal S1x1024x1536 .bf16)

/-- All the rows' products. -/
abbrev ext := k0_pay25 (F := Ideal) v25 v188 v189 (k0_pay23 v1) (k0_pay24 v3) v5 w

theorem ext_mid (j : Fin 1056) (r : Fin 1024) (hj : j.val = 16 + r.val) (c : Fin 1536) :
    ext v25 v188 v189 v1 v3 v5 w (ix2 j c) = ∑ e, v25 (ix2 r e) * w (ix3 0 e c) := by
  pointwise [k0_pay25, k0_pay23, k0_pay24]
  refine Finset.sum_congr rfl fun e _ => congrArg (· * w (ix3 0 e c)) ?_
  rw [dif_neg (by omega), dif_pos (by omega)]
  exact congrArg (fun k => v25 (ix2 k e)) (Fin.ext (by simp only; omega))

theorem ext_lo (j : Fin 1056) (hj : j.val = 15) (c : Fin 1536) :
    ext v25 v188 v189 v1 v3 v5 w (ix2 j c) = ∑ e, v188 (ix2 15 e) * w (ix3 0 e c) := by
  pointwise [k0_pay25, k0_pay23, k0_pay24]
  refine Finset.sum_congr rfl fun e _ => congrArg (· * w (ix3 0 e c)) ?_
  rw [dif_pos (by omega)]
  exact congrArg (fun k => v188 (ix2 k e)) (Fin.ext (by simp only; omega))

theorem ext_hi (j : Fin 1056) (hj : j.val = 1040) (c : Fin 1536) :
    ext v25 v188 v189 v1 v3 v5 w (ix2 j c)
      = ∑ e, normRow (fun e => v189 (ix2 0 e)) (fun e => v1 (ix2 0 e)) (fun e => v3 (ix3 0 0 e)) (fun e => v5 (ix3 0 0 e)) e * w (ix3 0 e c) := by
  unfold normRow
  pointwise [k0_pay25, k0_pay23, k0_pay24]
  refine Finset.sum_congr rfl fun e _ => congrArg (· * w (ix3 0 e c)) ?_
  rw [dif_neg (by omega), dif_neg (by omega)]
  have hk : (⟨j.val - 16 - 1024, by omega⟩ : Fin 16) = 0 := Fin.ext (by simp only [Fin.val_zero]; omega)
  simp only [hk]

/-- What the first step of the remainder gives. -/
theorem rem_at (i : Fin 16) :
    (Scalar.cmpi CmpIPredicate.eq (Scalar.select (Scalar.andi (Scalar.xori (Scalar.cmpi CmpIPredicate.slt (Scalar.remsi (BitVec.ofNat 32 i.val) (Scalar.select (Scalar.cmpi .eq 8#32 0#32) 1#32 8#32)) 0#32)
      (Scalar.cmpi CmpIPredicate.slt (Scalar.select (Scalar.cmpi .eq 8#32 0#32) 1#32 8#32) 0#32)) (Scalar.cmpi CmpIPredicate.ne (Scalar.remsi (BitVec.ofNat 32 i.val) (Scalar.select (Scalar.cmpi .eq 8#32 0#32) 1#32 8#32)) 0#32))
      (Scalar.addi (Scalar.remsi (BitVec.ofNat 32 i.val) (Scalar.select (Scalar.cmpi .eq 8#32 0#32) 1#32 8#32)) (Scalar.select (Scalar.cmpi .eq 8#32 0#32) 1#32 8#32)) (Scalar.remsi (BitVec.ofNat 32 i.val) (Scalar.select (Scalar.cmpi .eq 8#32 0#32) 1#32 8#32))) 7#32
      = if i.val % 8 = 7 then 1#1 else 0#1)
    ∧ (Scalar.cmpi CmpIPredicate.eq (Scalar.select (Scalar.andi (Scalar.xori (Scalar.cmpi CmpIPredicate.slt (Scalar.remsi (BitVec.ofNat 32 i.val) (Scalar.select (Scalar.cmpi .eq 8#32 0#32) 1#32 8#32)) 0#32)
      (Scalar.cmpi CmpIPredicate.slt (Scalar.select (Scalar.cmpi .eq 8#32 0#32) 1#32 8#32) 0#32)) (Scalar.cmpi CmpIPredicate.ne (Scalar.remsi (BitVec.ofNat 32 i.val) (Scalar.select (Scalar.cmpi .eq 8#32 0#32) 1#32 8#32)) 0#32))
      (Scalar.addi (Scalar.remsi (BitVec.ofNat 32 i.val) (Scalar.select (Scalar.cmpi .eq 8#32 0#32) 1#32 8#32)) (Scalar.select (Scalar.cmpi .eq 8#32 0#32) 1#32 8#32)) (Scalar.remsi (BitVec.ofNat 32 i.val) (Scalar.select (Scalar.cmpi .eq 8#32 0#32) 1#32 8#32))) 0#32
      = if i.val % 8 = 0 then 1#1 else 0#1) := by
  revert i; decide

theorem select_if (p : Prop) [Decidable p] (a b : EReal) : Scalar.select (if p then 1#1 else 0#1) a b = if p then a else b := by
  by_cases h : p
  · rw [if_pos h, if_pos h]; exact if_pos rfl
  · rw [if_neg h, if_neg h]; exact if_neg (by decide)

theorem first_at (i : Fin 16) (c : Fin 1536) :
    k0_pay26 (F := Ideal) (BitVec.ofNat 32 i.val) v25 v188 v189 (k0_pay23 v1) (k0_pay24 v3) v5 w (ix2 0 c)
      = if i.val % 8 = 0 then 0 else ext v25 v188 v189 v1 v3 v5 w (ix2 15 c) := by
  unfold ext
  generalize hV : k0_pay25 (F := Ideal) v25 v188 v189 (k0_pay23 v1) (k0_pay24 v3) v5 w = V
  unfold k0_pay26
  rw [hV]
  pointwise []
  rw [(rem_at i).2, select_if]
end

theorem row0 (r : Fin 1024) : IntOp.cmpi CmpIPredicate.eq (BitVec.ofNat 32 r.val) 0#32 = if r.val = 0 then 1#1 else 0#1 := by
  revert r; decide +kernel
theorem row1 (r : Fin 1024) : IntOp.cmpi CmpIPredicate.eq (BitVec.ofNat 32 r.val) 1023#32 = if r.val = 1023 then 1#1 else 0#1 := by
  revert r; decide +kernel

theorem conv_at (V : FVec Ideal S1056x1536 .f32) (f : FVec Ideal S1x1536 .f32) (w : FVec Ideal S3x1536 .f32) (b : FVec Ideal S1x1536 .f32) (i : Fin 16) (r : Fin 1024) (c : Fin 1536)
    (hf : f (ix2 0 c) = if i.val % 8 = 0 then 0 else V (ix2 15 c)) :
    k0_pay27 (F := Ideal) V f (Scalar.select (Scalar.cmpi .eq 8#32 0#32) 1#32 8#32) (Scalar.remsi (BitVec.ofNat 32 i.val) (Scalar.select (Scalar.cmpi .eq 8#32 0#32) 1#32 8#32)) w b (ix2 r c)
      = tap (w (ix2 0 c)) (w (ix2 1 c)) (w (ix2 2 c)) (b (ix2 0 c))
          (if r.val = 0 ∧ i.val % 8 = 0 then 0 else V (ix2 ⟨15 + r.val, by omega⟩ c)) (V (ix2 ⟨16 + r.val, by omega⟩ c))
          (if r.val = 1023 ∧ i.val % 8 = 7 then 0 else V (ix2 ⟨17 + r.val, by omega⟩ c)) := by
  pointwise [k0_pay27]
  rw [row0, row1, select_if, select_if, hf, (rem_at i).1, select_if]
  unfold tap
  refine congrArg (· + b (ix2 0 c)) (congrArg₂ (· + ·) (congrArg (· + _) (congrArg (w (ix2 0 c) * ·) ?_)) (congrArg (w (ix2 2 c) * ·) ?_))
  · by_cases h : r.val = 0
    · rw [if_pos h]
      by_cases h' : i.val % 8 = 0
      · rw [if_pos h', if_pos ⟨h, h'⟩]
      · rw [if_neg h', if_neg (fun hh => h' hh.2)]
        exact congrArg (fun k => V (ix2 k c)) (Fin.ext (by simp [h]))
    · rw [if_neg h, if_neg (fun hh => h hh.1)]
      exact congrArg (fun k => V (ix2 k c)) (Fin.ext (by simp only; omega))
  · by_cases h : r.val = 1023
    · rw [if_pos h]
      by_cases h' : i.val % 8 = 7
      · rw [if_pos h', if_pos ⟨h, h'⟩]
      · rw [if_neg h', if_neg (fun hh => h' hh.2)]
        exact congrArg (fun k => V (ix2 k c)) (Fin.ext (by simp [h]))
    · rw [if_neg h, if_neg (fun hh => h hh.1)]
      exact congrArg (fun k => V (ix2 k c)) (Fin.ext (by simp only; omega))

end Cert.RopeIdeal.Value
-- ==== Proof.RopeOut.lean ====
module
public import proofs.«01_k».proof.Proof.RopePoint
public import proofs.«01_k».proof.Proof.ProjPoint
/-! The five stored blocks at an index, for any blocks read. -/
@[expose] public section
set_option maxRecDepth 16384
noncomputable section
namespace Cert.RopeIdeal.Value
open Cert.RopeIdeal Cert.RopeIdeal.Gen Idealize.ShloMosaic Idealize.ShloMosaic.TcCoe Idealize.SL.Sem
open Cert.Ffn1 Cert.ProjMath Cert.RopeMath

/-- Row `r` of the blocks against column `c` of the weight block. -/
def z (x0 : FVec Ideal S1024x1024 .f32) (x1 : FVec Ideal S1x1024 .f32) (x2 x3 : FVec Ideal S1x1x1024 .f32) (x4 : FVec Ideal S1x1024x2304 .bf16)
    (r : Fin 1024) : Fin 2304 → EReal :=
  pj (normRow (fun e => x0 (ix2 r e)) (fun e => x1 (ix2 0 e)) (fun e => x3 (ix3 0 0 e)) (fun e => x2 (ix3 0 0 e))) (fun e c => x4 (ix3 0 e c))

/-- The same of a row of one of the two neighbouring blocks. -/
def zh (x : FVec Ideal S16x1024 .f32) (x1 : FVec Ideal S1x1024 .f32) (x2 x3 : FVec Ideal S1x1x1024 .f32) (x4 : FVec Ideal S1x1024x2304 .bf16)
    (r : Fin 16) : Fin 2304 → EReal :=
  pj (normRow (fun e => x (ix2 r e)) (fun e => x1 (ix2 0 e)) (fun e => x3 (ix3 0 0 e)) (fun e => x2 (ix3 0 0 e))) (fun e c => x4 (ix3 0 e c))

variable (i : grid0.Coords) (x0 : FVec Ideal S1024x1024 .f32) (x1 : FVec Ideal S1x1024 .f32) (x2 x3 : FVec Ideal S1x1x1024 .f32) (x4 : FVec Ideal S1x1024x2304 .bf16)
  (x5 : FVec Ideal S1x512 .f32) (x6 : FVec Ideal S1x128 .f32) (x7 : FVec Ideal S256x256 .bf16) (x8 x9 : FVec Ideal S1024x128 .f32)
  (x10 x11 : FVec Ideal S16x1024 .f32) (x12 : FVec Ideal S3x1536 .f32) (x13 : FVec Ideal S1x1536 .f32)

theorem v_at (r : Fin 1024) (l : Fin 256) :
    out0_16 (F := Ideal) i x0 x1 x2 x3 x4 x5 x6 x7 x8 x9 x10 x11 x12 x13 (ix2 r l) = vv (z x0 x1 x2 x3 x4 r) l := by
  unfold_out out0_16
  frame_out
  pointwise [k0_pay21, row_at]
  unfold vv z pj
  by_cases h : l.val < 128
  · rw [dif_pos h, ProjIdeal.Value.slt_at l.val h]
    by_cases h1 : l.val < 64
    · rw [if_pos h1]
      refine Eq.trans ?_ (if_pos (by omega)).symm
      exact Finset.sum_congr rfl fun e _ => congrArg (fun k => _ * x4 (ix3 0 e k)) (Fin.ext (by simp only; omega))
    · rw [if_neg h1]
      exact (if_neg (by omega)).symm
  · rw [dif_neg h, ProjIdeal.Value.slt_at (l.val - 128) (by omega)]
    by_cases h1 : l.val - 128 < 64
    · rw [if_pos h1]
      refine Eq.trans ?_ (if_pos (by omega)).symm
      exact Finset.sum_congr rfl fun e _ => congrArg (fun k => _ * x4 (ix3 0 e k)) (Fin.ext (by simp only; omega))
    · rw [if_neg h1]
      exact (if_neg (by omega)).symm

/-- The keys before turning. -/
theorem kn_at (g : Fin 64 → EReal) (hg : ∀ j : Fin 128, x6 (ix2 0 j) = g ⟨j.val % 64, by omega⟩) (hE : ∀ i j, x7 (ix2 i j) = E i j)
    (r : Fin 1024) (hz : ∀ c, Fin' (z x0 x1 x2 x3 x4 r c)) (l : Fin 128) :
    k0_pay10 (F := Ideal) (k0_pay9 (k0_pay4 x0 x1 x3 x2 (View.ld x4 r0_4)) x7) x6 (ix2 r l) = kv (z x0 x1 x2 x3 x4 r) g l := by
  pointwise [k0_pay10, k0_pay9, k0_pay4, row_at]
  simp only [hE]
  have key := kernel_inv 2 (fun x => z x0 x1 x2 x3 x4 r ⟨512 + x.val, by omega⟩) (fun x => hz _) l
  exact congrArg₂ (· * ·) (congrArg₂ (· * ·) rfl key) (hg l)

/-- The queries before turning. -/
theorem qn_at (g : Fin 64 → EReal) (hg : ∀ j : Fin 512, x5 (ix2 0 j) = g ⟨j.val % 64, by omega⟩) (hE : ∀ i j, x7 (ix2 i j) = E i j)
    (r : Fin 1024) (hz : ∀ c, Fin' (z x0 x1 x2 x3 x4 r c)) (l : Fin 512) :
    k0_pay8 (F := Ideal) (k0_pay3 x0 x1 x3 x2 (View.ld x4 r0_3)) (k0_pay6 x0 x1 x3 x2 (View.ld x4 r0_3)) (k0_pay7 x0 x1 x3 x2 (View.ld x4 r0_3)) x7 x5 (ix2 r l)
      = qn (z x0 x1 x2 x3 x4 r) g l := by
  pointwise [k0_pay8, k0_pay3, k0_pay6, k0_pay7, k0_pay5, row_at]
  simp only [hE]
  refine congrArg₂ (· * ·) (congrArg₂ (· * ·) rfl ?_) (hg l)
  by_cases h : l.val < 256
  · rw [dif_pos h]
    exact kernel_inv 4 (fun x => z x0 x1 x2 x3 x4 r ⟨x.val, by omega⟩) (fun x => hz _) ⟨l.val, h⟩
  · rw [dif_neg h]
    refine (kernel_inv 4 (fun x => z x0 x1 x2 x3 x4 r ⟨256 + x.val, by omega⟩) (fun x => hz _) ⟨l.val - 256, by omega⟩).trans ?_
    refine congrArg inv (funext fun d => ?_)
    exact congrArg _ (Fin.ext (by simp only; omega))

/-- Turning by tables of angles. -/
theorem turn_rot {n : ℕ} (h : n % 2 = 0) (y : Fin n → EReal) (c s : Fin 128 → EReal) (p : ℕ) (hc : ∀ k : Fin 128, c k = Ideal.cos (ang p (k.val % 64 / 2)))
    (hs : ∀ k : Fin 128, s k = Ideal.sin (ang p (k.val % 64 / 2)) * sgn (k.val % 64)) (l : Fin n) : turn h y c s l = rot h y p l := by
  unfold turn rot
  have e1 : l.val % 128 % 64 = l.val % 64 := by omega
  have e2 : sgn (l.val % 64) = sgn l.val := by
    unfold sgn
    rw [show l.val % 64 % 2 = l.val % 2 by omega]
  rw [hc, hs, e1, e2]

theorem k_at (g : Fin 64 → EReal) (hg : ∀ j : Fin 128, x6 (ix2 0 j) = g ⟨j.val % 64, by omega⟩) (hE : ∀ i j, x7 (ix2 i j) = E i j)
    (r : Fin 1024) (hz : ∀ c, Fin' (z x0 x1 x2 x3 x4 r c)) (p : ℕ) (hc : ∀ k : Fin 128, x8 (ix2 r k) = Ideal.cos (ang p (k.val % 64 / 2)))
    (hs : ∀ k : Fin 128, x9 (ix2 r k) = Ideal.sin (ang p (k.val % 64 / 2)) * sgn (k.val % 64)) (l : Fin 128) :
    out0_15 (F := Ideal) i x0 x1 x2 x3 x4 x5 x6 x7 x8 x9 x10 x11 x12 x13 (ix3 0 l r) = rot rfl (kv (z x0 x1 x2 x3 x4 r) g) p l := by
  unfold_out out0_15
  frame_out
  refine (turn_k _ _ _ r l).trans ?_
  refine Eq.trans ?_ (turn_rot rfl _ _ _ p hc hs l)
  exact congrArg (fun y => turn rfl y _ _ l) (funext fun k => kn_at x0 x1 x2 x3 x4 x6 x7 g hg hE r hz k)

theorem q_at (g : Fin 64 → EReal) (hg : ∀ j : Fin 512, x5 (ix2 0 j) = g ⟨j.val % 64, by omega⟩) (hE : ∀ i j, x7 (ix2 i j) = E i j)
    (r : Fin 1024) (hz : ∀ c, Fin' (z x0 x1 x2 x3 x4 r c)) (p : ℕ) (hc : ∀ k : Fin 128, x8 (ix2 r k) = Ideal.cos (ang p (k.val % 64 / 2)))
    (hs : ∀ k : Fin 128, x9 (ix2 r k) = Ideal.sin (ang p (k.val % 64 / 2)) * sgn (k.val % 64)) (l : Fin 512) :
    out0_14 (F := Ideal) i x0 x1 x2 x3 x4 x5 x6 x7 x8 x9 x10 x11 x12 x13 (ix2 r l) = rot rfl (qn (z x0 x1 x2 x3 x4 r) g) p l * AttnMath.qscale := by
  unfold_out out0_14
  frame_out
  refine (turn_q _ x8 x9 r l).trans ?_
  refine congrArg (· * AttnMath.qscale) ?_
  refine Eq.trans ?_ (turn_rot rfl _ _ _ p hc hs l)
  exact congrArg (fun y => turn rfl y _ _ l) (funext fun k => qn_at x0 x1 x2 x3 x4 x5 x7 g hg hE r hz k)

/-- Column `c` of the convolution at row `r` of the block. -/
def tz (r : Fin 1024) (c : Fin 1536) : EReal :=
  tap (x12 (ix2 0 c)) (x12 (ix2 1 c)) (x12 (ix2 2 c)) (x13 (ix2 0 c))
    (if r.val = 0 then if (i 0).val % 8 = 0 then 0 else zh x10 x1 x2 x3 x4 15 ⟨768 + c.val, by omega⟩ else z x0 x1 x2 x3 x4 ⟨r.val - 1, by omega⟩ ⟨768 + c.val, by omega⟩)
    (z x0 x1 x2 x3 x4 r ⟨768 + c.val, by omega⟩)
    (if h : r.val = 1023 then if (i 0).val % 8 = 7 then 0 else zh x11 x1 x2 x3 x4 0 ⟨768 + c.val, by omega⟩ else z x0 x1 x2 x3 x4 ⟨r.val + 1, by omega⟩ ⟨768 + c.val, by omega⟩)

/-- The weight's last 1536 columns. -/
abbrev wu (x4 : Vec Ideal S1x1024x2304 .bf16) : Vec Ideal S1x1024x1536 .bf16 := View.ld x4 r0_14
theorem cols (e : Fin 1024) (c : Fin 1536) : (show FVec Ideal S1x1024x1536 .bf16 from wu x4) (ix3 0 e c) = x4 (ix3 0 e ⟨768 + c.val, by omega⟩) := by
  show (x4 _ : EReal) = x4 _
  refine congrArg x4 (funext fun k => Fin.ext ?_)
  fin_cases k
  · show 0 + 1 * 0 = 0
    rfl
  · show 0 + 1 * e.val = e.val
    omega
  · show 768 + 1 * c.val = 768 + c.val
    omega

theorem tz_at (r : Fin 1024) (c : Fin 1536) :
    k0_pay27 (F := Ideal) (ext (k0_pay2 x0 x1 x3 x2) (k0_pay22 x10 x1 x3 x2) x11 x1 x3 x2 (wu x4))
      (k0_pay26 (BitVec.ofNat 32 (i 0).val) (k0_pay2 x0 x1 x3 x2) (k0_pay22 x10 x1 x3 x2) x11 (k0_pay23 x1) (k0_pay24 x3) x2 (wu x4))
      (Scalar.select (Scalar.cmpi CmpIPredicate.eq 8#32 0#32) 1#32 8#32)
      (Scalar.remsi (BitVec.ofNat 32 (i 0).val) (Scalar.select (Scalar.cmpi CmpIPredicate.eq 8#32 0#32) 1#32 8#32)) x12 x13 (ix2 r c)
      = tz i x0 x1 x2 x3 x4 x10 x11 x12 x13 r c := by
  have mid : ∀ (j : Fin 1056) (q : Fin 1024), j.val = 16 + q.val →
      ext (k0_pay2 x0 x1 x3 x2) (k0_pay22 x10 x1 x3 x2) x11 x1 x3 x2 (wu x4) (ix2 j c) = z x0 x1 x2 x3 x4 q ⟨768 + c.val, by omega⟩ := by
    intro j q hj
    rw [ext_mid _ _ _ _ _ _ _ j q hj c]
    exact Finset.sum_congr rfl fun e _ => congrArg₂ (· * ·) (row_at x0 x1 x3 x2 q e) (cols x4 e c)
  refine (conv_at _ _ x12 x13 (i 0) r c (first_at _ _ _ _ _ _ _ (i 0) c)).trans ?_
  unfold tz
  rw [mid ⟨16 + r.val, by omega⟩ r rfl]
  refine congrArg₂ (fun a b => tap _ _ _ _ a _ b) ?_ ?_
  · by_cases h : r.val = 0
    · rw [if_pos h]
      by_cases h' : (i 0).val % 8 = 0
      · rw [if_pos h', if_pos ⟨h, h'⟩]
      · rw [if_neg h', if_neg (fun hh => h' hh.2)]
        rw [ext_lo _ _ _ _ _ _ _ ⟨15 + r.val, by omega⟩ (by simp only; omega) c]
        exact Finset.sum_congr rfl fun e _ => congrArg₂ (· * ·) (halo_at x10 x1 x3 x2 15 e) (cols x4 e c)
    · rw [if_neg h, if_neg (fun hh => h hh.1)]
      exact mid _ _ (by simp only; omega)
  · by_cases h : r.val = 1023
    · rw [dif_pos h]
      by_cases h' : (i 0).val % 8 = 7
      · rw [if_pos h', if_pos ⟨h, h'⟩]
      · rw [if_neg h', if_neg (fun hh => h' hh.2)]
        rw [ext_hi _ _ _ _ _ _ _ ⟨17 + r.val, by omega⟩ (by simp only; omega) c]
        exact Finset.sum_congr rfl fun e _ => congrArg (_ * ·) (cols x4 e c)
    · rw [dif_neg h, if_neg (fun hh => h hh.1)]
      exact mid _ _ (by simp only; omega)

theorem x0_at (r : Fin 1024) (l : Fin 512) :
    out0_17 (F := Ideal) i x0 x1 x2 x3 x4 x5 x6 x7 x8 x9 x10 x11 x12 x13 (ix2 r l) = tz i x0 x1 x2 x3 x4 x10 x11 x12 x13 r ⟨l.val, by omega⟩ := by
  unfold_out out0_17
  frame_out
  rw [← tz_at]
  unfold k0_pay28
  generalize k0_pay27 (F := Ideal) _ _ _ _ _ _ = V
  pointwise []

theorem z2_at (r : Fin 1024) (l : Fin 512) :
    out0_18 (F := Ideal) i x0 x1 x2 x3 x4 x5 x6 x7 x8 x9 x10 x11 x12 x13 (ix2 r l)
      = tz i x0 x1 x2 x3 x4 x10 x11 x12 x13 r ⟨512 + l.val, by omega⟩ * tz i x0 x1 x2 x3 x4 x10 x11 x12 x13 r ⟨1024 + l.val, by omega⟩ := by
  unfold_out out0_18
  frame_out
  rw [← tz_at, ← tz_at]
  generalize k0_pay27 (F := Ideal) _ _ _ _ _ _ = V
  pointwise [k0_pay1]

end Cert.RopeIdeal.Value
-- ==== Proof.RopeMap.lean ====
module
public import proofs.«01_k».proof.RopeIdeal
public import proofs.«01_k».proof.Proof.RopeMath
public import proofs.«01_k».proof.Proof.ProjMap
/-! The in-projection's five results as functions of its arguments. -/
@[expose] public section
noncomputable section
namespace Cert.RopeIdeal.Value
open Cert.RopeIdeal Idealize.ShloMosaic
open Cert.Ffn1 Cert.ProjMath Cert.RopeMath Cert.ProjIdeal.Value

variable (a0 : FVec Ideal S16384x1024 .f32) (a1 : FVec Ideal S2x3x1024 .f32) (a2 : FVec Ideal S2x2x3x3x1x1024 .f32)
  (a3 : FVec Ideal S2x1024x2304 .f32) (a4 : FVec Ideal S1x2x64 .f32) (a5 : FVec Ideal S1x3x1536 .f32) (a6 : FVec Ideal S1x1536 .f32)

/-- Row `R`, conditioned and normalised by the second layer's weights, against every column of its weight. -/
def Z (R : Fin 16384) : Fin 2304 → EReal :=
  pj (normRow (fun e => a0 (ix2 R e)) (fun e => a1 (ix3 1 1 e)) (fun e => a2 (ix6 1 (bat R) 1 1 0 e)) (fun e => a2 (ix6 1 (bat R) 1 0 0 e)))
    (fun e c => a3 (ix3 1 e c))

def Q (R : Fin 16384) (l : Fin 512) : EReal :=
  rot rfl (qn (Z a0 a1 a2 a3 R) (fun d => a4 (ix3 0 0 d))) (R.val % 8192) l * AttnMath.qscale
def K (b : Fin 16) (l : Fin 128) (r : Fin 1024) : EReal :=
  rot rfl (kv (Z a0 a1 a2 a3 ⟨b.val * 1024 + r.val, by omega⟩) (fun d => a4 (ix3 0 1 d))) ((b.val * 1024 + r.val) % 8192) l
def W (R : Fin 16384) (l : Fin 256) : EReal := vv (Z a0 a1 a2 a3 R) l

/-- Column `c` of the convolution at row `R`: nothing before the first row of a batch and after its last. -/
def T (R : Fin 16384) (c : Fin 1536) : EReal :=
  tap (a5 (ix3 0 0 c)) (a5 (ix3 0 1 c)) (a5 (ix3 0 2 c)) (a6 (ix2 0 c))
    (if R.val % 8192 = 0 then 0 else Z a0 a1 a2 a3 ⟨R.val - 1, by omega⟩ ⟨768 + c.val, by omega⟩)
    (Z a0 a1 a2 a3 R ⟨768 + c.val, by omega⟩)
    (if h : R.val % 8192 = 8191 then 0 else Z a0 a1 a2 a3 ⟨R.val + 1, by omega⟩ ⟨768 + c.val, by omega⟩)

def X0 (R : Fin 16384) (l : Fin 512) : EReal := T a0 a1 a2 a3 a5 a6 R ⟨l.val, by omega⟩
def Z2 (R : Fin 16384) (l : Fin 512) : EReal := T a0 a1 a2 a3 a5 a6 R ⟨512 + l.val, by omega⟩ * T a0 a1 a2 a3 a5 a6 R ⟨1024 + l.val, by omega⟩

theorem Z_fin (h0 : ∀ i, Fin' (a0 i)) (h1 : ∀ i, Fin' (a1 i)) (h2 : ∀ i, Fin' (a2 i)) (h3 : ∀ i, Fin' (a3 i)) (R : Fin 16384) (c : Fin 2304) :
    Fin' (Z a0 a1 a2 a3 R c) :=
  pj_fin _ _ (normRow_fin _ _ _ _ (fun _ => h0 _) (fun _ => h1 _) (fun _ => h2 _) (fun _ => h2 _)) (fun _ _ => h3 _) c

end Cert.RopeIdeal.Value
-- ==== Proof.RopeBlock.lean ====
module
public import proofs.«01_k».proof.Proof.RopeHost
public import proofs.«01_k».proof.Proof.RopeOut
public import proofs.«01_k».proof.Proof.RopeMap
public import Idealize.ShloMosaic.Lib.Pipeline.ValueKit
/-! The blocks stored at a grid point, and the five arrays after the run. -/
@[expose] public section
set_option maxRecDepth 16384
noncomputable section
namespace Cert.RopeIdeal.Value
open Cert.RopeIdeal Cert.RopeIdeal.Gen Idealize.ShloMosaic Idealize.ShloMosaic.TcCoe Idealize.SL.Sem
open Idealize.ShloMosaic.Pipeline (Dat)
open Cert.Ffn1 Cert.ProjMath Cert.RopeMath
open Cert.ProjIdeal.Value (bat)

variable (m : (ℓ : Loc nD τ sig) → Buf (Elt Ideal) ℓ)

abbrev A0 (c : Dev nD) : FVec Ideal S16384x1024 .f32 := m ((c.tc : Thread nD τ).loc main_arg0)
abbrev A1 (c : Dev nD) : FVec Ideal S2x3x1024 .f32 := m ((c.tc : Thread nD τ).loc main_arg1)
abbrev A2 (c : Dev nD) : FVec Ideal S2x2x3x3x1x1024 .f32 := m ((c.tc : Thread nD τ).loc main_arg2)
abbrev A3 (c : Dev nD) : FVec Ideal S2x1024x2304 .f32 := m ((c.tc : Thread nD τ).loc main_arg3)
abbrev A4 (c : Dev nD) : FVec Ideal S1x2x64 .f32 := m ((c.tc : Thread nD τ).loc main_arg4)
abbrev A5 (c : Dev nD) : FVec Ideal S1x3x1536 .f32 := m ((c.tc : Thread nD τ).loc main_arg5)
abbrev A6 (c : Dev nD) : FVec Ideal S1x1536 .f32 := m ((c.tc : Thread nD τ).loc main_arg6)

/-- What the weights and the modulation blocks of a grid point make of a row `x` of its batch. -/
theorem row_blk (c : Dev nD) (t : Fin cfg0.N) (x : Fin 1024 → EReal) (R : Fin 16384) (hx : x = fun e => A0 m c (ix2 R e)) (hb : t.val / 8 = (bat R).val) :
    pj (normRow x (fun e => (show FVec Ideal S1x1024 .f32 from iblk m c 1 t) (ix2 0 e)) (fun e => (show FVec Ideal S1x1x1024 .f32 from iblk m c 3 t) (ix3 0 0 e)) (fun e => (show FVec Ideal S1x1x1024 .f32 from iblk m c 2 t) (ix3 0 0 e)))
      (fun e f => (show FVec Ideal S1x1024x2304 .bf16 from iblk m c 4 t) (ix3 0 e f)) = Z (A0 m c) (A1 m c) (A2 m c) (A3 m c) R := by
  have e1 : (fun e => (show FVec Ideal S1x1024 .f32 from iblk m c 1 t) (ix2 0 e)) = fun e => A1 m c (ix3 1 1 e) := funext fun e => gain_blk m c t e
  have e2 : (fun e => (show FVec Ideal S1x1x1024 .f32 from iblk m c 2 t) (ix3 0 0 e)) = fun e => A2 m c (ix6 1 (bat R) 1 0 0 e) := funext fun e => shift_blk m c t _ hb e
  have e3 : (fun e => (show FVec Ideal S1x1x1024 .f32 from iblk m c 3 t) (ix3 0 0 e)) = fun e => A2 m c (ix6 1 (bat R) 1 1 0 e) := funext fun e => scale_blk m c t _ hb e
  have e4 : (fun e f => (show FVec Ideal S1x1024x2304 .bf16 from iblk m c 4 t) (ix3 0 e f)) = fun e f => A3 m c (ix3 1 e f) := funext fun e => funext fun f => w_blk m c t e f
  unfold Z
  exact congrArg₂ pj (congr (congr (congrArg₂ normRow hx e1) e3) e2) e4

/-- The rows of a grid point against the weight. -/
theorem z_blk (c : Dev nD) (t : Fin cfg0.N) (r : Fin 1024) (R : Fin 16384) (hR : R.val = t.val * 1024 + r.val) :
    z (iblk m c 0 t) (iblk m c 1 t) (iblk m c 2 t) (iblk m c 3 t) (iblk m c 4 t) r = Z (A0 m c) (A1 m c) (A2 m c) (A3 m c) R := by
  unfold z
  exact row_blk m c t _ R (funext fun e => x_blk m c t r e R hR) (by unfold bat; simp only; omega)

/-- The row before those of a grid point. -/
theorem zp_blk (c : Dev nD) (t : Fin cfg0.N) (R : Fin 16384) (ht : t.val % 8 ≠ 0) (hR : R.val = t.val * 1024 - 1) :
    zh (iblk m c 10 t) (iblk m c 1 t) (iblk m c 2 t) (iblk m c 3 t) (iblk m c 4 t) 15 = Z (A0 m c) (A1 m c) (A2 m c) (A3 m c) R := by
  unfold zh
  exact row_blk m c t _ R (funext fun e => xp_blk m c t e R (by omega) hR) (by unfold bat; simp only; omega)

/-- The row after those of a grid point. -/
theorem zn_blk (c : Dev nD) (t : Fin cfg0.N) (R : Fin 16384) (ht : t.val % 8 ≠ 7) (hR : R.val = t.val * 1024 + 1024) :
    zh (iblk m c 11 t) (iblk m c 1 t) (iblk m c 2 t) (iblk m c 3 t) (iblk m c 4 t) 0 = Z (A0 m c) (A1 m c) (A2 m c) (A3 m c) R := by
  unfold zh
  exact row_blk m c t _ R (funext fun e => xn_blk m c t e R hR) (by unfold bat; simp only; omega)

theorem tap_congr {a b c d e f g a' b' c' d' e' f' g' : EReal} (ha : a = a') (hb : b = b') (hc : c = c') (hd : d = d') (he : e = e') (hf : f = f') (hg : g = g') :
    tap a b c d e f g = tap a' b' c' d' e' f' g' := by
  rw [ha, hb, hc, hd, he, hf, hg]

/-- The place of row `r` of grid point `t` in its batch. -/
theorem place (t r : ℕ) (hr : r < 1024) : (t * 1024 + r) % 8192 = t % 8 * 1024 + r := by omega

theorem t_blk (c : Dev nD) (t : Fin cfg0.N) (r : Fin 1024) (l : Fin 1536) (R : Fin 16384) (hR : R.val = t.val * 1024 + r.val) :
    tz (cfg0.grid.coords t) (iblk m c 0 t) (iblk m c 1 t) (iblk m c 2 t) (iblk m c 3 t) (iblk m c 4 t) (iblk m c 10 t) (iblk m c 11 t) (iblk m c 12 t) (iblk m c 13 t) r l
      = RopeIdeal.Value.T (A0 m c) (A1 m c) (A2 m c) (A3 m c) (A5 m c) (A6 m c) R l := by
  unfold tz RopeIdeal.Value.T
  refine tap_congr ?_ ?_ ?_ ?_ ?_ ?_ ?_
  · exact taps_blk m c t 0 l
  · exact taps_blk m c t 1 l
  · exact taps_blk m c t 2 l
  · exact offs_blk m c t l
  · rw [point t]
    by_cases h0 : r.val = 0
    · rw [if_pos h0]
      by_cases h : t.val % 8 = 0
      · rw [if_pos h, if_pos (by omega)]
      · rw [if_neg h, if_neg (by omega)]
        exact congrFun (zp_blk m c t ⟨R.val - 1, by omega⟩ h (by simp only; omega)) _
    · rw [if_neg h0, if_neg (by omega)]
      exact congrFun (z_blk m c t ⟨r.val - 1, by omega⟩ ⟨R.val - 1, by omega⟩ (by simp only; omega)) _
  · exact congrFun (z_blk m c t r R hR) _
  · rw [point t]
    by_cases h0 : r.val = 1023
    · rw [dif_pos h0]
      by_cases h : t.val % 8 = 7
      · rw [if_pos h, dif_pos (by omega)]
      · rw [if_neg h, dif_neg (by omega)]
        exact congrFun (zn_blk m c t ⟨R.val + 1, by omega⟩ h (by simp only; omega)) _
    · rw [dif_neg h0, dif_neg (by omega)]
      exact congrFun (z_blk m c t ⟨r.val + 1, by omega⟩ ⟨R.val + 1, by omega⟩ (by simp only; omega)) _

theorem x0_final (c : Dev nD) : (dats m 0 c).arrAt 17 (cfgs 0).N = fun i : S16384x512.Idx => X0 (A0 m c) (A1 m c) (A2 m c) (A3 m c) (A5 m c) (A6 m c) (i 0) (i 1) := by
  refine (dats m 0 c).arrAt_eq_of_covers 17 _ (by decide +kernel) fun t _ y => ?_
  blk_simp
  rw [after0_17]
  have h0 : ((win0_17.blk t).view.emb y 0 : ℕ) = t.val * 1024 + (y 0).val := by blk_simp [idx t]
  have h1 : (win0_17.blk t).view.emb y 1 = y 1 := Fin.ext (by blk_simp [idx t])
  rw [h1, show y = ix2 (y 0) (y 1) from eq_ix2 y]
  refine (x0_at _ _ _ _ _ _ _ _ _ _ _ _ _ _ _ (y 0) (y 1)).trans ?_
  exact t_blk m c t (y 0) _ _ h0

theorem z2_final (c : Dev nD) : (dats m 0 c).arrAt 18 (cfgs 0).N = fun i : S16384x512.Idx => Z2 (A0 m c) (A1 m c) (A2 m c) (A3 m c) (A5 m c) (A6 m c) (i 0) (i 1) := by
  refine (dats m 0 c).arrAt_eq_of_covers 18 _ (by decide +kernel) fun t _ y => ?_
  blk_simp
  rw [after0_18]
  have h0 : ((win0_18.blk t).view.emb y 0 : ℕ) = t.val * 1024 + (y 0).val := by blk_simp [idx t]
  have h1 : (win0_18.blk t).view.emb y 1 = y 1 := Fin.ext (by blk_simp [idx t])
  rw [h1, show y = ix2 (y 0) (y 1) from eq_ix2 y]
  refine (z2_at _ _ _ _ _ _ _ _ _ _ _ _ _ _ _ (y 0) (y 1)).trans ?_
  exact congrArg₂ (· * ·) (t_blk m c t (y 0) _ _ h0) (t_blk m c t (y 0) _ _ h0)

theorem v_final (c : Dev nD) : (dats m 0 c).arrAt 16 (cfgs 0).N = fun i : S16384x256.Idx => W (A0 m c) (A1 m c) (A2 m c) (A3 m c) (i 0) (i 1) := by
  refine (dats m 0 c).arrAt_eq_of_covers 16 _ (by decide +kernel) fun t _ y => ?_
  blk_simp
  rw [after0_16]
  have h0 : ((win0_16.blk t).view.emb y 0 : ℕ) = t.val * 1024 + (y 0).val := by blk_simp [idx t]
  have h1 : (win0_16.blk t).view.emb y 1 = y 1 := Fin.ext (by blk_simp [idx t])
  rw [h1, show y = ix2 (y 0) (y 1) from eq_ix2 y]
  refine (v_at _ _ _ _ _ _ _ _ _ _ _ _ _ _ _ (y 0) (y 1)).trans ?_
  exact congrArg (fun Y => vv Y (y 1)) (z_blk m c t (y 0) _ h0)

/-- Finite rows, gains, modulations and weights; of the head gains, taps and offsets nothing is asked. -/
def FinArgs (c : Dev nD) : Prop :=
  (∀ i, Fin' (A0 m c i)) ∧ (∀ i, Fin' (A1 m c i)) ∧ (∀ i, Fin' (A2 m c i)) ∧ ∀ i, Fin' (A3 m c i)

theorem q_final (c : Dev nD) (hf : FinArgs m c) : (dats m 0 c).arrAt 14 (cfgs 0).N = fun i : S16384x512.Idx => Q (A0 m c) (A1 m c) (A2 m c) (A3 m c) (A4 m c) (i 0) (i 1) := by
  refine (dats m 0 c).arrAt_eq_of_covers 14 _ (by decide +kernel) fun t _ y => ?_
  blk_simp
  rw [after0_14]
  have h0 : ((win0_14.blk t).view.emb y 0 : ℕ) = t.val * 1024 + (y 0).val := by blk_simp [idx t]
  have h1 : (win0_14.blk t).view.emb y 1 = y 1 := Fin.ext (by blk_simp [idx t])
  rw [h1, show y = ix2 (y 0) (y 1) from eq_ix2 y]
  have hz := z_blk m c t (y 0) _ h0
  have hp : ((win0_14.blk t).view.emb y 0 : ℕ) % 8192 = t.val % 8 * 1024 + (y 0 : Fin 1024).val := (congrArg (· % 8192) h0).trans (place _ _ (y 0).isLt)
  refine (q_at _ _ _ _ _ _ _ _ _ _ _ _ _ _ _ (fun d => A4 m c (ix3 0 0 d)) (qg_blk m c t) (e_blk m c t) (y 0) (fun k => ?_) _ (fun k => cos_blk m c t (y 0) k) (fun k => sin_blk m c t (y 0) k) (y 1)).trans ?_
  · rw [hz]; exact Z_fin _ _ _ _ hf.1 hf.2.1 hf.2.2.1 hf.2.2.2 _ k
  · rw [hz, ← hp]; rfl

theorem k_point (c : Dev nD) (hf : FinArgs m c) (t : Fin cfg0.N) (r : Fin 1024) (l : Fin 128) (b : Fin 16) (hb : b.val = t.val) :
    out0_15 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 l r)
      = K (A0 m c) (A1 m c) (A2 m c) (A3 m c) (A4 m c) b l r := by
  have hz := z_blk m c t r ⟨b.val * 1024 + r.val, by omega⟩ (by simp only [hb])
  have hp : (b.val * 1024 + r.val) % 8192 = t.val % 8 * 1024 + r.val := by omega
  refine (k_at _ _ _ _ _ _ _ _ _ _ _ _ _ _ _ (fun d => A4 m c (ix3 0 1 d)) (kg_blk m c t) (e_blk m c t) r (fun k => ?_) _ (fun k => cos_blk m c t r k) (fun k => sin_blk m c t r k) l).trans ?_
  · rw [hz]; exact Z_fin _ _ _ _ hf.1 hf.2.1 hf.2.2.1 hf.2.2.2 _ k
  · rw [hz, ← hp]; rfl

theorem k_final (c : Dev nD) (hf : FinArgs m c) : (dats m 0 c).arrAt 15 (cfgs 0).N = fun i : S16x128x1024.Idx => K (A0 m c) (A1 m c) (A2 m c) (A3 m c) (A4 m c) (i 0) (i 1) (i 2) := by
  refine (dats m 0 c).arrAt_eq_of_covers 15 _ (by decide +kernel) fun t _ y => ?_
  blk_simp
  rw [after0_15]
  have h0 : ((win0_15.blk t).view.emb y 0 : ℕ) = t.val := by blk_simp [idx t]
  have h1 : (win0_15.blk t).view.emb y 1 = y 1 := Fin.ext (by blk_simp [idx t])
  have h2 : (win0_15.blk t).view.emb y 2 = y 2 := Fin.ext (by blk_simp [idx t])
  have hy : y = ix3 0 (y 1) (y 2) := (eq_ix3 y).trans (congrArg (fun a => ix3 a (y 1) (y 2)) (Subsingleton.elim (α := Fin 1) _ _))
  rw [h1, h2]
  refine (congrArg _ hy).trans ?_
  exact k_point m c hf t (y 2) (y 1) _ h0

end Cert.RopeIdeal.Value
-- ==== Proof.RopePre.lean ====
module
public import proofs.«01_k».proof.Proof.Gen.Pre_finite_inputs
public import proofs.«01_k».proof.Proof.AttnPre
public import proofs.«01_k».proof.Proof.ProjMath
public import Idealize.ShloMosaic.Lib.ReduceAll
public import Idealize.ShloMosaic.Lib.Pointwise
/-! The precondition read back: every row, gain, modulation and weight entry is a real number. -/
@[expose] public section
noncomputable section
namespace Cert.RopePre
open Idealize.ShloMosaic Cert.Pre_finite_inputs Cert.Pre_finite_inputs.Gen Cert.ProjMath Cert.AttnPre

instance : Subsingleton S_.Idx := ⟨fun _ _ => funext fun a => a.elim0⟩

theorem finite (a0 : FVec Ideal S16384x1024 .f32) (a1 : FVec Ideal S2x3x1024 .f32) (a2 : FVec Ideal S2x2x3x3x1x1024 .f32)
    (a3 : FVec Ideal S2x1024x2304 .f32) (a4 : FVec Ideal S1x2x64 .f32) (a5 : FVec Ideal S1x3x1536 .f32) (a6 : FVec Ideal S1x1536 .f32)
    (h : (haveI := facts; fn (F := Ideal) a0 a1 a2 a3 a4 a5 a6) = fun _ => 1#1) :
    (∀ i, Fin' (a0 i)) ∧ (∀ i, Fin' (a1 i)) ∧ (∀ i, Fin' (a2 i)) ∧ ∀ i, Fin' (a3 i) := by
  have hj := congrFun h ix0
  unfold fn fn_part1 at hj
  obtain ⟨h012, h3⟩ := IntOp.andi_eq_one.1 hj
  obtain ⟨h01, h2⟩ := IntOp.andi_eq_one.1 h012
  obtain ⟨h0, h1⟩ := IntOp.andi_eq_one.1 h01
  exact ⟨fun i => real_of_abs _ (Host.reduce_andi_all _ _ _ _ _ h0 i), fun i => real_of_abs _ (Host.reduce_andi_all _ _ _ _ _ h1 i),
    fun i => real_of_abs _ (Host.reduce_andi_all _ _ _ _ _ h2 i), fun i => real_of_abs _ (Host.reduce_andi_all _ _ _ _ _ h3 i)⟩
end Cert.RopePre
-- ==== Proof.RopeRef.lean ====
module
public import proofs.«01_k».proof.Proof.Gen.RopeRefIdeal.Run
public import proofs.«01_k».proof.Proof.RopeMap
public import Idealize.ShloMosaic.Lib.Pointwise
/-!
The reference's five composed terms, cut at named stages (rows, conditioned rows, product, heads, angles, turned heads,
convolution) and read at an index.
-/
@[expose] public section
set_option maxRecDepth 16384
noncomputable section
namespace Cert.RopeRefIdeal.Value
open Cert.RopeRefIdeal Cert.RopeRefIdeal.Gen Idealize.ShloMosaic Idealize.ShloMosaic.TcCoe Idealize.SL.Sem
open Cert.Ffn1 Cert.ProjMath Cert.RopeMath
open Cert.ProjIdeal.Value (bat)
open Cert.RopeIdeal.Value (Z Q K W X0 Z2)

/-- The frequencies. -/
def freqT : FVec Ideal S16 .f32 :=
  Host.powf (broadcastInDim S16 ![] bcast_S_S16 (constant (F := Ideal) S_ .f32 0x461C4000#32)) (Host.divf (Host.negf (addf (broadcastInDim S16 ![] bcast_S_S16 (constant (F := Ideal) S_ .f32 0x00000000#32)) (mulf (broadcastInDim S16 ![] bcast_S_S16 (constant (F := Ideal) S_ .f32 0x40000000#32)) (sitofp (F := Ideal) .f32 (iotaInDim S16 32 0))))) (broadcastInDim S16 ![] bcast_S_S16 (constant (F := Ideal) S_ .f32 0x42000000#32)))
/-- Positions against frequencies. -/
def halfT (p : IVec S128x64 32) : FVec Ideal S8192x16 .f32 :=
  mulf (broadcastInDim S8192x16 ![0, 1] bcast_S8192x1_S8192x16_0_1 (broadcastInDim S8192x1 ![0] bcast_S8192_S8192x1_0 (sitofp (F := Ideal) .f32 (shapeCast S8192 p shapeCasts_S128x64_S8192)))) (broadcastInDim S8192x16 ![0, 1] bcast_S1x16_S8192x16_0_1 (broadcastInDim S1x16 ![1] bcast_S16_S1x16_1 freqT))
def r_v79 : FVec Ideal S8192x32 .f32 :=
  concatenate S8192x32 1 [⟨S8192x16, halfT (broadcastInDim S128x64 ![0] bcast_S128_S128x64_0 (iotaInDim S128 32 0))⟩, ⟨S8192x16, halfT (broadcastInDim S128x64 ![1] bcast_S64_S128x64_1 (iotaInDim S64 32 0))⟩] concatenates_S8192x16_S8192x16_S8192x32_d1
def r_v0 (v_arg0 : FVec Ideal S16384x1024 .f32) : FVec Ideal S2x8192x1024 .f32 :=
  (shapeCast S2x8192x1024 v_arg0 shapeCasts_S16384x1024_S2x8192x1024)
def r_v3 (v_arg2 : FVec Ideal S2x2x3x3x1x1024 .f32) : FVec Ideal S2x3x3x1024 .f32 :=
  (shapeCast S2x3x3x1024 (shapeCast S2x3x3x1x1024 (extractStridedSlice S1x2x3x3x1x1024 ![1, 0, 0, 0, 0, 0] v_arg2 slices_S2x2x3x3x1x1024_S1x2x3x3x1x1024_1_0_0_0_0_0) shapeCasts_S1x2x3x3x1x1024_S2x3x3x1x1024) shapeCasts_S2x3x3x1x1024_S2x3x3x1024)
def r_v30 (v_arg1 : FVec Ideal S2x3x1024 .f32) (v_v0 : FVec Ideal S2x8192x1024 .f32) (v_v3 : FVec Ideal S2x3x3x1024 .f32) : FVec Ideal S2x8192x1024 .f32 :=
  (addf (mulf (mulf (mulf v_v0 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf v_v0 v_v0) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast S1024 (extractStridedSlice S1x1x1024 ![1, 1, 0] v_arg1 slices_S2x3x1024_S1x1x1024_1_1_0) shapeCasts_S1x1x1024_S1024)))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (shapeCast S2x1024 (extractStridedSlice S2x1x1x1024 ![0, 1, 1, 0] v_v3 slices_S2x3x3x1024_S2x1x1x1024_0_1_1_0) shapeCasts_S2x1x1x1024_S2x1024))))) (broadcastInDim S2x8192x1024 ![0, 1, 2] bcast_S2x1x1024_S2x8192x1024_0_1_2 (broadcastInDim S2x1x1024 ![0, 2] bcast_S2x1024_S2x1x1024_0_2 (shapeCast S2x1024 (extractStridedSlice S2x1x1x1024 ![0, 1, 0, 0] v_v3 slices_S2x3x3x1024_S2x1x1x1024_0_1_0_0) shapeCasts_S2x1x1x1024_S2x1024))))
def r_v33 (v_arg3 : FVec Ideal S2x1024x2304 .f32) (v_v30 : FVec Ideal S2x8192x1024 .f32) : FVec Ideal S2x8192x2304 .f32 :=
  (Host.dotGeneral dot_S2x8192x1024_S1024x2304_S2x8192x2304_2_0_01_1_n_n none v_v30 (shapeCast S1024x2304 (extractStridedSlice S1x1024x2304 ![1, 0, 0] v_arg3 slices_S2x1024x2304_S1x1024x2304_1_0_0) shapeCasts_S1x1024x2304_S1024x2304))
def r_v50 (v_arg4 : FVec Ideal S1x2x64 .f32) (v_v33 : FVec Ideal S2x8192x2304 .f32) : FVec Ideal S2x8192x8x64 .f32 :=
  (mulf (mulf (shapeCast S2x8192x8x64 (extractStridedSlice S2x8192x512 ![0, 0, 0] v_v33 slices_S2x8192x2304_S2x8192x512_0_0_0) shapeCasts_S2x8192x512_S2x8192x8x64) (broadcastInDim S2x8192x8x64 ![0, 1, 2, 3] bcast_S2x8192x8x1_S2x8192x8x64_0_1_2_3 (Host.rsqrt (addf (Host.divf (broadcastInDim S2x8192x8x1 ![0, 1, 2] bcast_S2x8192x8_S2x8192x8x1_0_1_2 (Host.reduceAdd (mulf (shapeCast S2x8192x8x64 (extractStridedSlice S2x8192x512 ![0, 0, 0] v_v33 slices_S2x8192x2304_S2x8192x512_0_0_0) shapeCasts_S2x8192x512_S2x8192x8x64) (shapeCast S2x8192x8x64 (extractStridedSlice S2x8192x512 ![0, 0, 0] v_v33 slices_S2x8192x2304_S2x8192x512_0_0_0) shapeCasts_S2x8192x512_S2x8192x8x64)) (constant S_ .f32 0x00000000#32) reducesTo_S2x8192x8x64_S2x8192x8_d3 h_S_)) (broadcastInDim S2x8192x8x1 ![] bcast_S_S2x8192x8x1 (constant S_ .f32 0x42800000#32))) (broadcastInDim S2x8192x8x1 ![] bcast_S_S2x8192x8x1 (constant S_ .f32 0x358637BD#32)))))) (broadcastInDim S2x8192x8x64 ![0, 1, 2, 3] bcast_S1x1x1x64_S2x8192x8x64_0_1_2_3 (broadcastInDim S1x1x1x64 ![3] bcast_S64_S1x1x1x64_3 (shapeCast S64 (extractStridedSlice S1x1x64 ![0, 0, 0] v_arg4 slices_S1x2x64_S1x1x64_0_0_0) shapeCasts_S1x1x64_S64))))
def r_v81 (v_v79 : FVec Ideal S8192x32 .f32) : FVec Ideal S1x8192x1x32 .f32 :=
  (broadcastInDim S1x8192x1x32 ![1, 3] bcast_S8192x32_S1x8192x1x32_1_3 (Host.cos v_v79))
def r_v83 (v_v79 : FVec Ideal S8192x32 .f32) : FVec Ideal S1x8192x1x32 .f32 :=
  (broadcastInDim S1x8192x1x32 ![1, 3] bcast_S8192x32_S1x8192x1x32_1_3 (Host.sin v_v79))
def r_v99 (v_v50 : FVec Ideal S2x8192x8x64 .f32) (v_v81 : FVec Ideal S1x8192x1x32 .f32) (v_v83 : FVec Ideal S1x8192x1x32 .f32) : FVec Ideal S2x8192x8x64 .f32 :=
  (shapeCast S2x8192x8x64 (concatenate S2x8192x8x32x2 4 [⟨S2x8192x8x32x1, (broadcastInDim S2x8192x8x32x1 ![0, 1, 2, 3] bcast_S2x8192x8x32_S2x8192x8x32x1_0_1_2_3 (subf (mulf (Host.slice S2x8192x8x32 ![0, 0, 0, 0] ![1, 1, 1, 2] v_v50 slicesBy_S2x8192x8x64_S2x8192x8x32_0s1_0s1_0s1_0s2) (broadcastInDim S2x8192x8x32 ![0, 1, 2, 3] bcast_S1x8192x1x32_S2x8192x8x32_0_1_2_3 v_v81)) (mulf (Host.slice S2x8192x8x32 ![0, 0, 0, 1] ![1, 1, 1, 2] v_v50 slicesBy_S2x8192x8x64_S2x8192x8x32_0s1_0s1_0s1_1s2) (broadcastInDim S2x8192x8x32 ![0, 1, 2, 3] bcast_S1x8192x1x32_S2x8192x8x32_0_1_2_3 v_v83))))⟩, ⟨S2x8192x8x32x1, (broadcastInDim S2x8192x8x32x1 ![0, 1, 2, 3] bcast_S2x8192x8x32_S2x8192x8x32x1_0_1_2_3 (addf (mulf (Host.slice S2x8192x8x32 ![0, 0, 0, 0] ![1, 1, 1, 2] v_v50 slicesBy_S2x8192x8x64_S2x8192x8x32_0s1_0s1_0s1_0s2) (broadcastInDim S2x8192x8x32 ![0, 1, 2, 3] bcast_S1x8192x1x32_S2x8192x8x32_0_1_2_3 v_v83)) (mulf (Host.slice S2x8192x8x32 ![0, 0, 0, 1] ![1, 1, 1, 2] v_v50 slicesBy_S2x8192x8x64_S2x8192x8x32_0s1_0s1_0s1_1s2) (broadcastInDim S2x8192x8x32 ![0, 1, 2, 3] bcast_S1x8192x1x32_S2x8192x8x32_0_1_2_3 v_v81))))⟩] concatenates_S2x8192x8x32x1_S2x8192x8x32x1_S2x8192x8x32x2_d4) shapeCasts_S2x8192x8x32x2_S2x8192x8x64)
def r_v116 (v_arg4 : FVec Ideal S1x2x64 .f32) (v_v33 : FVec Ideal S2x8192x2304 .f32) : FVec Ideal S2x8192x2x64 .f32 :=
  (mulf (mulf (shapeCast S2x8192x2x64 (extractStridedSlice S2x8192x128 ![0, 0, 512] v_v33 slices_S2x8192x2304_S2x8192x128_0_0_512) shapeCasts_S2x8192x128_S2x8192x2x64) (broadcastInDim S2x8192x2x64 ![0, 1, 2, 3] bcast_S2x8192x2x1_S2x8192x2x64_0_1_2_3 (Host.rsqrt (addf (Host.divf (broadcastInDim S2x8192x2x1 ![0, 1, 2] bcast_S2x8192x2_S2x8192x2x1_0_1_2 (Host.reduceAdd (mulf (shapeCast S2x8192x2x64 (extractStridedSlice S2x8192x128 ![0, 0, 512] v_v33 slices_S2x8192x2304_S2x8192x128_0_0_512) shapeCasts_S2x8192x128_S2x8192x2x64) (shapeCast S2x8192x2x64 (extractStridedSlice S2x8192x128 ![0, 0, 512] v_v33 slices_S2x8192x2304_S2x8192x128_0_0_512) shapeCasts_S2x8192x128_S2x8192x2x64)) (constant S_ .f32 0x00000000#32) reducesTo_S2x8192x2x64_S2x8192x2_d3 h_S_)) (broadcastInDim S2x8192x2x1 ![] bcast_S_S2x8192x2x1 (constant S_ .f32 0x42800000#32))) (broadcastInDim S2x8192x2x1 ![] bcast_S_S2x8192x2x1 (constant S_ .f32 0x358637BD#32)))))) (broadcastInDim S2x8192x2x64 ![0, 1, 2, 3] bcast_S1x1x1x64_S2x8192x2x64_0_1_2_3 (broadcastInDim S1x1x1x64 ![3] bcast_S64_S1x1x1x64_3 (shapeCast S64 (extractStridedSlice S1x1x64 ![0, 1, 0] v_arg4 slices_S1x2x64_S1x1x64_0_1_0) shapeCasts_S1x1x64_S64))))
def r_v165 (v_v116 : FVec Ideal S2x8192x2x64 .f32) (v_v147 : FVec Ideal S1x8192x1x32 .f32) (v_v149 : FVec Ideal S1x8192x1x32 .f32) : FVec Ideal S2x8192x2x64 .f32 :=
  (shapeCast S2x8192x2x64 (concatenate S2x8192x2x32x2 4 [⟨S2x8192x2x32x1, (broadcastInDim S2x8192x2x32x1 ![0, 1, 2, 3] bcast_S2x8192x2x32_S2x8192x2x32x1_0_1_2_3 (subf (mulf (Host.slice S2x8192x2x32 ![0, 0, 0, 0] ![1, 1, 1, 2] v_v116 slicesBy_S2x8192x2x64_S2x8192x2x32_0s1_0s1_0s1_0s2) (broadcastInDim S2x8192x2x32 ![0, 1, 2, 3] bcast_S1x8192x1x32_S2x8192x2x32_0_1_2_3 v_v147)) (mulf (Host.slice S2x8192x2x32 ![0, 0, 0, 1] ![1, 1, 1, 2] v_v116 slicesBy_S2x8192x2x64_S2x8192x2x32_0s1_0s1_0s1_1s2) (broadcastInDim S2x8192x2x32 ![0, 1, 2, 3] bcast_S1x8192x1x32_S2x8192x2x32_0_1_2_3 v_v149))))⟩, ⟨S2x8192x2x32x1, (broadcastInDim S2x8192x2x32x1 ![0, 1, 2, 3] bcast_S2x8192x2x32_S2x8192x2x32x1_0_1_2_3 (addf (mulf (Host.slice S2x8192x2x32 ![0, 0, 0, 0] ![1, 1, 1, 2] v_v116 slicesBy_S2x8192x2x64_S2x8192x2x32_0s1_0s1_0s1_0s2) (broadcastInDim S2x8192x2x32 ![0, 1, 2, 3] bcast_S1x8192x1x32_S2x8192x2x32_0_1_2_3 v_v149)) (mulf (Host.slice S2x8192x2x32 ![0, 0, 0, 1] ![1, 1, 1, 2] v_v116 slicesBy_S2x8192x2x64_S2x8192x2x32_0s1_0s1_0s1_1s2) (broadcastInDim S2x8192x2x32 ![0, 1, 2, 3] bcast_S1x8192x1x32_S2x8192x2x32_0_1_2_3 v_v147))))⟩] concatenates_S2x8192x2x32x1_S2x8192x2x32x1_S2x8192x2x32x2_d4) shapeCasts_S2x8192x2x32x2_S2x8192x2x64)
def r_v168 (v_v33 : FVec Ideal S2x8192x2304 .f32) : FVec Ideal S2x8192x1536 .f32 :=
  (extractStridedSlice S2x8192x1536 ![0, 0, 768] v_v33 slices_S2x8192x2304_S2x8192x1536_0_0_768)
def r_v169 (v_v168 : FVec Ideal S2x8192x1536 .f32) : FVec Ideal S2x8194x1536 .f32 :=
  (pad S2x8194x1536 ![0, 1, 0] ![0, 1, 0] ![0, 0, 0] v_v168 ((sitofp .f32) (constantI S_ 32 0#32)) pads_S2x8192x1536_S2x8194x1536_000_110_000 h_S_)
def r_v194 (v_arg5 : FVec Ideal S1x3x1536 .f32) (v_arg6 : FVec Ideal S1x1536 .f32) (v_v169 : FVec Ideal S2x8194x1536 .f32) : FVec Ideal S2x8192x1536 .f32 :=
  (addf (addf (addf (mulf (extractStridedSlice S2x8192x1536 ![0, 0, 0] v_v169 slices_S2x8194x1536_S2x8192x1536_0_0_0) (broadcastInDim S2x8192x1536 ![0, 1, 2] bcast_S1x1x1536_S2x8192x1536_0_1_2 (broadcastInDim S1x1x1536 ![2] bcast_S1536_S1x1x1536_2 (shapeCast S1536 (extractStridedSlice S1x1536 ![0, 0] (shapeCast S3x1536 v_arg5 shapeCasts_S1x3x1536_S3x1536) slices_S3x1536_S1x1536_0_0) shapeCasts_S1x1536_S1536)))) (mulf (extractStridedSlice S2x8192x1536 ![0, 1, 0] v_v169 slices_S2x8194x1536_S2x8192x1536_0_1_0) (broadcastInDim S2x8192x1536 ![0, 1, 2] bcast_S1x1x1536_S2x8192x1536_0_1_2 (broadcastInDim S1x1x1536 ![2] bcast_S1536_S1x1x1536_2 (shapeCast S1536 (extractStridedSlice S1x1536 ![1, 0] (shapeCast S3x1536 v_arg5 shapeCasts_S1x3x1536_S3x1536) slices_S3x1536_S1x1536_1_0) shapeCasts_S1x1536_S1536))))) (mulf (extractStridedSlice S2x8192x1536 ![0, 2, 0] v_v169 slices_S2x8194x1536_S2x8192x1536_0_2_0) (broadcastInDim S2x8192x1536 ![0, 1, 2] bcast_S1x1x1536_S2x8192x1536_0_1_2 (broadcastInDim S1x1x1536 ![2] bcast_S1536_S1x1x1536_2 (shapeCast S1536 (extractStridedSlice S1x1536 ![2, 0] (shapeCast S3x1536 v_arg5 shapeCasts_S1x3x1536_S3x1536) slices_S3x1536_S1x1536_2_0) shapeCasts_S1x1536_S1536))))) (broadcastInDim S2x8192x1536 ![0, 1, 2] bcast_S1x1x1536_S2x8192x1536_0_1_2 (broadcastInDim S1x1x1536 ![2] bcast_S1536_S1x1x1536_2 (shapeCast S1536 v_arg6 shapeCasts_S1x1536_S1536))))
def r_v199 : FVec Ideal S_ .f32 :=
  (Host.divf (constant S_ .f32 0x3E000000#32) (Host.log (constant S_ .f32 0x40000000#32)))
def r_v203 (v_v99 : FVec Ideal S2x8192x8x64 .f32) (v_v199 : FVec Ideal S_ .f32) : FVec Ideal S16384x512 .bf16 :=
  (truncf .bf16 (shapeCast S16384x512 (mulf v_v99 (broadcastInDim S2x8192x8x64 ![] bcast_S_S2x8192x8x64 v_v199)) shapeCasts_S2x8192x8x64_S16384x512) bitsLt_bf16_f32)
def r_v206 (v_v165 : FVec Ideal S2x8192x2x64 .f32) : FVec Ideal S16x128x1024 .bf16 :=
  (truncf .bf16 (transpose S16x128x1024 [0, 2, 1] (shapeCast S16x1024x128 v_v165 shapeCasts_S2x8192x2x64_S16x1024x128) transposes_S16x1024x128_S16x128x1024_0_2_1) bitsLt_bf16_f32)
def r_v210 (v_v33 : FVec Ideal S2x8192x2304 .f32) : FVec Ideal S16384x256 .bf16 :=
  (truncf .bf16 (shapeCast S16384x256 (concatenate S2x8192x2x128 3 [⟨S2x8192x2x64, (shapeCast S2x8192x2x64 (extractStridedSlice S2x8192x128 ![0, 0, 640] v_v33 slices_S2x8192x2304_S2x8192x128_0_0_640) shapeCasts_S2x8192x128_S2x8192x2x64)⟩, ⟨S2x8192x2x64, (broadcastInDim S2x8192x2x64 ![] bcast_S_S2x8192x2x64 (constant S_ .f32 0x3F800000#32))⟩] concatenates_S2x8192x2x64_S2x8192x2x64_S2x8192x2x128_d3) shapeCasts_S2x8192x2x128_S16384x256) bitsLt_bf16_f32)
def r_v211 (v_v194 : FVec Ideal S2x8192x1536 .f32) : FVec Ideal S16384x512 .f32 :=
  (shapeCast S16384x512 (extractStridedSlice S2x8192x512 ![0, 0, 0] v_v194 slices_S2x8192x1536_S2x8192x512_0_0_0) shapeCasts_S2x8192x512_S16384x512)
def r_v213 (v_v194 : FVec Ideal S2x8192x1536 .f32) : FVec Ideal S16384x512 .f32 :=
  (shapeCast S16384x512 (mulf (extractStridedSlice S2x8192x512 ![0, 0, 512] v_v194 slices_S2x8192x1536_S2x8192x512_0_0_512) (extractStridedSlice S2x8192x512 ![0, 0, 1024] v_v194 slices_S2x8192x1536_S2x8192x512_0_0_1024)) shapeCasts_S2x8192x512_S16384x512)

/-- The product of the conditioned rows with the weight. -/
def P (a0 : FVec Ideal S16384x1024 .f32) (a1 : FVec Ideal S2x3x1024 .f32) (a2 : FVec Ideal S2x2x3x3x1x1024 .f32)
    (a3 : FVec Ideal S2x1024x2304 .f32) : FVec Ideal S2x8192x2304 .f32 :=
  r_v33 a3 (r_v30 a1 (r_v0 a0) (r_v3 a2))

theorem r_v3_at (a2 : FVec Ideal S2x2x3x3x1x1024 .f32) (b : Fin 2) (s k : Fin 3) (e : Fin 1024) :
    r_v3 a2 (ix4 b s k e) = a2 (ix6 1 b s k 0 e) := by
  pointwise [r_v3]

theorem r_v0_at (a0 : FVec Ideal S16384x1024 .f32) (r : Fin 16384) (b : Fin 2) (s : Fin 8192)
    (hr : r.val = b.val * 8192 + s.val) (e : Fin 1024) : r_v0 a0 (ix3 b s e) = a0 (ix2 r e) := by
  have hR : r = ⟨b.val * 8192 + s.val, by omega⟩ := Fin.ext hr
  rw [hR]
  pointwise [r_v0]

theorem r_v30_at (a1 : FVec Ideal S2x3x1024 .f32) (v3 : FVec Ideal S2x3x3x1024 .f32) (x : FVec Ideal S2x8192x1024 .f32)
    (b : Fin 2) (s : Fin 8192) (e : Fin 1024) :
    r_v30 a1 x v3 (ix3 b s e) = normRow (fun e => x (ix3 b s e)) (fun e => a1 (ix3 1 1 e)) (fun e => v3 (ix4 b 1 1 e)) (fun e => v3 (ix4 b 1 0 e)) e := by
  unfold normRow
  pointwise [r_v30]

theorem r_v33_at (w : FVec Ideal S2x1024x2304 .f32) (h : FVec Ideal S2x8192x1024 .f32) (b : Fin 2) (s : Fin 8192) (c : Fin 2304) :
    r_v33 w h (ix3 b s c) = pj (fun e => h (ix3 b s e)) (fun e c => w (ix3 1 e c)) c := by
  unfold pj
  pointwise [r_v33]

theorem P_at (a0 : FVec Ideal S16384x1024 .f32) (a1 : FVec Ideal S2x3x1024 .f32) (a2 : FVec Ideal S2x2x3x3x1x1024 .f32)
    (a3 : FVec Ideal S2x1024x2304 .f32) (R : Fin 16384) (s : Fin 8192) (hs : s.val = R.val % 8192) (c : Fin 2304) :
    P a0 a1 a2 a3 (ix3 (bat R) s c) = Z a0 a1 a2 a3 R c := by
  have hr : R.val = (bat R).val * 8192 + s.val := by simp only [bat]; omega
  unfold P Z
  rw [r_v33_at]
  simp only [r_v30_at, r_v0_at a0 R _ _ hr, r_v3_at]

theorem r_v50_at (a4 : FVec Ideal S1x2x64 .f32) (y : FVec Ideal S2x8192x2304 .f32) (b : Fin 2) (s : Fin 8192) (l : Fin 512) :
    r_v50 a4 y (ix4 b s ⟨l.val / 64, by omega⟩ ⟨l.val % 64, by omega⟩) = qn (fun c => y (ix3 b s c)) (fun d => a4 (ix3 0 0 d)) l := by
  unfold qn ProjMath.inv
  have h : l.val / 64 * 64 + l.val % 64 = l.val := by omega
  pointwise [r_v50]

theorem r_v116_at (a4 : FVec Ideal S1x2x64 .f32) (y : FVec Ideal S2x8192x2304 .f32) (b : Fin 2) (s : Fin 8192) (l : Fin 128) :
    r_v116 a4 y (ix4 b s ⟨l.val / 64, by omega⟩ ⟨l.val % 64, by omega⟩) = kv (fun c => y (ix3 b s c)) (fun d => a4 (ix3 0 1 d)) l := by
  unfold kv ProjMath.inv
  have h : l.val / 64 * 64 + l.val % 64 = l.val := by omega
  pointwise [r_v116]

theorem freq_t (j : Fin 16) : freqT (ix1 j) = freq j.val := by
  unfold freq num
  pointwise [freqT]
theorem half_t (p : IVec S128x64 32) (s : Fin 8192) (j : Fin 16) :
    halfT p (ix2 s j) = FloatOps.sitofp (F := Ideal) FTy.f32 (p (ix2 ⟨s.val / 64, by omega⟩ ⟨s.val % 64, by omega⟩)) * freqT (ix1 j) := by
  pointwise [halfT]
theorem ang_t (s : Fin 8192) (p : Fin 32) : r_v79 (ix2 s p) = ang s.val p.val := by
  unfold ang num
  pointwise [r_v79, half_t, freq_t]
  by_cases h : p.val < 16
  · rw [if_pos h, dif_pos h]
  · rw [if_neg h, dif_neg h]

theorem r_v99_at (y : FVec Ideal S2x8192x8x64 .f32) (b : Fin 2) (s : Fin 8192) (l : Fin 512) :
    r_v99 y (r_v81 r_v79) (r_v83 r_v79) (ix4 b s ⟨l.val / 64, by omega⟩ ⟨l.val % 64, by omega⟩)
      = rot rfl (fun k : Fin 512 => y (ix4 b s ⟨k.val / 64, by omega⟩ ⟨k.val % 64, by omega⟩)) s.val l := by
  pointwise [r_v99, r_v81, r_v83, ang_t]
  by_cases h : l.val % 2 = 0
  · refine Eq.trans ?_ (rot_even rfl (fun k : Fin 512 => y (ix4 b s ⟨k.val / 64, by omega⟩ ⟨k.val % 64, by omega⟩)) s.val l h).symm
    rw [dif_pos (by omega)]
    refine congrArg₂ (fun a b => a * _ - b * _) ?_ ?_
    · exact congrArg (fun k => y (ix4 b s _ k)) (Fin.ext (by simp only; omega))
    · exact congrArg₂ (fun j k => y (ix4 b s j k)) (Fin.ext (by simp only; omega)) (Fin.ext (by simp only; omega))
  · refine Eq.trans ?_ (rot_odd rfl (fun k : Fin 512 => y (ix4 b s ⟨k.val / 64, by omega⟩ ⟨k.val % 64, by omega⟩)) s.val l h).symm
    rw [dif_neg (by omega)]
    refine congrArg₂ (fun a b => a * _ + b * _) ?_ ?_
    · exact congrArg₂ (fun j k => y (ix4 b s j k)) (Fin.ext (by simp only; omega)) (Fin.ext (by simp only; omega))
    · exact congrArg (fun k => y (ix4 b s _ k)) (Fin.ext (by simp only; omega))

theorem r_v165_at (y : FVec Ideal S2x8192x2x64 .f32) (b : Fin 2) (s : Fin 8192) (l : Fin 128) :
    r_v165 y (r_v81 r_v79) (r_v83 r_v79) (ix4 b s ⟨l.val / 64, by omega⟩ ⟨l.val % 64, by omega⟩)
      = rot rfl (fun k : Fin 128 => y (ix4 b s ⟨k.val / 64, by omega⟩ ⟨k.val % 64, by omega⟩)) s.val l := by
  pointwise [r_v165, r_v81, r_v83, ang_t]
  by_cases h : l.val % 2 = 0
  · refine Eq.trans ?_ (rot_even rfl (fun k : Fin 128 => y (ix4 b s ⟨k.val / 64, by omega⟩ ⟨k.val % 64, by omega⟩)) s.val l h).symm
    rw [dif_pos (by omega)]
    refine congrArg₂ (fun a b => a * _ - b * _) ?_ ?_
    · exact congrArg (fun k => y (ix4 b s _ k)) (Fin.ext (by simp only; omega))
    · exact congrArg₂ (fun j k => y (ix4 b s j k)) (Fin.ext (by simp only; omega)) (Fin.ext (by simp only; omega))
  · refine Eq.trans ?_ (rot_odd rfl (fun k : Fin 128 => y (ix4 b s ⟨k.val / 64, by omega⟩ ⟨k.val % 64, by omega⟩)) s.val l h).symm
    rw [dif_neg (by omega)]
    refine congrArg₂ (fun a b => a * _ + b * _) ?_ ?_
    · exact congrArg₂ (fun j k => y (ix4 b s j k)) (Fin.ext (by simp only; omega)) (Fin.ext (by simp only; omega))
    · exact congrArg (fun k => y (ix4 b s _ k)) (Fin.ext (by simp only; omega))

theorem r_v203_at (y : FVec Ideal S2x8192x8x64 .f32) (R : Fin 16384) (l : Fin 512) :
    r_v203 y r_v199 (ix2 R l) = y (ix4 (bat R) ⟨R.val % 8192, by omega⟩ ⟨l.val / 64, by omega⟩ ⟨l.val % 64, by omega⟩) * AttnMath.qscale := by
  unfold bat AttnMath.qscale
  pointwise [r_v203, r_v199]

theorem r_v206_at (y : FVec Ideal S2x8192x2x64 .f32) (t : Fin 16) (l : Fin 128) (r : Fin 1024) (R : Fin 16384) (hR : R.val = t.val * 1024 + r.val) :
    r_v206 y (ix3 t l r) = y (ix4 (bat R) ⟨R.val % 8192, by omega⟩ ⟨l.val / 64, by omega⟩ ⟨l.val % 64, by omega⟩) := by
  unfold bat
  pointwise [r_v206]
  have h1 : t.val / 8 = R.val / 8192 := by omega
  have h2 : t.val % 8 * 1024 + r.val = R.val % 8192 := by omega
  simp only [h1, h2]

theorem r_v210_at (y : FVec Ideal S2x8192x2304 .f32) (R : Fin 16384) (l : Fin 256) :
    r_v210 y (ix2 R l) = vv (fun c => y (ix3 (bat R) ⟨R.val % 8192, by omega⟩ c)) l := by
  unfold bat vv
  pointwise [r_v210]
  by_cases h : l.val % 128 < 64
  · rw [dif_pos h, if_pos h]
    exact congrArg (fun k => y (ix3 _ _ k)) (Fin.ext (by simp only; omega))
  · rw [dif_neg h, if_neg h]

/-- The rows with nothing before the first and after the last of each batch. -/
theorem pad_at (u : FVec Ideal S2x8192x1536 .f32) (b : Fin 2) (j : Fin 8194) (c : Fin 1536) :
    r_v169 u (ix3 b j c) = if h : 1 ≤ j.val ∧ j.val ≤ 8192 then u (ix3 b ⟨j.val - 1, by omega⟩ c) else 0 := by
  pointwise [r_v169]
  by_cases h : 1 ≤ j.val ∧ j.val ≤ 8192
  · rw [dif_pos h, dif_pos (by omega)]
  · rw [dif_neg h, dif_neg (by omega)]
    simp [FloatOps.sitofp, Ideal.ofBits]

theorem r_v194_at (a5 : FVec Ideal S1x3x1536 .f32) (a6 : FVec Ideal S1x1536 .f32) (u : FVec Ideal S2x8194x1536 .f32) (b : Fin 2) (s : Fin 8192) (c : Fin 1536) :
    r_v194 a5 a6 u (ix3 b s c) = tap (a5 (ix3 0 0 c)) (a5 (ix3 0 1 c)) (a5 (ix3 0 2 c)) (a6 (ix2 0 c))
      (u (ix3 b ⟨s.val, by omega⟩ c)) (u (ix3 b ⟨1 + s.val, by omega⟩ c)) (u (ix3 b ⟨2 + s.val, by omega⟩ c)) := by
  pointwise [r_v194]
  unfold tap
  simp only [mul_comm]
theorem r_v168_at (y : FVec Ideal S2x8192x2304 .f32) (b : Fin 2) (s : Fin 8192) (c : Fin 1536) :
    r_v168 y (ix3 b s c) = y (ix3 b s ⟨768 + c.val, by omega⟩) := by
  pointwise [r_v168]
theorem r_v211_at (y : FVec Ideal S2x8192x1536 .f32) (R : Fin 16384) (l : Fin 512) :
    r_v211 y (ix2 R l) = y (ix3 (bat R) ⟨R.val % 8192, by omega⟩ ⟨l.val, by omega⟩) := by
  unfold bat
  pointwise [r_v211]
theorem r_v213_at (y : FVec Ideal S2x8192x1536 .f32) (R : Fin 16384) (l : Fin 512) :
    r_v213 y (ix2 R l) = y (ix3 (bat R) ⟨R.val % 8192, by omega⟩ ⟨512 + l.val, by omega⟩) * y (ix3 (bat R) ⟨R.val % 8192, by omega⟩ ⟨1024 + l.val, by omega⟩) := by
  unfold bat
  pointwise [r_v213]

variable (a0 : FVec Ideal S16384x1024 .f32) (a1 : FVec Ideal S2x3x1024 .f32) (a2 : FVec Ideal S2x2x3x3x1x1024 .f32)
  (a3 : FVec Ideal S2x1024x2304 .f32) (a4 : FVec Ideal S1x2x64 .f32) (a5 : FVec Ideal S1x3x1536 .f32) (a6 : FVec Ideal S1x1536 .f32)

theorem P_row (R : Fin 16384) : (fun c => P a0 a1 a2 a3 (ix3 (bat R) ⟨R.val % 8192, by omega⟩ c)) = Z a0 a1 a2 a3 R :=
  funext fun c => P_at a0 a1 a2 a3 R _ rfl c

theorem q_at (R : Fin 16384) (l : Fin 512) :
    r_v203 (r_v99 (r_v50 a4 (P a0 a1 a2 a3)) (r_v81 r_v79) (r_v83 r_v79)) r_v199 (ix2 R l) = Q a0 a1 a2 a3 a4 R l := by
  rw [r_v203_at, r_v99_at]
  unfold Q
  simp only [r_v50_at, P_row]

theorem k_at (t : Fin 16) (l : Fin 128) (r : Fin 1024) :
    r_v206 (r_v165 (r_v116 a4 (P a0 a1 a2 a3)) (r_v81 r_v79) (r_v83 r_v79)) (ix3 t l r) = K a0 a1 a2 a3 a4 t l r := by
  rw [r_v206_at _ t l r ⟨t.val * 1024 + r.val, by omega⟩ rfl, r_v165_at]
  unfold K
  simp only [r_v116_at]
  exact congrArg (fun z => rot rfl (kv z _) _ l) (P_row a0 a1 a2 a3 ⟨t.val * 1024 + r.val, by omega⟩)

theorem v_at (R : Fin 16384) (l : Fin 256) : r_v210 (P a0 a1 a2 a3) (ix2 R l) = W a0 a1 a2 a3 R l := by
  rw [r_v210_at]
  unfold W
  simp only [P_row]

/-- The convolution. -/
def C : FVec Ideal S2x8192x1536 .f32 := r_v194 a5 a6 (r_v169 (r_v168 (P a0 a1 a2 a3)))

theorem C_at (R : Fin 16384) (c : Fin 1536) : C a0 a1 a2 a3 a5 a6 (ix3 (bat R) ⟨R.val % 8192, by omega⟩ c) = RopeIdeal.Value.T a0 a1 a2 a3 a5 a6 R c := by
  unfold C RopeIdeal.Value.T
  rw [r_v194_at, pad_at, pad_at, pad_at]
  refine congr (congrArg₂ (tap _ _ _ _) ?_ ?_) ?_
  · by_cases h : R.val % 8192 = 0
    · rw [if_pos h, dif_neg (by simp only; omega)]
    · rw [if_neg h, dif_pos (by simp only; omega), r_v168_at]
      have hb : bat R = bat ⟨R.val - 1, by omega⟩ := Fin.ext (by simp only [bat]; omega)
      rw [hb]
      exact P_at a0 a1 a2 a3 ⟨R.val - 1, by omega⟩ _ (by simp only; omega) _
  · rw [dif_pos (by simp only; omega), r_v168_at]
    exact P_at a0 a1 a2 a3 R _ (by simp only; omega) _
  · by_cases h : R.val % 8192 = 8191
    · rw [dif_pos h, dif_neg (by simp only; omega)]
    · rw [dif_neg h, dif_pos (by simp only; omega), r_v168_at]
      have hb : bat R = bat ⟨R.val + 1, by omega⟩ := Fin.ext (by simp only [bat]; omega)
      rw [hb]
      exact P_at a0 a1 a2 a3 ⟨R.val + 1, by omega⟩ _ (by simp only; omega) _

theorem x0_at (R : Fin 16384) (l : Fin 512) : r_v211 (C a0 a1 a2 a3 a5 a6) (ix2 R l) = X0 a0 a1 a2 a3 a5 a6 R l := by
  rw [r_v211_at]
  exact C_at a0 a1 a2 a3 a5 a6 R _

theorem z2_at (R : Fin 16384) (l : Fin 512) : r_v213 (C a0 a1 a2 a3 a5 a6) (ix2 R l) = Z2 a0 a1 a2 a3 a5 a6 R l := by
  rw [r_v213_at]
  exact congrArg₂ (· * ·) (C_at a0 a1 a2 a3 a5 a6 R _) (C_at a0 a1 a2 a3 a5 a6 R _)

end Cert.RopeRefIdeal.Value
-- ==== Proof.RopeClaim.lean ====
module
public import proofs.«01_k».proof.Defs
public import proofs.«01_k».proof.Proof.RopeBlock
public import proofs.«01_k».proof.Proof.RopePre
public import proofs.«01_k».proof.Proof.RopeRef
public import Idealize.ShloMosaic.Lib.Claim
/-! The value claim: both programs' five results are the same functions of the same arguments. -/
@[expose] public section
set_option maxRecDepth 16384
noncomputable section
namespace Cert.RopeClaim
open Idealize.ShloMosaic Idealize.SL.Sem

theorem algebraic : Cert.algebraic_RopeIdeal_RopeRefIdeal_pre_finite_inputs (hRopeIdeal := Cert.RopeIdeal.Gen.facts) (hRopeRefIdeal := Cert.RopeRefIdeal.Gen.facts)
    (hPre_finite_inputs := Cert.Pre_finite_inputs.Gen.facts) := by
  pair_intro
  · run_from Cert.RopeIdeal.Value.run_blocks m g
  · run_from Cert.RopeRefIdeal.Value.run m' g'
    all_goals have hp : Cert.RopeIdeal.Value.FinArgs m c := Cert.RopePre.finite _ _ _ _ _ _ _ (‹Cert.Pre_RopeIdeal_finite_inputs m› c)
    · refine Eq.trans ?_ (Cert.RopeIdeal.Value.q_final m c hp).symm
      funext i
      rw [show i = ix2 (i 0) (i 1) from eq_ix2 i]
      refine (Cert.RopeRefIdeal.Value.q_at _ _ _ _ _ (i 0) (i 1)).trans ?_
      obtain ⟨h0, h1, h2, h3, h4, h5, h6⟩ := hagree c
      simp only [h0, h1, h2, h3, h4, h5, h6]
      rfl
    · refine Eq.trans ?_ (Cert.RopeIdeal.Value.k_final m c hp).symm
      funext i
      rw [show i = ix3 (i 0) (i 1) (i 2) from eq_ix3 i]
      refine (Cert.RopeRefIdeal.Value.k_at _ _ _ _ _ (i 0) (i 1) (i 2)).trans ?_
      obtain ⟨h0, h1, h2, h3, h4, h5, h6⟩ := hagree c
      simp only [h0, h1, h2, h3, h4, h5, h6]
      rfl
    · refine Eq.trans ?_ (Cert.RopeIdeal.Value.v_final m c).symm
      funext i
      rw [show i = ix2 (i 0) (i 1) from eq_ix2 i]
      refine (Cert.RopeRefIdeal.Value.v_at _ _ _ _ (i 0) (i 1)).trans ?_
      obtain ⟨h0, h1, h2, h3, h4, h5, h6⟩ := hagree c
      simp only [h0, h1, h2, h3, h4, h5, h6]
      rfl
    · refine Eq.trans ?_ (Cert.RopeIdeal.Value.x0_final m c).symm
      funext i
      rw [show i = ix2 (i 0) (i 1) from eq_ix2 i]
      refine (Cert.RopeRefIdeal.Value.x0_at _ _ _ _ _ _ (i 0) (i 1)).trans ?_
      obtain ⟨h0, h1, h2, h3, h4, h5, h6⟩ := hagree c
      simp only [h0, h1, h2, h3, h4, h5, h6]
      rfl
    · refine Eq.trans ?_ (Cert.RopeIdeal.Value.z2_final m c).symm
      funext i
      rw [show i = ix2 (i 0) (i 1) from eq_ix2 i]
      refine (Cert.RopeRefIdeal.Value.z2_at _ _ _ _ _ _ (i 0) (i 1)).trans ?_
      obtain ⟨h0, h1, h2, h3, h4, h5, h6⟩ := hagree c
      simp only [h0, h1, h2, h3, h4, h5, h6]
      rfl
end Cert.RopeClaim
-- ==== Proof.lean ====
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Half
public import proofs.«01_k».proof.Proof.Gen.Half.Skeleton
public import proofs.«01_k».proof.Proof.Gen.Half.Launch
public import proofs.«01_k».proof.Proof.Gen.Half.Points
public import proofs.«01_k».proof.Proof.Gen.Half.Frame
public import proofs.«01_k».proof.Proof.Gen.HalfIdeal
public import proofs.«01_k».proof.Proof.Gen.HalfIdeal.Skeleton
public import proofs.«01_k».proof.Proof.Gen.HalfIdeal.Launch
public import proofs.«01_k».proof.Proof.Gen.HalfIdeal.Points
public import proofs.«01_k».proof.Proof.Gen.HalfIdeal.Frame
public import proofs.«01_k».proof.Proof.Gen.HalfRefIdeal
public import proofs.«01_k».proof.Proof.Gen.AttnIdeal.Value
public import proofs.«01_k».proof.Proof.Gen.FfnIdeal.Value
public import proofs.«01_k».proof.Proof.Gen.HalfIdeal.Value
public import proofs.«01_k».proof.Proof.Gen.AttnRefIdeal.Run
public import proofs.«01_k».proof.Proof.Gen.FfnRefIdeal.Run
public import proofs.«01_k».proof.Proof.Gen.HalfRefIdeal.Run
public import proofs.«01_k».proof.Proof.Gen.Pre_finite_scores
public import proofs.«01_k».proof.Proof.AttnClaim
public import proofs.«01_k».proof.Proof.Gen.Pre_finite_rows
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal.Run
public import proofs.«01_k».proof.Proof.Gen.Pre_finite_inputs
public import proofs.«01_k».proof.Proof.Gen.Rope.Frame
public import proofs.«01_k».proof.Proof.Gen.RopeIdeal.Frame
public import proofs.«01_k».proof.Proof.Gen.RopeIdeal.Value
public import proofs.«01_k».proof.Proof.Gen.RopeRefIdeal.Run
public import proofs.«01_k».proof.Proof.FfnClaim
public import proofs.«01_k».proof.Proof.HalfClaim
public import proofs.«01_k».proof.Proof.ProjClaim
public import proofs.«01_k».proof.Proof.RopeClaim
public import Idealize.ShloMosaic.Lib.Claim
public import Idealize.ShloMosaic.Adequacy
public import Idealize.ShloMosaic.Init

@[expose] public section

noncomputable section

namespace Cert.Proof

open Idealize.ShloMosaic Idealize.SL.Sem

theorem claim : Cert.Claim := ⟨Cert.Attn.Gen.facts, Cert.AttnIdeal.Gen.facts, Cert.AttnRefIdeal.Gen.facts, Cert.Ffn.Gen.facts, Cert.FfnIdeal.Gen.facts, Cert.FfnRefIdeal.Gen.facts, Cert.Half.Gen.facts, Cert.HalfIdeal.Gen.facts, Cert.HalfRefIdeal.Gen.facts, Cert.Proj.Gen.facts, Cert.ProjIdeal.Gen.facts, Cert.ProjRefIdeal.Gen.facts, Cert.Rope.Gen.facts, Cert.RopeIdeal.Gen.facts, Cert.RopeRefIdeal.Gen.facts, Cert.Pre_finite_scores.Gen.facts, Cert.Pre_finite_rows.Gen.facts, Cert.Pre_finite_inputs.Gen.facts,
  fun m g _ => Cert.Attn.Gen.frame m g, fun m g _ => Cert.AttnIdeal.Gen.frame m g, fun m g _ => Cert.AttnIdeal.Gen.frame m g, fun m g _ => (θ_run _ _ _).mono (fun r h => ⟨fun c => (h c).2, sem_eq_zero_of_no_sems rfl r.2⟩) (Cert.AttnRefIdeal.Value.run m g),
  fun m g _ => (θ_run _ _ _).mono (fun r h => ⟨fun c => (h c).2, sem_eq_zero_of_no_sems rfl r.2⟩) (Cert.AttnRefIdeal.Value.run m g),
  fun m g _ => Cert.Ffn.Gen.frame m g, fun m g _ => Cert.FfnIdeal.Gen.frame m g, fun m g _ => (θ_run _ _ _).mono (fun r h => ⟨fun c => (h c).2, sem_eq_zero_of_no_sems rfl r.2⟩) (Cert.FfnRefIdeal.Value.run m g),
  fun m g _ => Cert.Half.Gen.frame m g, fun m g _ => Cert.HalfIdeal.Gen.frame m g, fun m g _ => (θ_run _ _ _).mono (fun r h => ⟨fun c => (h c).2, sem_eq_zero_of_no_sems rfl r.2⟩) (Cert.HalfRefIdeal.Value.run m g),
  fun m g _ => Cert.Proj.Gen.frame m g, fun m g _ => Cert.ProjIdeal.Gen.frame m g, fun m g _ => Cert.ProjIdeal.Gen.frame m g,
  fun m g _ => (θ_run _ _ _).mono (fun r h => ⟨fun c => (h c).2.2.2.2, sem_eq_zero_of_no_sems rfl r.2⟩) (Cert.ProjRefIdeal.Value.run m g),
  fun m g _ => (θ_run _ _ _).mono (fun r h => ⟨fun c => (h c).2.2.2.2, sem_eq_zero_of_no_sems rfl r.2⟩) (Cert.ProjRefIdeal.Value.run m g),
  fun m g _ => Cert.Rope.Gen.frame m g, fun m g _ => Cert.RopeIdeal.Gen.frame m g, fun m g _ => Cert.RopeIdeal.Gen.frame m g,
  fun m g _ => (θ_run _ _ _).mono (fun r h => ⟨fun c => (h c).2.2.2.2.2, sem_eq_zero_of_no_sems rfl r.2⟩) (Cert.RopeRefIdeal.Value.run m g),
  fun m g _ => (θ_run _ _ _).mono (fun r h => ⟨fun c => (h c).2.2.2.2.2, sem_eq_zero_of_no_sems rfl r.2⟩) (Cert.RopeRefIdeal.Value.run m g),
  trivial, Cert.AttnClaim.algebraic, trivial, Cert.FfnClaim.algebraic, trivial, Cert.HalfClaim.algebraic, trivial, Cert.ProjClaim.algebraic,
  IdealRules.named_const.statement Cert.RopeIdeal.κ "score_scale" .f32 0x3E38AA3B#32 (((1 / 8) * (Real.log 2)⁻¹ : ℝ) : EReal) rfl, Cert.RopeClaim.algebraic⟩

end Cert.Proof

end
